-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v230)) (v1 : (c : Dev Cert.KernelIdeal.nD) → Buf (Elt Ideal) ((c.tc : Thread Cert.KernelIdeal.nD Cert.KernelIdeal.τ).loc Cert.KernelIdeal.main_v232)) (v2 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v230) = v0 c
          ∧ r.2.mem ((c.tc : Thread Cert.KernelIdeal.nD Cert.KernelIdeal.τ).loc Cert.KernelIdeal.main_v232) = v1 c
          ∧ r.2.mem ((c.tc : Thread Cert.KernelIdeal.nD Cert.KernelIdeal.τ).loc Cert.KernelIdeal.main_v39) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v437) = v0 c
          ∧ r.2.mem ((c.tc : Thread Cert.ReferenceIdeal.nD Cert.ReferenceIdeal.τ).loc Cert.ReferenceIdeal.main_v483) = v1 c
          ∧ r.2.mem ((c.tc : Thread Cert.ReferenceIdeal.nD Cert.ReferenceIdeal.τ).loc Cert.ReferenceIdeal.main_v238) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x2x256x256 : Shape := ⟨4, ![8, 2, 256, 256]⟩
abbrev S128x2x4x4 : Shape := ⟨4, ![128, 2, 4, 4]⟩
abbrev S256x128x4x4 : Shape := ⟨4, ![256, 128, 4, 4]⟩
abbrev S256x256x3x3 : Shape := ⟨4, ![256, 256, 3, 3]⟩
abbrev S256x256x1x1 : Shape := ⟨4, ![256, 256, 1, 1]⟩
abbrev S1024x256 : Shape := ⟨2, ![1024, 256]⟩
abbrev S128x256x3x3 : Shape := ⟨4, ![128, 256, 3, 3]⟩
abbrev S64x128x3x3 : Shape := ⟨4, ![64, 128, 3, 3]⟩
abbrev S2x64x3x3 : Shape := ⟨4, ![2, 64, 3, 3]⟩
abbrev S_ : Shape := ⟨0, ![]⟩

class Facts : Prop where
  bcast_S_S8x2x256x256 : S_.BroadcastsInDim S8x2x256x256 (![] : Fin 0 → Fin S8x2x256x256.rank)
  reducesTo_S8x2x256x256_S_d0_1_2_3 : S8x2x256x256.ReducesTo [0, 1, 2, 3] S_
  h_S_ : 0 < S_.numel
  bcast_S_S128x2x4x4 : S_.BroadcastsInDim S128x2x4x4 (![] : Fin 0 → Fin S128x2x4x4.rank)
  reducesTo_S128x2x4x4_S_d0_1_2_3 : S128x2x4x4.ReducesTo [0, 1, 2, 3] S_
  bcast_S_S256x128x4x4 : S_.BroadcastsInDim S256x128x4x4 (![] : Fin 0 → Fin S256x128x4x4.rank)
  reducesTo_S256x128x4x4_S_d0_1_2_3 : S256x128x4x4.ReducesTo [0, 1, 2, 3] S_
  bcast_S_S256x256x3x3 : S_.BroadcastsInDim S256x256x3x3 (![] : Fin 0 → Fin S256x256x3x3.rank)
  reducesTo_S256x256x3x3_S_d0_1_2_3 : S256x256x3x3.ReducesTo [0, 1, 2, 3] S_
  bcast_S_S256x256x1x1 : S_.BroadcastsInDim S256x256x1x1 (![] : Fin 0 → Fin S256x256x1x1.rank)
  reducesTo_S256x256x1x1_S_d0_1_2_3 : S256x256x1x1.ReducesTo [0, 1, 2, 3] S_
  bcast_S_S1024x256 : S_.BroadcastsInDim S1024x256 (![] : Fin 0 → Fin S1024x256.rank)
  reducesTo_S1024x256_S_d0_1 : S1024x256.ReducesTo [0, 1] S_
  bcast_S_S128x256x3x3 : S_.BroadcastsInDim S128x256x3x3 (![] : Fin 0 → Fin S128x256x3x3.rank)
  reducesTo_S128x256x3x3_S_d0_1_2_3 : S128x256x3x3.ReducesTo [0, 1, 2, 3] S_
  bcast_S_S64x128x3x3 : S_.BroadcastsInDim S64x128x3x3 (![] : Fin 0 → Fin S64x128x3x3.rank)
  reducesTo_S64x128x3x3_S_d0_1_2_3 : S64x128x3x3.ReducesTo [0, 1, 2, 3] S_

variable [Facts]

def fn_part2 {F : FTy → Type} [FloatOps F] (main_arg7 : FVec F S256x256x3x3 .f32) (main_arg8 : FVec F S128x256x3x3 .f32) (main_arg9 : FVec F S64x128x3x3 .f32) (main_v33 : IVec S_ 1) : IVec S_ 1 :=
  let main_v34 : FVec F S256x256x3x3 .f32 := Host.absf main_arg7
  let main_cst_12 : FVec F S_ .f32 := constant S_ .f32 0x7F800000#32
  let main_v35 : FVec F S256x256x3x3 .f32 := broadcastInDim S256x256x3x3 ![] bcast_S_S256x256x3x3 main_cst_12
  let main_v36 : IVec S256x256x3x3 1 := cmpf .olt main_v34 main_v35
  let main_c_13 : IVec S_ 1 := constantI S_ 1 1#1
  let main_v37 : IVec S_ 1 := (fun x v => Host.reduce IntOp.andi x v reducesTo_S256x256x3x3_S_d0_1_2_3 h_S_) main_v36 main_c_13
  let main_v38 : IVec S_ 1 := andi main_v33 main_v37
  let main_v39 : FVec F S128x256x3x3 .f32 := Host.absf main_arg8
  let main_cst_14 : FVec F S_ .f32 := constant S_ .f32 0x7F800000#32
  let main_v40 : FVec F S128x256x3x3 .f32 := broadcastInDim S128x256x3x3 ![] bcast_S_S128x256x3x3 main_cst_14
  let main_v41 : IVec S128x256x3x3 1 := cmpf .olt main_v39 main_v40
  let main_c_15 : IVec S_ 1 := constantI S_ 1 1#1
  let main_v42 : IVec S_ 1 := (fun x v => Host.reduce IntOp.andi x v reducesTo_S128x256x3x3_S_d0_1_2_3 h_S_) main_v41 main_c_15
  let main_v43 : IVec S_ 1 := andi main_v38 main_v42
  let main_v44 : FVec F S64x128x3x3 .f32 := Host.absf main_arg9
  let main_cst_16 : FVec F S_ .f32 := constant S_ .f32 0x7F800000#32
  let main_v45 : FVec F S64x128x3x3 .f32 := broadcastInDim S64x128x3x3 ![] bcast_S_S64x128x3x3 main_cst_16
  let main_v46 : IVec S64x128x3x3 1 := cmpf .olt main_v44 main_v45
  let main_c_17 : IVec S_ 1 := constantI S_ 1 1#1
  let main_v47 : IVec S_ 1 := (fun x v => Host.reduce IntOp.andi x v reducesTo_S64x128x3x3_S_d0_1_2_3 h_S_) main_v46 main_c_17
  let main_v48 : IVec S_ 1 := andi main_v43 main_v47
  main_v48

def fn_part1 {F : FTy → Type} [FloatOps F] (main_arg4 : FVec F S256x256x1x1 .f32) (main_arg5 : FVec F S1024x256 .f32) (main_arg6 : FVec F S256x256x1x1 .f32) (main_arg7 : FVec F S256x256x3x3 .f32) (main_arg8 : FVec F S128x256x3x3 .f32) (main_arg9 : FVec F S64x128x3x3 .f32) (main_v13 : IVec S_ 1) (main_v16 : IVec S256x256x3x3 1) : IVec S_ 1 :=
  let main_c_5 : IVec S_ 1 := constantI S_ 1 1#1
  let main_v17 : IVec S_ 1 := (fun x v => Host.reduce IntOp.andi x v reducesTo_S256x256x3x3_S_d0_1_2_3 h_S_) main_v16 main_c_5
  let main_v18 : IVec S_ 1 := andi main_v13 main_v17
  let main_v19 : FVec F S256x256x1x1 .f32 := Host.absf main_arg4
  let main_cst_6 : FVec F S_ .f32 := constant S_ .f32 0x7F800000#32
  let main_v20 : FVec F S256x256x1x1 .f32 := broadcastInDim S256x256x1x1 ![] bcast_S_S256x256x1x1 main_cst_6
  let main_v21 : IVec S256x256x1x1 1 := cmpf .olt main_v19 main_v20
  let main_c_7 : IVec S_ 1 := constantI S_ 1 1#1
  let main_v22 : IVec S_ 1 := (fun x v => Host.reduce IntOp.andi x v reducesTo_S256x256x1x1_S_d0_1_2_3 h_S_) main_v21 main_c_7
  let main_v23 : IVec S_ 1 := andi main_v18 main_v22
  let main_v24 : FVec F S1024x256 .f32 := Host.absf main_arg5
  let main_cst_8 : FVec F S_ .f32 := constant S_ .f32 0x7F800000#32
  let main_v25 : FVec F S1024x256 .f32 := broadcastInDim S1024x256 ![] bcast_S_S1024x256 main_cst_8
  let main_v26 : IVec S1024x256 1 := cmpf .olt main_v24 main_v25
  let main_c_9 : IVec S_ 1 := constantI S_ 1 1#1
  let main_v27 : IVec S_ 1 := (fun x v => Host.reduce IntOp.andi x v reducesTo_S1024x256_S_d0_1 h_S_) main_v26 main_c_9
  let main_v28 : IVec S_ 1 := andi main_v23 main_v27
  let main_v29 : FVec F S256x256x1x1 .f32 := Host.absf main_arg6
  let main_cst_10 : FVec F S_ .f32 := constant S_ .f32 0x7F800000#32
  let main_v30 : FVec F S256x256x1x1 .f32 := broadcastInDim S256x256x1x1 ![] bcast_S_S256x256x1x1 main_cst_10
  let main_v31 : IVec S256x256x1x1 1 := cmpf .olt main_v29 main_v30
  let main_c_11 : IVec S_ 1 := constantI S_ 1 1#1
  let main_v32 : IVec S_ 1 := (fun x v => Host.reduce IntOp.andi x v reducesTo_S256x256x1x1_S_d0_1_2_3 h_S_) main_v31 main_c_11
  let main_v33 : IVec S_ 1 := andi main_v28 main_v32
  fn_part2 (F := F) main_arg7 main_arg8 main_arg9 main_v33

def fn {F : FTy → Type} [FloatOps F] (main_arg0 : FVec F S8x2x256x256 .f32) (main_arg1 : FVec F S128x2x4x4 .f32) (main_arg2 : FVec F S256x128x4x4 .f32) (main_arg3 : FVec F S256x256x3x3 .f32) (main_arg4 : FVec F S256x256x1x1 .f32) (main_arg5 : FVec F S1024x256 .f32) (main_arg6 : FVec F S256x256x1x1 .f32) (main_arg7 : FVec F S256x256x3x3 .f32) (main_arg8 : FVec F S128x256x3x3 .f32) (main_arg9 : FVec F S64x128x3x3 .f32) (main_arg10 : FVec F S2x64x3x3 .f32) (main_arg11 : FVec F S2x64x3x3 .f32) : IVec S_ 1 :=
  let main_v0 : FVec F S8x2x256x256 .f32 := Host.absf main_arg0
  let main_cst : FVec F S_ .f32 := constant S_ .f32 0x7F800000#32
  let main_v1 : FVec F S8x2x256x256 .f32 := broadcastInDim S8x2x256x256 ![] bcast_S_S8x2x256x256 main_cst
  let main_v2 : IVec S8x2x256x256 1 := cmpf .olt main_v0 main_v1
  let main_c : IVec S_ 1 := constantI S_ 1 1#1
  let main_v3 : IVec S_ 1 := (fun x v => Host.reduce IntOp.andi x v reducesTo_S8x2x256x256_S_d0_1_2_3 h_S_) main_v2 main_c
  let main_v4 : FVec F S128x2x4x4 .f32 := Host.absf main_arg1
  let main_cst_0 : FVec F S_ .f32 := constant S_ .f32 0x7F800000#32
  let main_v5 : FVec F S128x2x4x4 .f32 := broadcastInDim S128x2x4x4 ![] bcast_S_S128x2x4x4 main_cst_0
  let main_v6 : IVec S128x2x4x4 1 := cmpf .olt main_v4 main_v5
  let main_c_1 : IVec S_ 1 := constantI S_ 1 1#1
  let main_v7 : IVec S_ 1 := (fun x v => Host.reduce IntOp.andi x v reducesTo_S128x2x4x4_S_d0_1_2_3 h_S_) main_v6 main_c_1
  let main_v8 : IVec S_ 1 := andi main_v3 main_v7
  let main_v9 : FVec F S256x128x4x4 .f32 := Host.absf main_arg2
  let main_cst_2 : FVec F S_ .f32 := constant S_ .f32 0x7F800000#32
  let main_v10 : FVec F S256x128x4x4 .f32 := broadcastInDim S256x128x4x4 ![] bcast_S_S256x128x4x4 main_cst_2
  let main_v11 : IVec S256x128x4x4 1 := cmpf .olt main_v9 main_v10
  let main_c_3 : IVec S_ 1 := constantI S_ 1 1#1
  let main_v12 : IVec S_ 1 := (fun x v => Host.reduce IntOp.andi x v reducesTo_S256x128x4x4_S_d0_1_2_3 h_S_) main_v11 main_c_3
  let main_v13 : IVec S_ 1 := andi main_v8 main_v12
  let main_v14 : FVec F S256x256x3x3 .f32 := Host.absf main_arg3
  let main_cst_4 : FVec F S_ .f32 := constant S_ .f32 0x7F800000#32
  let main_v15 : FVec F S256x256x3x3 .f32 := broadcastInDim S256x256x3x3 ![] bcast_S_S256x256x3x3 main_cst_4
  let main_v16 : IVec S256x256x3x3 1 := cmpf .olt main_v14 main_v15
  fn_part1 (F := F) main_arg4 main_arg5 main_arg6 main_arg7 main_arg8 main_arg9 main_v13 main_v16
-- ==== Kernel.lean ====
abbrev S8x2x256x256 : Shape := ⟨4, ![8, 2, 256, 256]⟩
abbrev S128x2x4x4 : Shape := ⟨4, ![128, 2, 4, 4]⟩
abbrev S256x128x4x4 : Shape := ⟨4, ![256, 128, 4, 4]⟩
abbrev S256x256x3x3 : Shape := ⟨4, ![256, 256, 3, 3]⟩
abbrev S256x256x1x1 : Shape := ⟨4, ![256, 256, 1, 1]⟩
abbrev S1024x256 : Shape := ⟨2, ![1024, 256]⟩
abbrev S128x256x3x3 : Shape := ⟨4, ![128, 256, 3, 3]⟩
abbrev S64x128x3x3 : Shape := ⟨4, ![64, 128, 3, 3]⟩
abbrev S2x64x3x3 : Shape := ⟨4, ![2, 64, 3, 3]⟩
abbrev S8x256x256x2 : Shape := ⟨4, ![8, 256, 256, 2]⟩
abbrev S_ : Shape := ⟨0, ![]⟩
abbrev S8x258x258x2 : Shape := ⟨4, ![8, 258, 258, 2]⟩
abbrev S8x129x2x129x2x2 : Shape := ⟨6, ![8, 129, 2, 129, 2, 2]⟩
abbrev S8x129x129x2x2x2 : Shape := ⟨6, ![8, 129, 129, 2, 2, 2]⟩
abbrev S8x129x129x8 : Shape := ⟨4, ![8, 129, 129, 8]⟩
abbrev S4x4x2x128 : Shape := ⟨4, ![4, 4, 2, 128]⟩
abbrev S2x2x2x2x2x128 : Shape := ⟨6, ![2, 2, 2, 2, 2, 128]⟩
abbrev S2x2x8x128 : Shape := ⟨4, ![2, 2, 8, 128]⟩
abbrev S8x128x129x8 : Shape := ⟨4, ![8, 128, 129, 8]⟩
abbrev S8x128x128x128 : Shape := ⟨4, ![8, 128, 128, 128]⟩
abbrev S1x16x129x8 : Shape := ⟨4, ![1, 16, 129, 8]⟩
abbrev S1x16x128x128 : Shape := ⟨4, ![1, 16, 128, 128]⟩
abbrev S2048x128 : Shape := ⟨2, ![2048, 128]⟩
abbrev S16x129x8 : Shape := ⟨3, ![16, 129, 8]⟩
abbrev S16x128x8 : Shape := ⟨3, ![16, 128, 8]⟩
abbrev S2048x8 : Shape := ⟨2, ![2048, 8]⟩
abbrev S1x1x8x128 : Shape := ⟨4, ![1, 1, 8, 128]⟩
abbrev S8x128 : Shape := ⟨2, ![8, 128]⟩
abbrev S16x128x128 : Shape := ⟨3, ![16, 128, 128]⟩
abbrev S8x130x130x128 : Shape := ⟨4, ![8, 130, 130, 128]⟩
abbrev S8x65x2x65x2x128 : Shape := ⟨6, ![8, 65, 2, 65, 2, 128]⟩
abbrev S8x65x65x2x2x128 : Shape := ⟨6, ![8, 65, 65, 2, 2, 128]⟩
abbrev S8x65x65x512 : Shape := ⟨4, ![8, 65, 65, 512]⟩
abbrev S4x4x128x256 : Shape := ⟨4, ![4, 4, 128, 256]⟩
abbrev S2x2x2x2x128x256 : Shape := ⟨6, ![2, 2, 2, 2, 128, 256]⟩
abbrev S2x2x512x256 : Shape := ⟨4, ![2, 2, 512, 256]⟩
abbrev S8x64x65x512 : Shape := ⟨4, ![8, 64, 65, 512]⟩
abbrev S8x64x64x256 : Shape := ⟨4, ![8, 64, 64, 256]⟩
abbrev S1x16x65x512 : Shape := ⟨4, ![1, 16, 65, 512]⟩
abbrev S1x16x64x256 : Shape := ⟨4, ![1, 16, 64, 256]⟩
abbrev S16x65x512 : Shape := ⟨3, ![16, 65, 512]⟩
abbrev S16x64x512 : Shape := ⟨3, ![16, 64, 512]⟩
abbrev S1024x512 : Shape := ⟨2, ![1024, 512]⟩
abbrev S1x1x512x256 : Shape := ⟨4, ![1, 1, 512, 256]⟩
abbrev S512x256 : Shape := ⟨2, ![512, 256]⟩
abbrev S16x64x256 : Shape := ⟨3, ![16, 64, 256]⟩
abbrev S3x3x256x256 : Shape := ⟨4, ![3, 3, 256, 256]⟩
abbrev S8x66x66x256 : Shape := ⟨4, ![8, 66, 66, 256]⟩
abbrev S8x64x66x256 : Shape := ⟨4, ![8, 64, 66, 256]⟩
abbrev S1x16x66x256 : Shape := ⟨4, ![1, 16, 66, 256]⟩
abbrev S16x66x256 : Shape := ⟨3, ![16, 66, 256]⟩
abbrev S1x1x256x256 : Shape := ⟨4, ![1, 1, 256, 256]⟩
abbrev S256x256 : Shape := ⟨2, ![256, 256]⟩
abbrev S32768x256 : Shape := ⟨2, ![32768, 256]⟩
abbrev S32x1x128 : Shape := ⟨3, ![32, 1, 128]⟩
abbrev S1x1x128 : Shape := ⟨3, ![1, 1, 128]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩
abbrev S1x1024x256 : Shape := ⟨3, ![1, 1024, 256]⟩
abbrev S1 : Shape := ⟨1, ![1]⟩
abbrev S1x1x1 : Shape := ⟨3, ![1, 1, 1]⟩
abbrev S128 : Shape := ⟨1, ![128]⟩
abbrev S32x1x1 : Shape := ⟨3, ![32, 1, 1]⟩
abbrev S32 : Shape := ⟨1, ![32]⟩
abbrev S3x3x256x128 : Shape := ⟨4, ![3, 3, 256, 128]⟩
abbrev S1x3x256x128 : Shape := ⟨4, ![1, 3, 256, 128]⟩
abbrev S3x256x128 : Shape := ⟨3, ![3, 256, 128]⟩
abbrev S2x3x256x128 : Shape := ⟨4, ![2, 3, 256, 128]⟩
abbrev S2x1x256x128 : Shape := ⟨4, ![2, 1, 256, 128]⟩
abbrev S2x256x128 : Shape := ⟨3, ![2, 256, 128]⟩
abbrev S2x2x256x128 : Shape := ⟨4, ![2, 2, 256, 128]⟩
abbrev S1x2x2x256x128 : Shape := ⟨5, ![1, 2, 2, 256, 128]⟩
abbrev S2x2x2x256x128 : Shape := ⟨5, ![2, 2, 2, 256, 128]⟩
abbrev S1x2x2x2x256x128 : Shape := ⟨6, ![1, 2, 2, 2, 256, 128]⟩
abbrev S2x2x2x2x256x128 : Shape := ⟨6, ![2, 2, 2, 2, 256, 128]⟩
abbrev S8x64x64x128 : Shape := ⟨4, ![8, 64, 64, 128]⟩
abbrev S1x16x64x128 : Shape := ⟨4, ![1, 16, 64, 128]⟩
abbrev S1024x128 : Shape := ⟨2, ![1024, 128]⟩
abbrev S1x1x1x1x256x128 : Shape := ⟨6, ![1, 1, 1, 1, 256, 128]⟩
abbrev S256x128 : Shape := ⟨2, ![256, 128]⟩
abbrev S16x64x128 : Shape := ⟨3, ![16, 64, 128]⟩
abbrev S8x64x64x1x128 : Shape := ⟨5, ![8, 64, 64, 1, 128]⟩
abbrev S8x64x64x2x128 : Shape := ⟨5, ![8, 64, 64, 2, 128]⟩
abbrev S8x64x1x64x2x128 : Shape := ⟨6, ![8, 64, 1, 64, 2, 128]⟩
abbrev S8x64x2x64x2x128 : Shape := ⟨6, ![8, 64, 2, 64, 2, 128]⟩
abbrev S3x3x128x64 : Shape := ⟨4, ![3, 3, 128, 64]⟩
abbrev S1x3x128x64 : Shape := ⟨4, ![1, 3, 128, 64]⟩
abbrev S3x128x64 : Shape := ⟨3, ![3, 128, 64]⟩
abbrev S2x3x128x64 : Shape := ⟨4, ![2, 3, 128, 64]⟩
abbrev S2x1x128x64 : Shape := ⟨4, ![2, 1, 128, 64]⟩
abbrev S2x128x64 : Shape := ⟨3, ![2, 128, 64]⟩
abbrev S2x2x128x64 : Shape := ⟨4, ![2, 2, 128, 64]⟩
abbrev S1x2x2x128x64 : Shape := ⟨5, ![1, 2, 2, 128, 64]⟩
abbrev S2x2x2x128x64 : Shape := ⟨5, ![2, 2, 2, 128, 64]⟩
abbrev S1x2x2x2x128x64 : Shape := ⟨6, ![1, 2, 2, 2, 128, 64]⟩
abbrev S2x2x2x2x128x64 : Shape := ⟨6, ![2, 2, 2, 2, 128, 64]⟩
abbrev S8x128x130x128 : Shape := ⟨4, ![8, 128, 130, 128]⟩
abbrev S8x128x128x64 : Shape := ⟨4, ![8, 128, 128, 64]⟩
abbrev S1x16x130x128 : Shape := ⟨4, ![1, 16, 130, 128]⟩
abbrev S1x16x128x64 : Shape := ⟨4, ![1, 16, 128, 64]⟩
abbrev S2048x64 : Shape := ⟨2, ![2048, 64]⟩
abbrev S16x130x128 : Shape := ⟨3, ![16, 130, 128]⟩
abbrev S1x1x1x1x128x64 : Shape := ⟨6, ![1, 1, 1, 1, 128, 64]⟩
abbrev S128x64 : Shape := ⟨2, ![128, 64]⟩
abbrev S16x128x64 : Shape := ⟨3, ![16, 128, 64]⟩
abbrev S8x128x128x1x64 : Shape := ⟨5, ![8, 128, 128, 1, 64]⟩
abbrev S8x128x128x2x64 : Shape := ⟨5, ![8, 128, 128, 2, 64]⟩
abbrev S8x128x1x128x2x64 : Shape := ⟨6, ![8, 128, 1, 128, 2, 64]⟩
abbrev S8x128x2x128x2x64 : Shape := ⟨6, ![8, 128, 2, 128, 2, 64]⟩
abbrev S8x256x256x64 : Shape := ⟨4, ![8, 256, 256, 64]⟩
abbrev S4x64x3x3 : Shape := ⟨4, ![4, 64, 3, 3]⟩
abbrev S3x3x64x4 : Shape := ⟨4, ![3, 3, 64, 4]⟩
abbrev S3x3x64x8 : Shape := ⟨4, ![3, 3, 64, 8]⟩
abbrev S8x258x258x64 : Shape := ⟨4, ![8, 258, 258, 64]⟩
abbrev S8x256x258x64 : Shape := ⟨4, ![8, 256, 258, 64]⟩
abbrev S8x256x256x8 : Shape := ⟨4, ![8, 256, 256, 8]⟩
abbrev S1x16x258x64 : Shape := ⟨4, ![1, 16, 258, 64]⟩
abbrev S1x16x256x8 : Shape := ⟨4, ![1, 16, 256, 8]⟩
abbrev S4096x8 : Shape := ⟨2, ![4096, 8]⟩
abbrev S16x258x64 : Shape := ⟨3, ![16, 258, 64]⟩
abbrev S16x256x64 : Shape := ⟨3, ![16, 256, 64]⟩
abbrev S4096x64 : Shape := ⟨2, ![4096, 64]⟩
abbrev S1x1x64x8 : Shape := ⟨4, ![1, 1, 64, 8]⟩
abbrev S64x8 : Shape := ⟨2, ![64, 8]⟩
abbrev S16x256x8 : Shape := ⟨3, ![16, 256, 8]⟩

abbrev nBuf : Space → Nat
  | .hbm => 271
  | .vmem => 88
  | .smem => 0
  | _ => 0

abbrev hbmTy0_0 (i : Nat) : BufTy := match i % 128 with
  | 0 => ⟨S8x2x256x256, .f32⟩
  | 1 => ⟨S128x2x4x4, .f32⟩
  | 2 => ⟨S256x128x4x4, .f32⟩
  | 3 => ⟨S256x256x3x3, .f32⟩
  | 4 => ⟨S256x256x1x1, .f32⟩
  | 5 => ⟨S1024x256, .f32⟩
  | 6 => ⟨S256x256x1x1, .f32⟩
  | 7 => ⟨S256x256x3x3, .f32⟩
  | 8 => ⟨S128x256x3x3, .f32⟩
  | 9 => ⟨S64x128x3x3, .f32⟩
  | 10 => ⟨S2x64x3x3, .f32⟩
  | 11 => ⟨S2x64x3x3, .f32⟩
  | 12 => ⟨S8x256x256x2, .f32⟩
  | 13 => ⟨S_, .i32⟩
  | 14 => ⟨S_, .f32⟩
  | 15 => ⟨S8x258x258x2, .f32⟩
  | 16 => ⟨S8x129x2x129x2x2, .f32⟩
  | 17 => ⟨S8x129x129x2x2x2, .f32⟩
  | 18 => ⟨S8x129x129x8, .f32⟩
  | 19 => ⟨S4x4x2x128, .f32⟩
  | 20 => ⟨S2x2x2x2x2x128, .f32⟩
  | 21 => ⟨S2x2x2x2x2x128, .f32⟩
  | 22 => ⟨S2x2x8x128, .f32⟩
  | 23 => ⟨S8x128x129x8, .f32⟩
  | 24 => ⟨S8x128x129x8, .f32⟩
  | 25 => ⟨S8x128x128x128, .f32⟩
  | 26 => ⟨S_, .i32⟩
  | 27 => ⟨S_, .f32⟩
  | 28 => ⟨S8x130x130x128, .f32⟩
  | 29 => ⟨S8x65x2x65x2x128, .f32⟩
  | 30 => ⟨S8x65x65x2x2x128, .f32⟩
  | 31 => ⟨S8x65x65x512, .f32⟩
  | 32 => ⟨S4x4x128x256, .f32⟩
  | 33 => ⟨S2x2x2x2x128x256, .f32⟩
  | 34 => ⟨S2x2x2x2x128x256, .f32⟩
  | 35 => ⟨S2x2x512x256, .f32⟩
  | 36 => ⟨S8x64x65x512, .f32⟩
  | 37 => ⟨S8x64x65x512, .f32⟩
  | 38 => ⟨S8x64x64x256, .f32⟩
  | 39 => ⟨S3x3x256x256, .f32⟩
  | 40 => ⟨S_, .i32⟩
  | 41 => ⟨S_, .f32⟩
  | 42 => ⟨S8x66x66x256, .f32⟩
  | 43 => ⟨S8x64x66x256, .f32⟩
  | 44 => ⟨S8x64x66x256, .f32⟩
  | 45 => ⟨S8x64x66x256, .f32⟩
  | 46 => ⟨S8x64x64x256, .f32⟩
  | 47 => ⟨S256x256, .f32⟩
  | 48 => ⟨S256x256, .f32⟩
  | 49 => ⟨S1x1x256x256, .f32⟩
  | 50 => ⟨S8x64x64x256, .f32⟩
  | 51 => ⟨S32768x256, .f32⟩
  | 52 => ⟨S32768x256, .f32⟩
  | 53 => ⟨S32x1x128, .f32⟩
  | 54 => ⟨S32x1x1, .f32⟩
  | 55 => ⟨S32, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S8x64x64x256, .f32⟩
  | 63 => ⟨S256x256, .f32⟩
  | 64 => ⟨S256x256, .f32⟩
  | 65 => ⟨S1x1x256x256, .f32⟩
  | 66 => ⟨S8x64x64x256, .f32⟩
  | 67 => ⟨S3x3x256x256, .f32⟩
  | 68 => ⟨S_, .i32⟩
  | 69 => ⟨S_, .f32⟩
  | 70 => ⟨S8x66x66x256, .f32⟩
  | 71 => ⟨S8x64x66x256, .f32⟩
  | 72 => ⟨S8x64x66x256, .f32⟩
  | 73 => ⟨S8x64x66x256, .f32⟩
  | 74 => ⟨S8x64x64x256, .f32⟩
  | 75 => ⟨S3x3x256x128, .f32⟩
  | 76 => ⟨S1x3x256x128, .f32⟩
  | 77 => ⟨S3x256x128, .f32⟩
  | 78 => ⟨S1x3x256x128, .f32⟩
  | 79 => ⟨S3x256x128, .f32⟩
  | 80 => ⟨S1x3x256x128, .f32⟩
  | 81 => ⟨S3x256x128, .f32⟩
  | 82 => ⟨S3x256x128, .f32⟩
  | 83 => ⟨S1x3x256x128, .f32⟩
  | 84 => ⟨S1x3x256x128, .f32⟩
  | 85 => ⟨S2x3x256x128, .f32⟩
  | 86 => ⟨S1x3x256x128, .f32⟩
  | 87 => ⟨S3x256x128, .f32⟩
  | 88 => ⟨S1x3x256x128, .f32⟩
  | 89 => ⟨S3x256x128, .f32⟩
  | 90 => ⟨S3x256x128, .f32⟩
  | 91 => ⟨S1x3x256x128, .f32⟩
  | 92 => ⟨S3x256x128, .f32⟩
  | 93 => ⟨S1x3x256x128, .f32⟩
  | 94 => ⟨S1x3x256x128, .f32⟩
  | 95 => ⟨S2x3x256x128, .f32⟩
  | 96 => ⟨S2x1x256x128, .f32⟩
  | 97 => ⟨S2x256x128, .f32⟩
  | 98 => ⟨S2x1x256x128, .f32⟩
  | 99 => ⟨S2x256x128, .f32⟩
  | 100 => ⟨S2x1x256x128, .f32⟩
  | 101 => ⟨S2x256x128, .f32⟩
  | 102 => ⟨S2x256x128, .f32⟩
  | 103 => ⟨S2x1x256x128, .f32⟩
  | 104 => ⟨S2x1x256x128, .f32⟩
  | 105 => ⟨S2x2x256x128, .f32⟩
  | 106 => ⟨S2x1x256x128, .f32⟩
  | 107 => ⟨S2x256x128, .f32⟩
  | 108 => ⟨S2x1x256x128, .f32⟩
  | 109 => ⟨S2x256x128, .f32⟩
  | 110 => ⟨S2x256x128, .f32⟩
  | 111 => ⟨S2x1x256x128, .f32⟩
  | 112 => ⟨S2x256x128, .f32⟩
  | 113 => ⟨S2x1x256x128, .f32⟩
  | 114 => ⟨S2x1x256x128, .f32⟩
  | 115 => ⟨S2x2x256x128, .f32⟩
  | 116 => ⟨S1x2x2x256x128, .f32⟩
  | 117 => ⟨S1x2x2x256x128, .f32⟩
  | 118 => ⟨S2x2x2x256x128, .f32⟩
  | 119 => ⟨S2x1x256x128, .f32⟩
  | 120 => ⟨S2x256x128, .f32⟩
  | 121 => ⟨S2x1x256x128, .f32⟩
  | 122 => ⟨S2x256x128, .f32⟩
  | 123 => ⟨S2x1x256x128, .f32⟩
  | 124 => ⟨S2x256x128, .f32⟩
  | 125 => ⟨S2x256x128, .f32⟩
  | 126 => ⟨S2x1x256x128, .f32⟩
  | 127 => ⟨S2x1x256x128, .f32⟩
  | _ => ⟨S8x2x256x256, .f32⟩

abbrev hbmTy0_1 (i : Nat) : BufTy := match i % 128 with
  | 0 => ⟨S2x2x256x128, .f32⟩
  | 1 => ⟨S2x1x256x128, .f32⟩
  | 2 => ⟨S2x256x128, .f32⟩
  | 3 => ⟨S2x1x256x128, .f32⟩
  | 4 => ⟨S2x256x128, .f32⟩
  | 5 => ⟨S2x256x128, .f32⟩
  | 6 => ⟨S2x1x256x128, .f32⟩
  | 7 => ⟨S2x256x128, .f32⟩
  | 8 => ⟨S2x1x256x128, .f32⟩
  | 9 => ⟨S2x1x256x128, .f32⟩
  | 10 => ⟨S2x2x256x128, .f32⟩
  | 11 => ⟨S1x2x2x256x128, .f32⟩
  | 12 => ⟨S1x2x2x256x128, .f32⟩
  | 13 => ⟨S2x2x2x256x128, .f32⟩
  | 14 => ⟨S1x2x2x2x256x128, .f32⟩
  | 15 => ⟨S1x2x2x2x256x128, .f32⟩
  | 16 => ⟨S2x2x2x2x256x128, .f32⟩
  | 17 => ⟨S_, .i32⟩
  | 18 => ⟨S_, .f32⟩
  | 19 => ⟨S8x66x66x256, .f32⟩
  | 20 => ⟨S8x64x66x256, .f32⟩
  | 21 => ⟨S8x64x66x256, .f32⟩
  | 22 => ⟨S8x64x66x256, .f32⟩
  | 23 => ⟨S8x64x64x128, .f32⟩
  | 24 => ⟨S8x64x64x128, .f32⟩
  | 25 => ⟨S8x64x64x128, .f32⟩
  | 26 => ⟨S8x64x64x128, .f32⟩
  | 27 => ⟨S8x64x64x1x128, .f32⟩
  | 28 => ⟨S8x64x64x1x128, .f32⟩
  | 29 => ⟨S8x64x64x2x128, .f32⟩
  | 30 => ⟨S8x64x64x1x128, .f32⟩
  | 31 => ⟨S8x64x64x1x128, .f32⟩
  | 32 => ⟨S8x64x64x2x128, .f32⟩
  | 33 => ⟨S8x64x1x64x2x128, .f32⟩
  | 34 => ⟨S8x64x1x64x2x128, .f32⟩
  | 35 => ⟨S8x64x2x64x2x128, .f32⟩
  | 36 => ⟨S8x128x128x128, .f32⟩
  | 37 => ⟨S3x3x128x64, .f32⟩
  | 38 => ⟨S1x3x128x64, .f32⟩
  | 39 => ⟨S3x128x64, .f32⟩
  | 40 => ⟨S1x3x128x64, .f32⟩
  | 41 => ⟨S3x128x64, .f32⟩
  | 42 => ⟨S1x3x128x64, .f32⟩
  | 43 => ⟨S3x128x64, .f32⟩
  | 44 => ⟨S3x128x64, .f32⟩
  | 45 => ⟨S1x3x128x64, .f32⟩
  | 46 => ⟨S1x3x128x64, .f32⟩
  | 47 => ⟨S2x3x128x64, .f32⟩
  | 48 => ⟨S1x3x128x64, .f32⟩
  | 49 => ⟨S3x128x64, .f32⟩
  | 50 => ⟨S1x3x128x64, .f32⟩
  | 51 => ⟨S3x128x64, .f32⟩
  | 52 => ⟨S3x128x64, .f32⟩
  | 53 => ⟨S1x3x128x64, .f32⟩
  | 54 => ⟨S3x128x64, .f32⟩
  | 55 => ⟨S1x3x128x64, .f32⟩
  | 56 => ⟨S1x3x128x64, .f32⟩
  | 57 => ⟨S2x3x128x64, .f32⟩
  | 58 => ⟨S2x1x128x64, .f32⟩
  | 59 => ⟨S2x128x64, .f32⟩
  | 60 => ⟨S2x1x128x64, .f32⟩
  | 61 => ⟨S2x128x64, .f32⟩
  | 62 => ⟨S2x1x128x64, .f32⟩
  | 63 => ⟨S2x128x64, .f32⟩
  | 64 => ⟨S2x128x64, .f32⟩
  | 65 => ⟨S2x1x128x64, .f32⟩
  | 66 => ⟨S2x1x128x64, .f32⟩
  | 67 => ⟨S2x2x128x64, .f32⟩
  | 68 => ⟨S2x1x128x64, .f32⟩
  | 69 => ⟨S2x128x64, .f32⟩
  | 70 => ⟨S2x1x128x64, .f32⟩
  | 71 => ⟨S2x128x64, .f32⟩
  | 72 => ⟨S2x128x64, .f32⟩
  | 73 => ⟨S2x1x128x64, .f32⟩
  | 74 => ⟨S2x128x64, .f32⟩
  | 75 => ⟨S2x1x128x64, .f32⟩
  | 76 => ⟨S2x1x128x64, .f32⟩
  | 77 => ⟨S2x2x128x64, .f32⟩
  | 78 => ⟨S1x2x2x128x64, .f32⟩
  | 79 => ⟨S1x2x2x128x64, .f32⟩
  | 80 => ⟨S2x2x2x128x64, .f32⟩
  | 81 => ⟨S2x1x128x64, .f32⟩
  | 82 => ⟨S2x128x64, .f32⟩
  | 83 => ⟨S2x1x128x64, .f32⟩
  | 84 => ⟨S2x128x64, .f32⟩
  | 85 => ⟨S2x1x128x64, .f32⟩
  | 86 => ⟨S2x128x64, .f32⟩
  | 87 => ⟨S2x128x64, .f32⟩
  | 88 => ⟨S2x1x128x64, .f32⟩
  | 89 => ⟨S2x1x128x64, .f32⟩
  | 90 => ⟨S2x2x128x64, .f32⟩
  | 91 => ⟨S2x1x128x64, .f32⟩
  | 92 => ⟨S2x128x64, .f32⟩
  | 93 => ⟨S2x1x128x64, .f32⟩
  | 94 => ⟨S2x128x64, .f32⟩
  | 95 => ⟨S2x128x64, .f32⟩
  | 96 => ⟨S2x1x128x64, .f32⟩
  | 97 => ⟨S2x128x64, .f32⟩
  | 98 => ⟨S2x1x128x64, .f32⟩
  | 99 => ⟨S2x1x128x64, .f32⟩
  | 100 => ⟨S2x2x128x64, .f32⟩
  | 101 => ⟨S1x2x2x128x64, .f32⟩
  | 102 => ⟨S1x2x2x128x64, .f32⟩
  | 103 => ⟨S2x2x2x128x64, .f32⟩
  | 104 => ⟨S1x2x2x2x128x64, .f32⟩
  | 105 => ⟨S1x2x2x2x128x64, .f32⟩
  | 106 => ⟨S2x2x2x2x128x64, .f32⟩
  | 107 => ⟨S_, .i32⟩
  | 108 => ⟨S_, .f32⟩
  | 109 => ⟨S8x130x130x128, .f32⟩
  | 110 => ⟨S8x128x130x128, .f32⟩
  | 111 => ⟨S8x128x130x128, .f32⟩
  | 112 => ⟨S8x128x130x128, .f32⟩
  | 113 => ⟨S8x128x128x64, .f32⟩
  | 114 => ⟨S8x128x128x64, .f32⟩
  | 115 => ⟨S8x128x128x64, .f32⟩
  | 116 => ⟨S8x128x128x64, .f32⟩
  | 117 => ⟨S8x128x128x1x64, .f32⟩
  | 118 => ⟨S8x128x128x1x64, .f32⟩
  | 119 => ⟨S8x128x128x2x64, .f32⟩
  | 120 => ⟨S8x128x128x1x64, .f32⟩
  | 121 => ⟨S8x128x128x1x64, .f32⟩
  | 122 => ⟨S8x128x128x2x64, .f32⟩
  | 123 => ⟨S8x128x1x128x2x64, .f32⟩
  | 124 => ⟨S8x128x1x128x2x64, .f32⟩
  | 125 => ⟨S8x128x2x128x2x64, .f32⟩
  | 126 => ⟨S8x256x256x64, .f32⟩
  | 127 => ⟨S4x64x3x3, .f32⟩
  | _ => ⟨S8x2x256x256, .f32⟩

abbrev hbmTy0_2 (i : Nat) : BufTy := match i % 128 with
  | 0 => ⟨S3x3x64x4, .f32⟩
  | 1 => ⟨S_, .i32⟩
  | 2 => ⟨S_, .f32⟩
  | 3 => ⟨S3x3x64x8, .f32⟩
  | 4 => ⟨S_, .i32⟩
  | 5 => ⟨S_, .f32⟩
  | 6 => ⟨S8x258x258x64, .f32⟩
  | 7 => ⟨S8x256x258x64, .f32⟩
  | 8 => ⟨S8x256x258x64, .f32⟩
  | 9 => ⟨S8x256x258x64, .f32⟩
  | 10 => ⟨S8x256x256x8, .f32⟩
  | 11 => ⟨S8x256x256x2, .f32⟩
  | 12 => ⟨S8x2x256x256, .f32⟩
  | 13 => ⟨S8x256x256x2, .f32⟩
  | 14 => ⟨S8x2x256x256, .f32⟩
  | _ => ⟨S8x2x256x256, .f32⟩

abbrev hbmTy (i : Nat) : BufTy := match i / 128 with
  | 0 => hbmTy0_0 i
  | 1 => hbmTy0_1 i
  | 2 => hbmTy0_2 i
  | _ => ⟨S8x2x256x256, .f32⟩

abbrev bufTy : (tb : Table) → Fin (tcTables nBuf tb) → BufTy
  | .hbm, ⟨i, _⟩ => hbmTy i
  | .local _ .vmem, ⟨0, _⟩ => ⟨S1x16x129x8, .f32⟩
  | .local _ .vmem, ⟨1, _⟩ => ⟨S1x16x129x8, .f32⟩
  | .local _ .vmem, ⟨2, _⟩ => ⟨S1x16x129x8, .f32⟩
  | .local _ .vmem, ⟨3, _⟩ => ⟨S1x16x129x8, .f32⟩
  | .local _ .vmem, ⟨4, _⟩ => ⟨S2x2x8x128, .f32⟩
  | .local _ .vmem, ⟨5, _⟩ => ⟨S1x16x128x128, .f32⟩
  | .local _ .vmem, ⟨6, _⟩ => ⟨S1x16x128x128, .f32⟩
  | .local _ .vmem, ⟨7, _⟩ => ⟨S1x16x65x512, .f32⟩
  | .local _ .vmem, ⟨8, _⟩ => ⟨S1x16x65x512, .f32⟩
  | .local _ .vmem, ⟨9, _⟩ => ⟨S1x16x65x512, .f32⟩
  | .local _ .vmem, ⟨10, _⟩ => ⟨S1x16x65x512, .f32⟩
  | .local _ .vmem, ⟨11, _⟩ => ⟨S2x2x512x256, .f32⟩
  | .local _ .vmem, ⟨12, _⟩ => ⟨S1x16x64x256, .f32⟩
  | .local _ .vmem, ⟨13, _⟩ => ⟨S1x16x64x256, .f32⟩
  | .local _ .vmem, ⟨14, _⟩ => ⟨S1x16x66x256, .f32⟩
  | .local _ .vmem, ⟨15, _⟩ => ⟨S1x16x66x256, .f32⟩
  | .local _ .vmem, ⟨16, _⟩ => ⟨S1x16x66x256, .f32⟩
  | .local _ .vmem, ⟨17, _⟩ => ⟨S1x16x66x256, .f32⟩
  | .local _ .vmem, ⟨18, _⟩ => ⟨S1x16x66x256, .f32⟩
  | .local _ .vmem, ⟨19, _⟩ => ⟨S1x16x66x256, .f32⟩
  | .local _ .vmem, ⟨20, _⟩ => ⟨S3x3x256x256, .f32⟩
  | .local _ .vmem, ⟨21, _⟩ => ⟨S1x16x64x256, .f32⟩
  | .local _ .vmem, ⟨22, _⟩ => ⟨S1x16x64x256, .f32⟩
  | .local _ .vmem, ⟨23, _⟩ => ⟨S1x16x64x256, .f32⟩
  | .local _ .vmem, ⟨24, _⟩ => ⟨S1x16x64x256, .f32⟩
  | .local _ .vmem, ⟨25, _⟩ => ⟨S1x1x256x256, .f32⟩
  | .local _ .vmem, ⟨26, _⟩ => ⟨S1x16x64x256, .f32⟩
  | .local _ .vmem, ⟨27, _⟩ => ⟨S1x16x64x256, .f32⟩
  | .local _ .vmem, ⟨28, _⟩ => ⟨S1024x256, .f32⟩
  | .local _ .vmem, ⟨29, _⟩ => ⟨S1024x256, .f32⟩
  | .local _ .vmem, ⟨30, _⟩ => ⟨S1024x256, .f32⟩
  | .local _ .vmem, ⟨31, _⟩ => ⟨S1024x256, .f32⟩
  | .local _ .vmem, ⟨32, _⟩ => ⟨S1024x256, .f32⟩
  | .local _ .vmem, ⟨33, _⟩ => ⟨S1x1x128, .f32⟩
  | .local _ .vmem, ⟨34, _⟩ => ⟨S1x1x128, .f32⟩
  | .local _ .vmem, ⟨35, _⟩ => ⟨S1x16x64x256, .f32⟩
  | .local _ .vmem, ⟨36, _⟩ => ⟨S1x16x64x256, .f32⟩
  | .local _ .vmem, ⟨37, _⟩ => ⟨S1x1x256x256, .f32⟩
  | .local _ .vmem, ⟨38, _⟩ => ⟨S1x16x64x256, .f32⟩
  | .local _ .vmem, ⟨39, _⟩ => ⟨S1x16x64x256, .f32⟩
  | .local _ .vmem, ⟨40, _⟩ => ⟨S1x16x66x256, .f32⟩
  | .local _ .vmem, ⟨41, _⟩ => ⟨S1x16x66x256, .f32⟩
  | .local _ .vmem, ⟨42, _⟩ => ⟨S1x16x66x256, .f32⟩
  | .local _ .vmem, ⟨43, _⟩ => ⟨S1x16x66x256, .f32⟩
  | .local _ .vmem, ⟨44, _⟩ => ⟨S1x16x66x256, .f32⟩
  | .local _ .vmem, ⟨45, _⟩ => ⟨S1x16x66x256, .f32⟩
  | .local _ .vmem, ⟨46, _⟩ => ⟨S3x3x256x256, .f32⟩
  | .local _ .vmem, ⟨47, _⟩ => ⟨S1x16x64x256, .f32⟩
  | .local _ .vmem, ⟨48, _⟩ => ⟨S1x16x64x256, .f32⟩
  | .local _ .vmem, ⟨49, _⟩ => ⟨S1x16x66x256, .f32⟩
  | .local _ .vmem, ⟨50, _⟩ => ⟨S1x16x66x256, .f32⟩
  | .local _ .vmem, ⟨51, _⟩ => ⟨S1x16x66x256, .f32⟩
  | .local _ .vmem, ⟨52, _⟩ => ⟨S1x16x66x256, .f32⟩
  | .local _ .vmem, ⟨53, _⟩ => ⟨S1x16x66x256, .f32⟩
  | .local _ .vmem, ⟨54, _⟩ => ⟨S1x16x66x256, .f32⟩
  | .local _ .vmem, ⟨55, _⟩ => ⟨S2x2x2x2x256x128, .f32⟩
  | .local _ .vmem, ⟨56, _⟩ => ⟨S1x16x64x128, .f32⟩
  | .local _ .vmem, ⟨57, _⟩ => ⟨S1x16x64x128, .f32⟩
  | .local _ .vmem, ⟨58, _⟩ => ⟨S1x16x64x128, .f32⟩
  | .local _ .vmem, ⟨59, _⟩ => ⟨S1x16x64x128, .f32⟩
  | .local _ .vmem, ⟨60, _⟩ => ⟨S1x16x64x128, .f32⟩
  | .local _ .vmem, ⟨61, _⟩ => ⟨S1x16x64x128, .f32⟩
  | .local _ .vmem, ⟨62, _⟩ => ⟨S1x16x64x128, .f32⟩
  | .local _ .vmem, ⟨63, _⟩ => ⟨S1x16x64x128, .f32⟩
  | .local _ .vmem, ⟨64, _⟩ => ⟨S1x16x130x128, .f32⟩
  | .local _ .vmem, ⟨65, _⟩ => ⟨S1x16x130x128, .f32⟩
  | .local _ .vmem, ⟨66, _⟩ => ⟨S1x16x130x128, .f32⟩
  | .local _ .vmem, ⟨67, _⟩ => ⟨S1x16x130x128, .f32⟩
  | .local _ .vmem, ⟨68, _⟩ => ⟨S1x16x130x128, .f32⟩
  | .local _ .vmem, ⟨69, _⟩ => ⟨S1x16x130x128, .f32⟩
  | .local _ .vmem, ⟨70, _⟩ => ⟨S2x2x2x2x128x64, .f32⟩
  | .local _ .vmem, ⟨71, _⟩ => ⟨S1x16x128x64, .f32⟩
  | .local _ .vmem, ⟨72, _⟩ => ⟨S1x16x128x64, .f32⟩
  | .local _ .vmem, ⟨73, _⟩ => ⟨S1x16x128x64, .f32⟩
  | .local _ .vmem, ⟨74, _⟩ => ⟨S1x16x128x64, .f32⟩
  | .local _ .vmem, ⟨75, _⟩ => ⟨S1x16x128x64, .f32⟩
  | .local _ .vmem, ⟨76, _⟩ => ⟨S1x16x128x64, .f32⟩
  | .local _ .vmem, ⟨77, _⟩ => ⟨S1x16x128x64, .f32⟩
  | .local _ .vmem, ⟨78, _⟩ => ⟨S1x16x128x64, .f32⟩
  | .local _ .vmem, ⟨79, _⟩ => ⟨S1x16x258x64, .f32⟩
  | .local _ .vmem, ⟨80, _⟩ => ⟨S1x16x258x64, .f32⟩
  | .local _ .vmem, ⟨81, _⟩ => ⟨S1x16x258x64, .f32⟩
  | .local _ .vmem, ⟨82, _⟩ => ⟨S1x16x258x64, .f32⟩
  | .local _ .vmem, ⟨83, _⟩ => ⟨S1x16x258x64, .f32⟩
  | .local _ .vmem, ⟨84, _⟩ => ⟨S1x16x258x64, .f32⟩
  | .local _ .vmem, ⟨85, _⟩ => ⟨S3x3x64x8, .f32⟩
  | .local _ .vmem, ⟨86, _⟩ => ⟨S1x16x256x8, .f32⟩
  | .local _ .vmem, ⟨87, _⟩ => ⟨S1x16x256x8, .f32⟩
  | _, _ => ⟨S8x2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_call1_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_1 : Ref sig .tc := ⟨.hbm, 40, rfl⟩
abbrev main_call2_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34_0 : Ref sig .tc := ⟨.hbm, 52, rfl⟩
abbrev main_v34_1 : Ref sig .tc := ⟨.hbm, 53, rfl⟩
abbrev main_v35 : Ref sig .tc := ⟨.hbm, 54, rfl⟩
abbrev main_v36 : Ref sig .tc := ⟨.hbm, 55, rfl⟩
abbrev main_cst : Ref sig .tc := ⟨.hbm, 56, rfl⟩
abbrev main_v37 : Ref sig .tc := ⟨.hbm, 57, rfl⟩
abbrev main_cst_2 : Ref sig .tc := ⟨.hbm, 58, rfl⟩
abbrev main_v38 : Ref sig .tc := ⟨.hbm, 59, rfl⟩
abbrev main_cst_3 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_4 : Ref sig .tc := ⟨.hbm, 68, rfl⟩
abbrev main_call3_v0 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_c_5 : Ref sig .tc := ⟨.hbm, 145, rfl⟩
abbrev main_call4_v0 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125_0 : Ref sig .tc := ⟨.hbm, 151, rfl⟩
abbrev main_v125_1 : Ref sig .tc := ⟨.hbm, 152, rfl⟩
abbrev main_v125_2 : Ref sig .tc := ⟨.hbm, 153, rfl⟩
abbrev main_v125_3 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_c_6 : Ref sig .tc := ⟨.hbm, 235, rfl⟩
abbrev main_call5_v0 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210_0 : Ref sig .tc := ⟨.hbm, 241, rfl⟩
abbrev main_v210_1 : Ref sig .tc := ⟨.hbm, 242, rfl⟩
abbrev main_v210_2 : Ref sig .tc := ⟨.hbm, 243, rfl⟩
abbrev main_v210_3 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_c_7 : Ref sig .tc := ⟨.hbm, 257, rfl⟩
abbrev main_call6_v0 : Ref sig .tc := ⟨.hbm, 258, rfl⟩
abbrev main_v223 : Ref sig .tc := ⟨.hbm, 259, rfl⟩
abbrev main_c_8 : Ref sig .tc := ⟨.hbm, 260, rfl⟩
abbrev main_call7_v0 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg4_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg2_1 : Ref sig .tc := ⟨.vmem, 54, rfl⟩
abbrev cc7_stg3_0 : Ref sig .tc := ⟨.vmem, 55, rfl⟩
abbrev cc7_stg4_0 : Ref sig .tc := ⟨.vmem, 56, rfl⟩
abbrev cc7_stg4_1 : Ref sig .tc := ⟨.vmem, 57, rfl⟩
abbrev cc7_stg5_0 : Ref sig .tc := ⟨.vmem, 58, rfl⟩
abbrev cc7_stg5_1 : Ref sig .tc := ⟨.vmem, 59, rfl⟩
abbrev cc7_stg6_0 : Ref sig .tc := ⟨.vmem, 60, rfl⟩
abbrev cc7_stg6_1 : Ref sig .tc := ⟨.vmem, 61, rfl⟩
abbrev cc7_stg7_0 : Ref sig .tc := ⟨.vmem, 62, rfl⟩
abbrev cc7_stg7_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg1_1 : Ref sig .tc := ⟨.vmem, 67, rfl⟩
abbrev cc8_stg2_0 : Ref sig .tc := ⟨.vmem, 68, rfl⟩
abbrev cc8_stg2_1 : Ref sig .tc := ⟨.vmem, 69, rfl⟩
abbrev cc8_stg3_0 : Ref sig .tc := ⟨.vmem, 70, rfl⟩
abbrev cc8_stg4_0 : Ref sig .tc := ⟨.vmem, 71, rfl⟩
abbrev cc8_stg4_1 : Ref sig .tc := ⟨.vmem, 72, rfl⟩
abbrev cc8_stg5_0 : Ref sig .tc := ⟨.vmem, 73, rfl⟩
abbrev cc8_stg5_1 : Ref sig .tc := ⟨.vmem, 74, rfl⟩
abbrev cc8_stg6_0 : Ref sig .tc := ⟨.vmem, 75, rfl⟩
abbrev cc8_stg6_1 : Ref sig .tc := ⟨.vmem, 76, rfl⟩
abbrev cc8_stg7_0 : Ref sig .tc := ⟨.vmem, 77, rfl⟩
abbrev cc8_stg7_1 : Ref sig .tc := ⟨.vmem, 78, rfl⟩
abbrev cc9_stg0_0 : Ref sig .tc := ⟨.vmem, 79, rfl⟩
abbrev cc9_stg0_1 : Ref sig .tc := ⟨.vmem, 80, rfl⟩
abbrev cc9_stg1_0 : Ref sig .tc := ⟨.vmem, 81, rfl⟩
abbrev cc9_stg1_1 : Ref sig .tc := ⟨.vmem, 82, rfl⟩
abbrev cc9_stg2_0 : Ref sig .tc := ⟨.vmem, 83, rfl⟩
abbrev cc9_stg2_1 : Ref sig .tc := ⟨.vmem, 84, rfl⟩
abbrev cc9_stg3_0 : Ref sig .tc := ⟨.vmem, 85, rfl⟩
abbrev cc9_stg4_0 : Ref sig .tc := ⟨.vmem, 86, rfl⟩
abbrev cc9_stg4_1 : Ref sig .tc := ⟨.vmem, 87, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem2_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc6_sem3_0 : DmaSem sig := 46
abbrev cc6_sem4_0 : DmaSem sig := 47
abbrev cc6_sem4_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem2_1 : DmaSem sig := 54
abbrev cc7_sem3_0 : DmaSem sig := 55
abbrev cc7_sem4_0 : DmaSem sig := 56
abbrev cc7_sem4_1 : DmaSem sig := 57
abbrev cc7_sem5_0 : DmaSem sig := 58
abbrev cc7_sem5_1 : DmaSem sig := 59
abbrev cc7_sem6_0 : DmaSem sig := 60
abbrev cc7_sem6_1 : DmaSem sig := 61
abbrev cc7_sem7_0 : DmaSem sig := 62
abbrev cc7_sem7_1 : DmaSem sig := 63
abbrev cc8_sem0_0 : DmaSem sig := 64
abbrev cc8_sem0_1 : DmaSem sig := 65
abbrev cc8_sem1_0 : DmaSem sig := 66
abbrev cc8_sem1_1 : DmaSem sig := 67
abbrev cc8_sem2_0 : DmaSem sig := 68
abbrev cc8_sem2_1 : DmaSem sig := 69
abbrev cc8_sem3_0 : DmaSem sig := 70
abbrev cc8_sem4_0 : DmaSem sig := 71
abbrev cc8_sem4_1 : DmaSem sig := 72
abbrev cc8_sem5_0 : DmaSem sig := 73
abbrev cc8_sem5_1 : DmaSem sig := 74
abbrev cc8_sem6_0 : DmaSem sig := 75
abbrev cc8_sem6_1 : DmaSem sig := 76
abbrev cc8_sem7_0 : DmaSem sig := 77
abbrev cc8_sem7_1 : DmaSem sig := 78
abbrev cc9_sem0_0 : DmaSem sig := 79
abbrev cc9_sem0_1 : DmaSem sig := 80
abbrev cc9_sem1_0 : DmaSem sig := 81
abbrev cc9_sem1_1 : DmaSem sig := 82
abbrev cc9_sem2_0 : DmaSem sig := 83
abbrev cc9_sem2_1 : DmaSem sig := 84
abbrev cc9_sem3_0 : DmaSem sig := 85
abbrev cc9_sem4_0 : DmaSem sig := 86
abbrev cc9_sem4_1 : DmaSem sig := 87

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x129x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x129x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x2x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x16x65x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x65x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S2x2x512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x16x64x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 4], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x16x66x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x16x66x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x16x66x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S3x3x256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x16x64x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![8, 4], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x16x64x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x1x256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S1x16x64x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1024x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x1x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![8, 4], ![false, false]⟩

def cc5_transform_0 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc5_transform_1 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc5_transform_2 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage5_0 : Fin 2 → Memref sig .tc .vmem S1x16x64x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S1x1x256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 2 → Memref sig .tc .vmem S1x16x64x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![8, 4], ![false, false]⟩

def cc6_transform_0 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc6_transform_1 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc6_transform_2 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc6_transform_3 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc6_transform_4 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage6_0 : Fin 2 → Memref sig .tc .vmem S1x16x66x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x16x66x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S1x16x66x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 1 → Memref sig .tc .vmem S3x3x256x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, false]

abbrev stage6_4 : Fin 2 → Memref sig .tc .vmem S1x16x64x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev grid7 : Pipeline.Grid := ⟨2, ![8, 4], ![false, false]⟩

def cc7_transform_0 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc7_transform_1 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc7_transform_2 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc7_transform_3 (i : grid7.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  let c0_i32_5 : BitVec 32 := 0#32
  ![c0_i32.toNat, c0_i32_0.toNat, c0_i32_1.toNat, c0_i32_2.toNat, c0_i32_3.toNat, c0_i32_4.toNat]

def cc7_transform_4 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc7_transform_5 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc7_transform_6 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc7_transform_7 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage7_0 : Fin 2 → Memref sig .tc .vmem S1x16x66x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1x16x66x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S1x16x66x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 1 → Memref sig .tc .vmem S2x2x2x2x256x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, false]

abbrev stage7_4 : Fin 2 → Memref sig .tc .vmem S1x16x64x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev stage7_5 : Fin 2 → Memref sig .tc .vmem S1x16x64x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, true]

abbrev stage7_6 : Fin 2 → Memref sig .tc .vmem S1x16x64x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true, true]

abbrev stage7_7 : Fin 2 → Memref sig .tc .vmem S1x16x64x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true, true]

abbrev grid8 : Pipeline.Grid := ⟨2, ![8, 8], ![false, false]⟩

def cc8_transform_0 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc8_transform_1 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc8_transform_2 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc8_transform_3 (i : grid8.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  let c0_i32_5 : BitVec 32 := 0#32
  ![c0_i32.toNat, c0_i32_0.toNat, c0_i32_1.toNat, c0_i32_2.toNat, c0_i32_3.toNat, c0_i32_4.toNat]

def cc8_transform_4 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc8_transform_5 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc8_transform_6 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc8_transform_7 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage8_0 : Fin 2 → Memref sig .tc .vmem S1x16x130x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1x16x130x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true]

abbrev stage8_2 : Fin 2 → Memref sig .tc .vmem S1x16x130x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev stage8_3 : Fin 1 → Memref sig .tc .vmem S2x2x2x2x128x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false, false]

abbrev stage8_4 : Fin 2 → Memref sig .tc .vmem S1x16x128x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true, true]

abbrev stage8_5 : Fin 2 → Memref sig .tc .vmem S1x16x128x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true, true]

abbrev stage8_6 : Fin 2 → Memref sig .tc .vmem S1x16x128x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true, true]

abbrev stage8_7 : Fin 2 → Memref sig .tc .vmem S1x16x128x64 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true, true]

abbrev grid9 : Pipeline.Grid := ⟨2, ![8, 16], ![false, false]⟩

def cc9_transform_0 (i : grid9.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc9_transform_1 (i : grid9.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc9_transform_2 (i : grid9.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc9_transform_3 (i : grid9.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc9_transform_4 (i : grid9.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage9_0 : Fin 2 → Memref sig .tc .vmem S1x16x258x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S1x16x258x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, true]

abbrev stage9_2 : Fin 2 → Memref sig .tc .vmem S1x16x258x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev stage9_3 : Fin 1 → Memref sig .tc .vmem S3x3x64x8 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false, false]

abbrev stage9_4 : Fin 2 → Memref sig .tc .vmem S1x16x256x8 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true, true]
-- ==== ReferenceIdeal.lean ====
abbrev S8x2x256x256 : Shape := ⟨4, ![8, 2, 256, 256]⟩
abbrev S128x2x4x4 : Shape := ⟨4, ![128, 2, 4, 4]⟩
abbrev S256x128x4x4 : Shape := ⟨4, ![256, 128, 4, 4]⟩
abbrev S256x256x3x3 : Shape := ⟨4, ![256, 256, 3, 3]⟩
abbrev S256x256x1x1 : Shape := ⟨4, ![256, 256, 1, 1]⟩
abbrev S1024x256 : Shape := ⟨2, ![1024, 256]⟩
abbrev S128x256x3x3 : Shape := ⟨4, ![128, 256, 3, 3]⟩
abbrev S64x128x3x3 : Shape := ⟨4, ![64, 128, 3, 3]⟩
abbrev S2x64x3x3 : Shape := ⟨4, ![2, 64, 3, 3]⟩
abbrev S2x8x256x256 : Shape := ⟨4, ![2, 8, 256, 256]⟩
abbrev S_ : Shape := ⟨0, ![]⟩
abbrev S2x8x258x258 : Shape := ⟨4, ![2, 8, 258, 258]⟩
abbrev S2x8x128x128 : Shape := ⟨4, ![2, 8, 128, 128]⟩
abbrev S128x2x1x1 : Shape := ⟨4, ![128, 2, 1, 1]⟩
abbrev S128x2 : Shape := ⟨2, ![128, 2]⟩
abbrev S128x8x128x128 : Shape := ⟨4, ![128, 8, 128, 128]⟩
abbrev S128x8x130x130 : Shape := ⟨4, ![128, 8, 130, 130]⟩
abbrev S128x8x64x64 : Shape := ⟨4, ![128, 8, 64, 64]⟩
abbrev S256x128x1x1 : Shape := ⟨4, ![256, 128, 1, 1]⟩
abbrev S256x128 : Shape := ⟨2, ![256, 128]⟩
abbrev S256x8x64x64 : Shape := ⟨4, ![256, 8, 64, 64]⟩
abbrev S256x8x66x66 : Shape := ⟨4, ![256, 8, 66, 66]⟩
abbrev S256x256 : Shape := ⟨2, ![256, 256]⟩
abbrev S8x64x64x256 : Shape := ⟨4, ![8, 64, 64, 256]⟩
abbrev S32768x256 : Shape := ⟨2, ![32768, 256]⟩
abbrev S32768 : Shape := ⟨1, ![32768]⟩
abbrev S32768x1 : Shape := ⟨2, ![32768, 1]⟩
abbrev S256x1024 : Shape := ⟨2, ![256, 1024]⟩
abbrev S32768x1024 : Shape := ⟨2, ![32768, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S256x8x64x2x64 : Shape := ⟨5, ![256, 8, 64, 2, 64]⟩
abbrev S256x8x128x64 : Shape := ⟨4, ![256, 8, 128, 64]⟩
abbrev S256x8x128x64x2 : Shape := ⟨5, ![256, 8, 128, 64, 2]⟩
abbrev S256x8x128x128 : Shape := ⟨4, ![256, 8, 128, 128]⟩
abbrev S256x8x130x130 : Shape := ⟨4, ![256, 8, 130, 130]⟩
abbrev S128x256x1x1 : Shape := ⟨4, ![128, 256, 1, 1]⟩
abbrev S128x256 : Shape := ⟨2, ![128, 256]⟩
abbrev S128x8x128x2x128 : Shape := ⟨5, ![128, 8, 128, 2, 128]⟩
abbrev S128x8x256x128 : Shape := ⟨4, ![128, 8, 256, 128]⟩
abbrev S128x8x256x128x2 : Shape := ⟨5, ![128, 8, 256, 128, 2]⟩
abbrev S128x8x256x256 : Shape := ⟨4, ![128, 8, 256, 256]⟩
abbrev S128x8x258x258 : Shape := ⟨4, ![128, 8, 258, 258]⟩
abbrev S64x128x1x1 : Shape := ⟨4, ![64, 128, 1, 1]⟩
abbrev S64x128 : Shape := ⟨2, ![64, 128]⟩
abbrev S64x8x256x256 : Shape := ⟨4, ![64, 8, 256, 256]⟩
abbrev S64x8x258x258 : Shape := ⟨4, ![64, 8, 258, 258]⟩
abbrev S2x64x1x1 : Shape := ⟨4, ![2, 64, 1, 1]⟩
abbrev S2x64 : Shape := ⟨2, ![2, 64]⟩

abbrev nBuf : Space → Nat
  | .hbm => 560
  | .vmem => 0
  | .smem => 0
  | _ => 0

abbrev hbmTy0_0 (i : Nat) : BufTy := match i % 128 with
  | 0 => ⟨S8x2x256x256, .f32⟩
  | 1 => ⟨S128x2x4x4, .f32⟩
  | 2 => ⟨S256x128x4x4, .f32⟩
  | 3 => ⟨S256x256x3x3, .f32⟩
  | 4 => ⟨S256x256x1x1, .f32⟩
  | 5 => ⟨S1024x256, .f32⟩
  | 6 => ⟨S256x256x1x1, .f32⟩
  | 7 => ⟨S256x256x3x3, .f32⟩
  | 8 => ⟨S128x256x3x3, .f32⟩
  | 9 => ⟨S64x128x3x3, .f32⟩
  | 10 => ⟨S2x64x3x3, .f32⟩
  | 11 => ⟨S2x64x3x3, .f32⟩
  | 12 => ⟨S2x8x256x256, .f32⟩
  | 13 => ⟨S_, .i32⟩
  | 14 => ⟨S_, .f32⟩
  | 15 => ⟨S2x8x258x258, .f32⟩
  | 16 => ⟨S2x8x128x128, .f32⟩
  | 17 => ⟨S128x2x1x1, .f32⟩
  | 18 => ⟨S128x2, .f32⟩
  | 19 => ⟨S128x8x128x128, .f32⟩
  | 20 => ⟨S2x8x128x128, .f32⟩
  | 21 => ⟨S128x2x1x1, .f32⟩
  | 22 => ⟨S128x2, .f32⟩
  | 23 => ⟨S128x8x128x128, .f32⟩
  | 24 => ⟨S128x8x128x128, .f32⟩
  | 25 => ⟨S2x8x128x128, .f32⟩
  | 26 => ⟨S128x2x1x1, .f32⟩
  | 27 => ⟨S128x2, .f32⟩
  | 28 => ⟨S128x8x128x128, .f32⟩
  | 29 => ⟨S128x8x128x128, .f32⟩
  | 30 => ⟨S2x8x128x128, .f32⟩
  | 31 => ⟨S128x2x1x1, .f32⟩
  | 32 => ⟨S128x2, .f32⟩
  | 33 => ⟨S128x8x128x128, .f32⟩
  | 34 => ⟨S128x8x128x128, .f32⟩
  | 35 => ⟨S2x8x128x128, .f32⟩
  | 36 => ⟨S128x2x1x1, .f32⟩
  | 37 => ⟨S128x2, .f32⟩
  | 38 => ⟨S128x8x128x128, .f32⟩
  | 39 => ⟨S128x8x128x128, .f32⟩
  | 40 => ⟨S2x8x128x128, .f32⟩
  | 41 => ⟨S128x2x1x1, .f32⟩
  | 42 => ⟨S128x2, .f32⟩
  | 43 => ⟨S128x8x128x128, .f32⟩
  | 44 => ⟨S128x8x128x128, .f32⟩
  | 45 => ⟨S2x8x128x128, .f32⟩
  | 46 => ⟨S128x2x1x1, .f32⟩
  | 47 => ⟨S128x2, .f32⟩
  | 48 => ⟨S128x8x128x128, .f32⟩
  | 49 => ⟨S128x8x128x128, .f32⟩
  | 50 => ⟨S2x8x128x128, .f32⟩
  | 51 => ⟨S128x2x1x1, .f32⟩
  | 52 => ⟨S128x2, .f32⟩
  | 53 => ⟨S128x8x128x128, .f32⟩
  | 54 => ⟨S128x8x128x128, .f32⟩
  | 55 => ⟨S2x8x128x128, .f32⟩
  | 56 => ⟨S128x2x1x1, .f32⟩
  | 57 => ⟨S128x2, .f32⟩
  | 58 => ⟨S128x8x128x128, .f32⟩
  | 59 => ⟨S128x8x128x128, .f32⟩
  | 60 => ⟨S2x8x128x128, .f32⟩
  | 61 => ⟨S128x2x1x1, .f32⟩
  | 62 => ⟨S128x2, .f32⟩
  | 63 => ⟨S128x8x128x128, .f32⟩
  | 64 => ⟨S128x8x128x128, .f32⟩
  | 65 => ⟨S2x8x128x128, .f32⟩
  | 66 => ⟨S128x2x1x1, .f32⟩
  | 67 => ⟨S128x2, .f32⟩
  | 68 => ⟨S128x8x128x128, .f32⟩
  | 69 => ⟨S128x8x128x128, .f32⟩
  | 70 => ⟨S2x8x128x128, .f32⟩
  | 71 => ⟨S128x2x1x1, .f32⟩
  | 72 => ⟨S128x2, .f32⟩
  | 73 => ⟨S128x8x128x128, .f32⟩
  | 74 => ⟨S128x8x128x128, .f32⟩
  | 75 => ⟨S2x8x128x128, .f32⟩
  | 76 => ⟨S128x2x1x1, .f32⟩
  | 77 => ⟨S128x2, .f32⟩
  | 78 => ⟨S128x8x128x128, .f32⟩
  | 79 => ⟨S128x8x128x128, .f32⟩
  | 80 => ⟨S2x8x128x128, .f32⟩
  | 81 => ⟨S128x2x1x1, .f32⟩
  | 82 => ⟨S128x2, .f32⟩
  | 83 => ⟨S128x8x128x128, .f32⟩
  | 84 => ⟨S128x8x128x128, .f32⟩
  | 85 => ⟨S2x8x128x128, .f32⟩
  | 86 => ⟨S128x2x1x1, .f32⟩
  | 87 => ⟨S128x2, .f32⟩
  | 88 => ⟨S128x8x128x128, .f32⟩
  | 89 => ⟨S128x8x128x128, .f32⟩
  | 90 => ⟨S2x8x128x128, .f32⟩
  | 91 => ⟨S128x2x1x1, .f32⟩
  | 92 => ⟨S128x2, .f32⟩
  | 93 => ⟨S128x8x128x128, .f32⟩
  | 94 => ⟨S128x8x128x128, .f32⟩
  | 95 => ⟨S_, .f32⟩
  | 96 => ⟨S128x8x128x128, .f32⟩
  | 97 => ⟨S128x8x128x128, .f32⟩
  | 98 => ⟨S_, .i32⟩
  | 99 => ⟨S_, .f32⟩
  | 100 => ⟨S128x8x130x130, .f32⟩
  | 101 => ⟨S128x8x64x64, .f32⟩
  | 102 => ⟨S256x128x1x1, .f32⟩
  | 103 => ⟨S256x128, .f32⟩
  | 104 => ⟨S256x8x64x64, .f32⟩
  | 105 => ⟨S128x8x64x64, .f32⟩
  | 106 => ⟨S256x128x1x1, .f32⟩
  | 107 => ⟨S256x128, .f32⟩
  | 108 => ⟨S256x8x64x64, .f32⟩
  | 109 => ⟨S256x8x64x64, .f32⟩
  | 110 => ⟨S128x8x64x64, .f32⟩
  | 111 => ⟨S256x128x1x1, .f32⟩
  | 112 => ⟨S256x128, .f32⟩
  | 113 => ⟨S256x8x64x64, .f32⟩
  | 114 => ⟨S256x8x64x64, .f32⟩
  | 115 => ⟨S128x8x64x64, .f32⟩
  | 116 => ⟨S256x128x1x1, .f32⟩
  | 117 => ⟨S256x128, .f32⟩
  | 118 => ⟨S256x8x64x64, .f32⟩
  | 119 => ⟨S256x8x64x64, .f32⟩
  | 120 => ⟨S128x8x64x64, .f32⟩
  | 121 => ⟨S256x128x1x1, .f32⟩
  | 122 => ⟨S256x128, .f32⟩
  | 123 => ⟨S256x8x64x64, .f32⟩
  | 124 => ⟨S256x8x64x64, .f32⟩
  | 125 => ⟨S128x8x64x64, .f32⟩
  | 126 => ⟨S256x128x1x1, .f32⟩
  | 127 => ⟨S256x128, .f32⟩
  | _ => ⟨S8x2x256x256, .f32⟩

abbrev hbmTy0_1 (i : Nat) : BufTy := match i % 128 with
  | 0 => ⟨S256x8x64x64, .f32⟩
  | 1 => ⟨S256x8x64x64, .f32⟩
  | 2 => ⟨S128x8x64x64, .f32⟩
  | 3 => ⟨S256x128x1x1, .f32⟩
  | 4 => ⟨S256x128, .f32⟩
  | 5 => ⟨S256x8x64x64, .f32⟩
  | 6 => ⟨S256x8x64x64, .f32⟩
  | 7 => ⟨S128x8x64x64, .f32⟩
  | 8 => ⟨S256x128x1x1, .f32⟩
  | 9 => ⟨S256x128, .f32⟩
  | 10 => ⟨S256x8x64x64, .f32⟩
  | 11 => ⟨S256x8x64x64, .f32⟩
  | 12 => ⟨S128x8x64x64, .f32⟩
  | 13 => ⟨S256x128x1x1, .f32⟩
  | 14 => ⟨S256x128, .f32⟩
  | 15 => ⟨S256x8x64x64, .f32⟩
  | 16 => ⟨S256x8x64x64, .f32⟩
  | 17 => ⟨S128x8x64x64, .f32⟩
  | 18 => ⟨S256x128x1x1, .f32⟩
  | 19 => ⟨S256x128, .f32⟩
  | 20 => ⟨S256x8x64x64, .f32⟩
  | 21 => ⟨S256x8x64x64, .f32⟩
  | 22 => ⟨S128x8x64x64, .f32⟩
  | 23 => ⟨S256x128x1x1, .f32⟩
  | 24 => ⟨S256x128, .f32⟩
  | 25 => ⟨S256x8x64x64, .f32⟩
  | 26 => ⟨S256x8x64x64, .f32⟩
  | 27 => ⟨S128x8x64x64, .f32⟩
  | 28 => ⟨S256x128x1x1, .f32⟩
  | 29 => ⟨S256x128, .f32⟩
  | 30 => ⟨S256x8x64x64, .f32⟩
  | 31 => ⟨S256x8x64x64, .f32⟩
  | 32 => ⟨S128x8x64x64, .f32⟩
  | 33 => ⟨S256x128x1x1, .f32⟩
  | 34 => ⟨S256x128, .f32⟩
  | 35 => ⟨S256x8x64x64, .f32⟩
  | 36 => ⟨S256x8x64x64, .f32⟩
  | 37 => ⟨S128x8x64x64, .f32⟩
  | 38 => ⟨S256x128x1x1, .f32⟩
  | 39 => ⟨S256x128, .f32⟩
  | 40 => ⟨S256x8x64x64, .f32⟩
  | 41 => ⟨S256x8x64x64, .f32⟩
  | 42 => ⟨S128x8x64x64, .f32⟩
  | 43 => ⟨S256x128x1x1, .f32⟩
  | 44 => ⟨S256x128, .f32⟩
  | 45 => ⟨S256x8x64x64, .f32⟩
  | 46 => ⟨S256x8x64x64, .f32⟩
  | 47 => ⟨S128x8x64x64, .f32⟩
  | 48 => ⟨S256x128x1x1, .f32⟩
  | 49 => ⟨S256x128, .f32⟩
  | 50 => ⟨S256x8x64x64, .f32⟩
  | 51 => ⟨S256x8x64x64, .f32⟩
  | 52 => ⟨S_, .f32⟩
  | 53 => ⟨S256x8x64x64, .f32⟩
  | 54 => ⟨S256x8x64x64, .f32⟩
  | 55 => ⟨S_, .i32⟩
  | 56 => ⟨S_, .f32⟩
  | 57 => ⟨S256x8x66x66, .f32⟩
  | 58 => ⟨S256x8x64x64, .f32⟩
  | 59 => ⟨S256x256x1x1, .f32⟩
  | 60 => ⟨S256x256, .f32⟩
  | 61 => ⟨S256x8x64x64, .f32⟩
  | 62 => ⟨S256x8x64x64, .f32⟩
  | 63 => ⟨S256x256x1x1, .f32⟩
  | 64 => ⟨S256x256, .f32⟩
  | 65 => ⟨S256x8x64x64, .f32⟩
  | 66 => ⟨S256x8x64x64, .f32⟩
  | 67 => ⟨S256x8x64x64, .f32⟩
  | 68 => ⟨S256x256x1x1, .f32⟩
  | 69 => ⟨S256x256, .f32⟩
  | 70 => ⟨S256x8x64x64, .f32⟩
  | 71 => ⟨S256x8x64x64, .f32⟩
  | 72 => ⟨S256x8x64x64, .f32⟩
  | 73 => ⟨S256x256x1x1, .f32⟩
  | 74 => ⟨S256x256, .f32⟩
  | 75 => ⟨S256x8x64x64, .f32⟩
  | 76 => ⟨S256x8x64x64, .f32⟩
  | 77 => ⟨S256x8x64x64, .f32⟩
  | 78 => ⟨S256x256x1x1, .f32⟩
  | 79 => ⟨S256x256, .f32⟩
  | 80 => ⟨S256x8x64x64, .f32⟩
  | 81 => ⟨S256x8x64x64, .f32⟩
  | 82 => ⟨S256x8x64x64, .f32⟩
  | 83 => ⟨S256x256x1x1, .f32⟩
  | 84 => ⟨S256x256, .f32⟩
  | 85 => ⟨S256x8x64x64, .f32⟩
  | 86 => ⟨S256x8x64x64, .f32⟩
  | 87 => ⟨S256x8x64x64, .f32⟩
  | 88 => ⟨S256x256x1x1, .f32⟩
  | 89 => ⟨S256x256, .f32⟩
  | 90 => ⟨S256x8x64x64, .f32⟩
  | 91 => ⟨S256x8x64x64, .f32⟩
  | 92 => ⟨S256x8x64x64, .f32⟩
  | 93 => ⟨S256x256x1x1, .f32⟩
  | 94 => ⟨S256x256, .f32⟩
  | 95 => ⟨S256x8x64x64, .f32⟩
  | 96 => ⟨S256x8x64x64, .f32⟩
  | 97 => ⟨S256x8x64x64, .f32⟩
  | 98 => ⟨S256x256x1x1, .f32⟩
  | 99 => ⟨S256x256, .f32⟩
  | 100 => ⟨S256x8x64x64, .f32⟩
  | 101 => ⟨S256x8x64x64, .f32⟩
  | 102 => ⟨S_, .i32⟩
  | 103 => ⟨S_, .f32⟩
  | 104 => ⟨S256x8x64x64, .f32⟩
  | 105 => ⟨S256x256, .f32⟩
  | 106 => ⟨S256x8x64x64, .f32⟩
  | 107 => ⟨S8x64x64x256, .f32⟩
  | 108 => ⟨S32768x256, .f32⟩
  | 109 => ⟨S32768x256, .f32⟩
  | 110 => ⟨S_, .f32⟩
  | 111 => ⟨S32768, .f32⟩
  | 112 => ⟨S32768x1, .f32⟩
  | 113 => ⟨S256x1024, .f32⟩
  | 114 => ⟨S32768x1024, .f32⟩
  | 115 => ⟨S_, .f32⟩
  | 116 => ⟨S32768x1024, .f32⟩
  | 117 => ⟨S32768x1024, .f32⟩
  | 118 => ⟨S32768x1024, .f32⟩
  | 119 => ⟨S32768x1024, .f32⟩
  | 120 => ⟨S1024x256, .f32⟩
  | 121 => ⟨S_, .f32⟩
  | 122 => ⟨S1024, .f32⟩
  | 123 => ⟨S1x1024, .f32⟩
  | 124 => ⟨S32768x1024, .f32⟩
  | 125 => ⟨S32768x1024, .f32⟩
  | 126 => ⟨S32768x1024, .i32⟩
  | 127 => ⟨S_, .f32⟩
  | _ => ⟨S8x2x256x256, .f32⟩

abbrev hbmTy0_2 (i : Nat) : BufTy := match i % 128 with
  | 0 => ⟨S_, .i32⟩
  | 1 => ⟨S32768, .f32⟩
  | 2 => ⟨S32768, .i32⟩
  | 3 => ⟨S_, .i32⟩
  | 4 => ⟨S32768, .i32⟩
  | 5 => ⟨S32768, .i1⟩
  | 6 => ⟨S_, .i32⟩
  | 7 => ⟨S32768, .i32⟩
  | 8 => ⟨S32768, .i32⟩
  | 9 => ⟨S32768, .i32⟩
  | 10 => ⟨S32768x1, .i32⟩
  | 11 => ⟨S1, .i32⟩
  | 12 => ⟨S_, .i32⟩
  | 13 => ⟨S32768x1, .i32⟩
  | 14 => ⟨S32768x1, .i1⟩
  | 15 => ⟨S1x1, .i32⟩
  | 16 => ⟨S32768x1, .i32⟩
  | 17 => ⟨S32768x1, .i1⟩
  | 18 => ⟨S32768x1, .i1⟩
  | 19 => ⟨S_, .i1⟩
  | 20 => ⟨S32768, .i1⟩
  | 21 => ⟨S32768x256, .f32⟩
  | 22 => ⟨S32768x256, .i1⟩
  | 23 => ⟨S_, .f32⟩
  | 24 => ⟨S32768x256, .f32⟩
  | 25 => ⟨S32768x256, .f32⟩
  | 26 => ⟨S32768x256, .f32⟩
  | 27 => ⟨S32768x256, .f32⟩
  | 28 => ⟨S_, .f32⟩
  | 29 => ⟨S_, .f32⟩
  | 30 => ⟨S_, .f32⟩
  | 31 => ⟨S_, .f32⟩
  | 32 => ⟨S32768x256, .f32⟩
  | 33 => ⟨S32768x256, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S32768x256, .f32⟩
  | 42 => ⟨S32768x256, .f32⟩
  | 43 => ⟨S8x64x64x256, .f32⟩
  | 44 => ⟨S256x8x64x64, .f32⟩
  | 45 => ⟨S_, .i32⟩
  | 46 => ⟨S_, .f32⟩
  | 47 => ⟨S256x8x64x64, .f32⟩
  | 48 => ⟨S256x256, .f32⟩
  | 49 => ⟨S256x8x64x64, .f32⟩
  | 50 => ⟨S_, .i32⟩
  | 51 => ⟨S_, .f32⟩
  | 52 => ⟨S256x8x66x66, .f32⟩
  | 53 => ⟨S256x8x64x64, .f32⟩
  | 54 => ⟨S256x256x1x1, .f32⟩
  | 55 => ⟨S256x256, .f32⟩
  | 56 => ⟨S256x8x64x64, .f32⟩
  | 57 => ⟨S256x8x64x64, .f32⟩
  | 58 => ⟨S256x256x1x1, .f32⟩
  | 59 => ⟨S256x256, .f32⟩
  | 60 => ⟨S256x8x64x64, .f32⟩
  | 61 => ⟨S256x8x64x64, .f32⟩
  | 62 => ⟨S256x8x64x64, .f32⟩
  | 63 => ⟨S256x256x1x1, .f32⟩
  | 64 => ⟨S256x256, .f32⟩
  | 65 => ⟨S256x8x64x64, .f32⟩
  | 66 => ⟨S256x8x64x64, .f32⟩
  | 67 => ⟨S256x8x64x64, .f32⟩
  | 68 => ⟨S256x256x1x1, .f32⟩
  | 69 => ⟨S256x256, .f32⟩
  | 70 => ⟨S256x8x64x64, .f32⟩
  | 71 => ⟨S256x8x64x64, .f32⟩
  | 72 => ⟨S256x8x64x64, .f32⟩
  | 73 => ⟨S256x256x1x1, .f32⟩
  | 74 => ⟨S256x256, .f32⟩
  | 75 => ⟨S256x8x64x64, .f32⟩
  | 76 => ⟨S256x8x64x64, .f32⟩
  | 77 => ⟨S256x8x64x64, .f32⟩
  | 78 => ⟨S256x256x1x1, .f32⟩
  | 79 => ⟨S256x256, .f32⟩
  | 80 => ⟨S256x8x64x64, .f32⟩
  | 81 => ⟨S256x8x64x64, .f32⟩
  | 82 => ⟨S256x8x64x64, .f32⟩
  | 83 => ⟨S256x256x1x1, .f32⟩
  | 84 => ⟨S256x256, .f32⟩
  | 85 => ⟨S256x8x64x64, .f32⟩
  | 86 => ⟨S256x8x64x64, .f32⟩
  | 87 => ⟨S256x8x64x64, .f32⟩
  | 88 => ⟨S256x256x1x1, .f32⟩
  | 89 => ⟨S256x256, .f32⟩
  | 90 => ⟨S256x8x64x64, .f32⟩
  | 91 => ⟨S256x8x64x64, .f32⟩
  | 92 => ⟨S256x8x64x64, .f32⟩
  | 93 => ⟨S256x256x1x1, .f32⟩
  | 94 => ⟨S256x256, .f32⟩
  | 95 => ⟨S256x8x64x64, .f32⟩
  | 96 => ⟨S256x8x64x64, .f32⟩
  | 97 => ⟨S_, .f32⟩
  | 98 => ⟨S256x8x64x64, .f32⟩
  | 99 => ⟨S256x8x64x64, .f32⟩
  | 100 => ⟨S256x8x64x2x64, .f32⟩
  | 101 => ⟨S256x8x128x64, .f32⟩
  | 102 => ⟨S256x8x128x64x2, .f32⟩
  | 103 => ⟨S256x8x128x128, .f32⟩
  | 104 => ⟨S_, .i32⟩
  | 105 => ⟨S_, .f32⟩
  | 106 => ⟨S256x8x130x130, .f32⟩
  | 107 => ⟨S256x8x128x128, .f32⟩
  | 108 => ⟨S128x256x1x1, .f32⟩
  | 109 => ⟨S128x256, .f32⟩
  | 110 => ⟨S128x8x128x128, .f32⟩
  | 111 => ⟨S256x8x128x128, .f32⟩
  | 112 => ⟨S128x256x1x1, .f32⟩
  | 113 => ⟨S128x256, .f32⟩
  | 114 => ⟨S128x8x128x128, .f32⟩
  | 115 => ⟨S128x8x128x128, .f32⟩
  | 116 => ⟨S256x8x128x128, .f32⟩
  | 117 => ⟨S128x256x1x1, .f32⟩
  | 118 => ⟨S128x256, .f32⟩
  | 119 => ⟨S128x8x128x128, .f32⟩
  | 120 => ⟨S128x8x128x128, .f32⟩
  | 121 => ⟨S256x8x128x128, .f32⟩
  | 122 => ⟨S128x256x1x1, .f32⟩
  | 123 => ⟨S128x256, .f32⟩
  | 124 => ⟨S128x8x128x128, .f32⟩
  | 125 => ⟨S128x8x128x128, .f32⟩
  | 126 => ⟨S256x8x128x128, .f32⟩
  | 127 => ⟨S128x256x1x1, .f32⟩
  | _ => ⟨S8x2x256x256, .f32⟩

abbrev hbmTy0_3 (i : Nat) : BufTy := match i % 128 with
  | 0 => ⟨S128x256, .f32⟩
  | 1 => ⟨S128x8x128x128, .f32⟩
  | 2 => ⟨S128x8x128x128, .f32⟩
  | 3 => ⟨S256x8x128x128, .f32⟩
  | 4 => ⟨S128x256x1x1, .f32⟩
  | 5 => ⟨S128x256, .f32⟩
  | 6 => ⟨S128x8x128x128, .f32⟩
  | 7 => ⟨S128x8x128x128, .f32⟩
  | 8 => ⟨S256x8x128x128, .f32⟩
  | 9 => ⟨S128x256x1x1, .f32⟩
  | 10 => ⟨S128x256, .f32⟩
  | 11 => ⟨S128x8x128x128, .f32⟩
  | 12 => ⟨S128x8x128x128, .f32⟩
  | 13 => ⟨S256x8x128x128, .f32⟩
  | 14 => ⟨S128x256x1x1, .f32⟩
  | 15 => ⟨S128x256, .f32⟩
  | 16 => ⟨S128x8x128x128, .f32⟩
  | 17 => ⟨S128x8x128x128, .f32⟩
  | 18 => ⟨S256x8x128x128, .f32⟩
  | 19 => ⟨S128x256x1x1, .f32⟩
  | 20 => ⟨S128x256, .f32⟩
  | 21 => ⟨S128x8x128x128, .f32⟩
  | 22 => ⟨S128x8x128x128, .f32⟩
  | 23 => ⟨S_, .f32⟩
  | 24 => ⟨S128x8x128x128, .f32⟩
  | 25 => ⟨S128x8x128x128, .f32⟩
  | 26 => ⟨S128x8x128x2x128, .f32⟩
  | 27 => ⟨S128x8x256x128, .f32⟩
  | 28 => ⟨S128x8x256x128x2, .f32⟩
  | 29 => ⟨S128x8x256x256, .f32⟩
  | 30 => ⟨S_, .i32⟩
  | 31 => ⟨S_, .f32⟩
  | 32 => ⟨S128x8x258x258, .f32⟩
  | 33 => ⟨S128x8x256x256, .f32⟩
  | 34 => ⟨S64x128x1x1, .f32⟩
  | 35 => ⟨S64x128, .f32⟩
  | 36 => ⟨S64x8x256x256, .f32⟩
  | 37 => ⟨S128x8x256x256, .f32⟩
  | 38 => ⟨S64x128x1x1, .f32⟩
  | 39 => ⟨S64x128, .f32⟩
  | 40 => ⟨S64x8x256x256, .f32⟩
  | 41 => ⟨S64x8x256x256, .f32⟩
  | 42 => ⟨S128x8x256x256, .f32⟩
  | 43 => ⟨S64x128x1x1, .f32⟩
  | 44 => ⟨S64x128, .f32⟩
  | 45 => ⟨S64x8x256x256, .f32⟩
  | 46 => ⟨S64x8x256x256, .f32⟩
  | 47 => ⟨S128x8x256x256, .f32⟩
  | 48 => ⟨S64x128x1x1, .f32⟩
  | 49 => ⟨S64x128, .f32⟩
  | 50 => ⟨S64x8x256x256, .f32⟩
  | 51 => ⟨S64x8x256x256, .f32⟩
  | 52 => ⟨S128x8x256x256, .f32⟩
  | 53 => ⟨S64x128x1x1, .f32⟩
  | 54 => ⟨S64x128, .f32⟩
  | 55 => ⟨S64x8x256x256, .f32⟩
  | 56 => ⟨S64x8x256x256, .f32⟩
  | 57 => ⟨S128x8x256x256, .f32⟩
  | 58 => ⟨S64x128x1x1, .f32⟩
  | 59 => ⟨S64x128, .f32⟩
  | 60 => ⟨S64x8x256x256, .f32⟩
  | 61 => ⟨S64x8x256x256, .f32⟩
  | 62 => ⟨S128x8x256x256, .f32⟩
  | 63 => ⟨S64x128x1x1, .f32⟩
  | 64 => ⟨S64x128, .f32⟩
  | 65 => ⟨S64x8x256x256, .f32⟩
  | 66 => ⟨S64x8x256x256, .f32⟩
  | 67 => ⟨S128x8x256x256, .f32⟩
  | 68 => ⟨S64x128x1x1, .f32⟩
  | 69 => ⟨S64x128, .f32⟩
  | 70 => ⟨S64x8x256x256, .f32⟩
  | 71 => ⟨S64x8x256x256, .f32⟩
  | 72 => ⟨S128x8x256x256, .f32⟩
  | 73 => ⟨S64x128x1x1, .f32⟩
  | 74 => ⟨S64x128, .f32⟩
  | 75 => ⟨S64x8x256x256, .f32⟩
  | 76 => ⟨S64x8x256x256, .f32⟩
  | 77 => ⟨S_, .f32⟩
  | 78 => ⟨S64x8x256x256, .f32⟩
  | 79 => ⟨S64x8x256x256, .f32⟩
  | 80 => ⟨S_, .i32⟩
  | 81 => ⟨S_, .f32⟩
  | 82 => ⟨S64x8x258x258, .f32⟩
  | 83 => ⟨S64x8x256x256, .f32⟩
  | 84 => ⟨S2x64x1x1, .f32⟩
  | 85 => ⟨S2x64, .f32⟩
  | 86 => ⟨S2x8x256x256, .f32⟩
  | 87 => ⟨S64x8x256x256, .f32⟩
  | 88 => ⟨S2x64x1x1, .f32⟩
  | 89 => ⟨S2x64, .f32⟩
  | 90 => ⟨S2x8x256x256, .f32⟩
  | 91 => ⟨S2x8x256x256, .f32⟩
  | 92 => ⟨S64x8x256x256, .f32⟩
  | 93 => ⟨S2x64x1x1, .f32⟩
  | 94 => ⟨S2x64, .f32⟩
  | 95 => ⟨S2x8x256x256, .f32⟩
  | 96 => ⟨S2x8x256x256, .f32⟩
  | 97 => ⟨S64x8x256x256, .f32⟩
  | 98 => ⟨S2x64x1x1, .f32⟩
  | 99 => ⟨S2x64, .f32⟩
  | 100 => ⟨S2x8x256x256, .f32⟩
  | 101 => ⟨S2x8x256x256, .f32⟩
  | 102 => ⟨S64x8x256x256, .f32⟩
  | 103 => ⟨S2x64x1x1, .f32⟩
  | 104 => ⟨S2x64, .f32⟩
  | 105 => ⟨S2x8x256x256, .f32⟩
  | 106 => ⟨S2x8x256x256, .f32⟩
  | 107 => ⟨S64x8x256x256, .f32⟩
  | 108 => ⟨S2x64x1x1, .f32⟩
  | 109 => ⟨S2x64, .f32⟩
  | 110 => ⟨S2x8x256x256, .f32⟩
  | 111 => ⟨S2x8x256x256, .f32⟩
  | 112 => ⟨S64x8x256x256, .f32⟩
  | 113 => ⟨S2x64x1x1, .f32⟩
  | 114 => ⟨S2x64, .f32⟩
  | 115 => ⟨S2x8x256x256, .f32⟩
  | 116 => ⟨S2x8x256x256, .f32⟩
  | 117 => ⟨S64x8x256x256, .f32⟩
  | 118 => ⟨S2x64x1x1, .f32⟩
  | 119 => ⟨S2x64, .f32⟩
  | 120 => ⟨S2x8x256x256, .f32⟩
  | 121 => ⟨S2x8x256x256, .f32⟩
  | 122 => ⟨S64x8x256x256, .f32⟩
  | 123 => ⟨S2x64x1x1, .f32⟩
  | 124 => ⟨S2x64, .f32⟩
  | 125 => ⟨S2x8x256x256, .f32⟩
  | 126 => ⟨S2x8x256x256, .f32⟩
  | 127 => ⟨S8x2x256x256, .f32⟩
  | _ => ⟨S8x2x256x256, .f32⟩

abbrev hbmTy0_4 (i : Nat) : BufTy := match i % 128 with
  | 0 => ⟨S_, .i32⟩
  | 1 => ⟨S_, .f32⟩
  | 2 => ⟨S64x8x258x258, .f32⟩
  | 3 => ⟨S64x8x256x256, .f32⟩
  | 4 => ⟨S2x64x1x1, .f32⟩
  | 5 => ⟨S2x64, .f32⟩
  | 6 => ⟨S2x8x256x256, .f32⟩
  | 7 => ⟨S64x8x256x256, .f32⟩
  | 8 => ⟨S2x64x1x1, .f32⟩
  | 9 => ⟨S2x64, .f32⟩
  | 10 => ⟨S2x8x256x256, .f32⟩
  | 11 => ⟨S2x8x256x256, .f32⟩
  | 12 => ⟨S64x8x256x256, .f32⟩
  | 13 => ⟨S2x64x1x1, .f32⟩
  | 14 => ⟨S2x64, .f32⟩
  | 15 => ⟨S2x8x256x256, .f32⟩
  | 16 => ⟨S2x8x256x256, .f32⟩
  | 17 => ⟨S64x8x256x256, .f32⟩
  | 18 => ⟨S2x64x1x1, .f32⟩
  | 19 => ⟨S2x64, .f32⟩
  | 20 => ⟨S2x8x256x256, .f32⟩
  | 21 => ⟨S2x8x256x256, .f32⟩
  | 22 => ⟨S64x8x256x256, .f32⟩
  | 23 => ⟨S2x64x1x1, .f32⟩
  | 24 => ⟨S2x64, .f32⟩
  | 25 => ⟨S2x8x256x256, .f32⟩
  | 26 => ⟨S2x8x256x256, .f32⟩
  | 27 => ⟨S64x8x256x256, .f32⟩
  | 28 => ⟨S2x64x1x1, .f32⟩
  | 29 => ⟨S2x64, .f32⟩
  | 30 => ⟨S2x8x256x256, .f32⟩
  | 31 => ⟨S2x8x256x256, .f32⟩
  | 32 => ⟨S64x8x256x256, .f32⟩
  | 33 => ⟨S2x64x1x1, .f32⟩
  | 34 => ⟨S2x64, .f32⟩
  | 35 => ⟨S2x8x256x256, .f32⟩
  | 36 => ⟨S2x8x256x256, .f32⟩
  | 37 => ⟨S64x8x256x256, .f32⟩
  | 38 => ⟨S2x64x1x1, .f32⟩
  | 39 => ⟨S2x64, .f32⟩
  | 40 => ⟨S2x8x256x256, .f32⟩
  | 41 => ⟨S2x8x256x256, .f32⟩
  | 42 => ⟨S64x8x256x256, .f32⟩
  | 43 => ⟨S2x64x1x1, .f32⟩
  | 44 => ⟨S2x64, .f32⟩
  | 45 => ⟨S2x8x256x256, .f32⟩
  | 46 => ⟨S2x8x256x256, .f32⟩
  | 47 => ⟨S8x2x256x256, .f32⟩
  | _ => ⟨S8x2x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x2x256x256, .f32⟩

abbrev bufTy : (tb : Table) → Fin (tcTables nBuf tb) → BufTy
  | .hbm, ⟨i, _⟩ => hbmTy i
  | _, _ => ⟨S8x2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_call1_cst : Ref sig .tc := ⟨.hbm, 95, rfl⟩
abbrev main_call1_v0 : Ref sig .tc := ⟨.hbm, 96, rfl⟩
abbrev main_v81 : Ref sig .tc := ⟨.hbm, 97, rfl⟩
abbrev main_c_0 : Ref sig .tc := ⟨.hbm, 98, rfl⟩
abbrev main_call2_v0 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_call3_cst : Ref sig .tc := ⟨.hbm, 180, rfl⟩
abbrev main_call3_v0 : Ref sig .tc := ⟨.hbm, 181, rfl⟩
abbrev main_v162 : Ref sig .tc := ⟨.hbm, 182, rfl⟩
abbrev main_c_1 : Ref sig .tc := ⟨.hbm, 183, rfl⟩
abbrev main_call4_v0 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_c_2 : Ref sig .tc := ⟨.hbm, 230, rfl⟩
abbrev main_call5_v0 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_cst : Ref sig .tc := ⟨.hbm, 238, rfl⟩
abbrev main_v214 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_cst_3 : Ref sig .tc := ⟨.hbm, 243, rfl⟩
abbrev main_v218 : Ref sig .tc := ⟨.hbm, 244, rfl⟩
abbrev main_v219 : Ref sig .tc := ⟨.hbm, 245, rfl⟩
abbrev main_v220 : Ref sig .tc := ⟨.hbm, 246, rfl⟩
abbrev main_v221 : Ref sig .tc := ⟨.hbm, 247, rfl⟩
abbrev main_v222 : Ref sig .tc := ⟨.hbm, 248, rfl⟩
abbrev main_cst_4 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_call6_v0 : Ref sig .tc := ⟨.hbm, 254, rfl⟩
abbrev main_call6_cst : Ref sig .tc := ⟨.hbm, 255, rfl⟩
abbrev main_call6_c : Ref sig .tc := ⟨.hbm, 256, rfl⟩
abbrev main_call6_v1_0 : Ref sig .tc := ⟨.hbm, 257, rfl⟩
abbrev main_v227 : Ref sig .tc := ⟨.hbm, 258, rfl⟩
abbrev main_call7_c : Ref sig .tc := ⟨.hbm, 259, rfl⟩
abbrev main_call7_v0 : Ref sig .tc := ⟨.hbm, 260, rfl⟩
abbrev main_call7_v1 : Ref sig .tc := ⟨.hbm, 261, rfl⟩
abbrev main_call7_c_0 : Ref sig .tc := ⟨.hbm, 262, rfl⟩
abbrev main_call7_v2 : Ref sig .tc := ⟨.hbm, 263, rfl⟩
abbrev main_call7_v3 : Ref sig .tc := ⟨.hbm, 264, rfl⟩
abbrev main_call7_v4 : Ref sig .tc := ⟨.hbm, 265, rfl⟩
abbrev main_call7_v5 : Ref sig .tc := ⟨.hbm, 266, rfl⟩
abbrev main_call7_c_1 : Ref sig .tc := ⟨.hbm, 267, rfl⟩
abbrev main_call7_c_2 : Ref sig .tc := ⟨.hbm, 268, rfl⟩
abbrev main_call7_v6 : Ref sig .tc := ⟨.hbm, 269, rfl⟩
abbrev main_call7_v7 : Ref sig .tc := ⟨.hbm, 270, rfl⟩
abbrev main_call7_v8 : Ref sig .tc := ⟨.hbm, 271, rfl⟩
abbrev main_call7_v9 : Ref sig .tc := ⟨.hbm, 272, rfl⟩
abbrev main_call7_v10 : Ref sig .tc := ⟨.hbm, 273, rfl⟩
abbrev main_call7_v11 : Ref sig .tc := ⟨.hbm, 274, rfl⟩
abbrev main_call7_c_3 : Ref sig .tc := ⟨.hbm, 275, rfl⟩
abbrev main_call7_v12 : Ref sig .tc := ⟨.hbm, 276, rfl⟩
abbrev main_call7_v13 : Ref sig .tc := ⟨.hbm, 277, rfl⟩
abbrev main_call7_v14 : Ref sig .tc := ⟨.hbm, 278, rfl⟩
abbrev main_call7_cst : Ref sig .tc := ⟨.hbm, 279, rfl⟩
abbrev main_call7_v15 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_cst_5 : Ref sig .tc := ⟨.hbm, 284, rfl⟩
abbrev main_v231 : Ref sig .tc := ⟨.hbm, 285, rfl⟩
abbrev main_cst_6 : Ref sig .tc := ⟨.hbm, 286, rfl⟩
abbrev main_v232 : Ref sig .tc := ⟨.hbm, 287, rfl⟩
abbrev main_v233 : Ref sig .tc := ⟨.hbm, 288, rfl⟩
abbrev main_v234 : Ref sig .tc := ⟨.hbm, 289, rfl⟩
abbrev main_cst_7 : Ref sig .tc := ⟨.hbm, 290, rfl⟩
abbrev main_v235 : Ref sig .tc := ⟨.hbm, 291, rfl⟩
abbrev main_cst_8 : Ref sig .tc := ⟨.hbm, 292, rfl⟩
abbrev main_v236 : Ref sig .tc := ⟨.hbm, 293, rfl⟩
abbrev main_cst_9 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_c_10 : Ref sig .tc := ⟨.hbm, 301, rfl⟩
abbrev main_call8_v0 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_c_11 : Ref sig .tc := ⟨.hbm, 306, rfl⟩
abbrev main_call9_v0 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_v267 : Ref sig .tc := ⟨.hbm, 329, rfl⟩
abbrev main_v268 : Ref sig .tc := ⟨.hbm, 330, rfl⟩
abbrev main_v269 : Ref sig .tc := ⟨.hbm, 331, rfl⟩
abbrev main_v270 : Ref sig .tc := ⟨.hbm, 332, rfl⟩
abbrev main_v271 : Ref sig .tc := ⟨.hbm, 333, rfl⟩
abbrev main_v272 : Ref sig .tc := ⟨.hbm, 334, rfl⟩
abbrev main_v273 : Ref sig .tc := ⟨.hbm, 335, rfl⟩
abbrev main_v274 : Ref sig .tc := ⟨.hbm, 336, rfl⟩
abbrev main_v275 : Ref sig .tc := ⟨.hbm, 337, rfl⟩
abbrev main_v276 : Ref sig .tc := ⟨.hbm, 338, rfl⟩
abbrev main_v277 : Ref sig .tc := ⟨.hbm, 339, rfl⟩
abbrev main_v278 : Ref sig .tc := ⟨.hbm, 340, rfl⟩
abbrev main_v279 : Ref sig .tc := ⟨.hbm, 341, rfl⟩
abbrev main_v280 : Ref sig .tc := ⟨.hbm, 342, rfl⟩
abbrev main_v281 : Ref sig .tc := ⟨.hbm, 343, rfl⟩
abbrev main_v282 : Ref sig .tc := ⟨.hbm, 344, rfl⟩
abbrev main_v283 : Ref sig .tc := ⟨.hbm, 345, rfl⟩
abbrev main_v284 : Ref sig .tc := ⟨.hbm, 346, rfl⟩
abbrev main_v285 : Ref sig .tc := ⟨.hbm, 347, rfl⟩
abbrev main_v286 : Ref sig .tc := ⟨.hbm, 348, rfl⟩
abbrev main_v287 : Ref sig .tc := ⟨.hbm, 349, rfl⟩
abbrev main_v288 : Ref sig .tc := ⟨.hbm, 350, rfl⟩
abbrev main_v289 : Ref sig .tc := ⟨.hbm, 351, rfl⟩
abbrev main_v290 : Ref sig .tc := ⟨.hbm, 352, rfl⟩
abbrev main_call10_cst : Ref sig .tc := ⟨.hbm, 353, rfl⟩
abbrev main_call10_v0 : Ref sig .tc := ⟨.hbm, 354, rfl⟩
abbrev main_v291 : Ref sig .tc := ⟨.hbm, 355, rfl⟩
abbrev main_v292 : Ref sig .tc := ⟨.hbm, 356, rfl⟩
abbrev main_v293 : Ref sig .tc := ⟨.hbm, 357, rfl⟩
abbrev main_v294 : Ref sig .tc := ⟨.hbm, 358, rfl⟩
abbrev main_v295 : Ref sig .tc := ⟨.hbm, 359, rfl⟩
abbrev main_c_12 : Ref sig .tc := ⟨.hbm, 360, rfl⟩
abbrev main_call11_v0 : Ref sig .tc := ⟨.hbm, 361, rfl⟩
abbrev main_v296 : Ref sig .tc := ⟨.hbm, 362, rfl⟩
abbrev main_v297 : Ref sig .tc := ⟨.hbm, 363, rfl⟩
abbrev main_v298 : Ref sig .tc := ⟨.hbm, 364, rfl⟩
abbrev main_v299 : Ref sig .tc := ⟨.hbm, 365, rfl⟩
abbrev main_v300 : Ref sig .tc := ⟨.hbm, 366, rfl⟩
abbrev main_v301 : Ref sig .tc := ⟨.hbm, 367, rfl⟩
abbrev main_v302 : Ref sig .tc := ⟨.hbm, 368, rfl⟩
abbrev main_v303 : Ref sig .tc := ⟨.hbm, 369, rfl⟩
abbrev main_v304 : Ref sig .tc := ⟨.hbm, 370, rfl⟩
abbrev main_v305 : Ref sig .tc := ⟨.hbm, 371, rfl⟩
abbrev main_v306 : Ref sig .tc := ⟨.hbm, 372, rfl⟩
abbrev main_v307 : Ref sig .tc := ⟨.hbm, 373, rfl⟩
abbrev main_v308 : Ref sig .tc := ⟨.hbm, 374, rfl⟩
abbrev main_v309 : Ref sig .tc := ⟨.hbm, 375, rfl⟩
abbrev main_v310 : Ref sig .tc := ⟨.hbm, 376, rfl⟩
abbrev main_v311 : Ref sig .tc := ⟨.hbm, 377, rfl⟩
abbrev main_v312 : Ref sig .tc := ⟨.hbm, 378, rfl⟩
abbrev main_v313 : Ref sig .tc := ⟨.hbm, 379, rfl⟩
abbrev main_v314 : Ref sig .tc := ⟨.hbm, 380, rfl⟩
abbrev main_v315 : Ref sig .tc := ⟨.hbm, 381, rfl⟩
abbrev main_v316 : Ref sig .tc := ⟨.hbm, 382, rfl⟩
abbrev main_v317 : Ref sig .tc := ⟨.hbm, 383, rfl⟩
abbrev main_v318 : Ref sig .tc := ⟨.hbm, 384, rfl⟩
abbrev main_v319 : Ref sig .tc := ⟨.hbm, 385, rfl⟩
abbrev main_v320 : Ref sig .tc := ⟨.hbm, 386, rfl⟩
abbrev main_v321 : Ref sig .tc := ⟨.hbm, 387, rfl⟩
abbrev main_v322 : Ref sig .tc := ⟨.hbm, 388, rfl⟩
abbrev main_v323 : Ref sig .tc := ⟨.hbm, 389, rfl⟩
abbrev main_v324 : Ref sig .tc := ⟨.hbm, 390, rfl⟩
abbrev main_v325 : Ref sig .tc := ⟨.hbm, 391, rfl⟩
abbrev main_v326 : Ref sig .tc := ⟨.hbm, 392, rfl⟩
abbrev main_v327 : Ref sig .tc := ⟨.hbm, 393, rfl⟩
abbrev main_v328 : Ref sig .tc := ⟨.hbm, 394, rfl⟩
abbrev main_v329 : Ref sig .tc := ⟨.hbm, 395, rfl⟩
abbrev main_v330 : Ref sig .tc := ⟨.hbm, 396, rfl⟩
abbrev main_v331 : Ref sig .tc := ⟨.hbm, 397, rfl⟩
abbrev main_v332 : Ref sig .tc := ⟨.hbm, 398, rfl⟩
abbrev main_v333 : Ref sig .tc := ⟨.hbm, 399, rfl⟩
abbrev main_v334 : Ref sig .tc := ⟨.hbm, 400, rfl⟩
abbrev main_v335 : Ref sig .tc := ⟨.hbm, 401, rfl⟩
abbrev main_v336 : Ref sig .tc := ⟨.hbm, 402, rfl⟩
abbrev main_v337 : Ref sig .tc := ⟨.hbm, 403, rfl⟩
abbrev main_v338 : Ref sig .tc := ⟨.hbm, 404, rfl⟩
abbrev main_v339 : Ref sig .tc := ⟨.hbm, 405, rfl⟩
abbrev main_v340 : Ref sig .tc := ⟨.hbm, 406, rfl⟩
abbrev main_call12_cst : Ref sig .tc := ⟨.hbm, 407, rfl⟩
abbrev main_call12_v0 : Ref sig .tc := ⟨.hbm, 408, rfl⟩
abbrev main_v341 : Ref sig .tc := ⟨.hbm, 409, rfl⟩
abbrev main_v342 : Ref sig .tc := ⟨.hbm, 410, rfl⟩
abbrev main_v343 : Ref sig .tc := ⟨.hbm, 411, rfl⟩
abbrev main_v344 : Ref sig .tc := ⟨.hbm, 412, rfl⟩
abbrev main_v345 : Ref sig .tc := ⟨.hbm, 413, rfl⟩
abbrev main_c_13 : Ref sig .tc := ⟨.hbm, 414, rfl⟩
abbrev main_call13_v0 : Ref sig .tc := ⟨.hbm, 415, rfl⟩
abbrev main_v346 : Ref sig .tc := ⟨.hbm, 416, rfl⟩
abbrev main_v347 : Ref sig .tc := ⟨.hbm, 417, rfl⟩
abbrev main_v348 : Ref sig .tc := ⟨.hbm, 418, rfl⟩
abbrev main_v349 : Ref sig .tc := ⟨.hbm, 419, rfl⟩
abbrev main_v350 : Ref sig .tc := ⟨.hbm, 420, rfl⟩
abbrev main_v351 : Ref sig .tc := ⟨.hbm, 421, rfl⟩
abbrev main_v352 : Ref sig .tc := ⟨.hbm, 422, rfl⟩
abbrev main_v353 : Ref sig .tc := ⟨.hbm, 423, rfl⟩
abbrev main_v354 : Ref sig .tc := ⟨.hbm, 424, rfl⟩
abbrev main_v355 : Ref sig .tc := ⟨.hbm, 425, rfl⟩
abbrev main_v356 : Ref sig .tc := ⟨.hbm, 426, rfl⟩
abbrev main_v357 : Ref sig .tc := ⟨.hbm, 427, rfl⟩
abbrev main_v358 : Ref sig .tc := ⟨.hbm, 428, rfl⟩
abbrev main_v359 : Ref sig .tc := ⟨.hbm, 429, rfl⟩
abbrev main_v360 : Ref sig .tc := ⟨.hbm, 430, rfl⟩
abbrev main_v361 : Ref sig .tc := ⟨.hbm, 431, rfl⟩
abbrev main_v362 : Ref sig .tc := ⟨.hbm, 432, rfl⟩
abbrev main_v363 : Ref sig .tc := ⟨.hbm, 433, rfl⟩
abbrev main_v364 : Ref sig .tc := ⟨.hbm, 434, rfl⟩
abbrev main_v365 : Ref sig .tc := ⟨.hbm, 435, rfl⟩
abbrev main_v366 : Ref sig .tc := ⟨.hbm, 436, rfl⟩
abbrev main_v367 : Ref sig .tc := ⟨.hbm, 437, rfl⟩
abbrev main_v368 : Ref sig .tc := ⟨.hbm, 438, rfl⟩
abbrev main_v369 : Ref sig .tc := ⟨.hbm, 439, rfl⟩
abbrev main_v370 : Ref sig .tc := ⟨.hbm, 440, rfl⟩
abbrev main_v371 : Ref sig .tc := ⟨.hbm, 441, rfl⟩
abbrev main_v372 : Ref sig .tc := ⟨.hbm, 442, rfl⟩
abbrev main_v373 : Ref sig .tc := ⟨.hbm, 443, rfl⟩
abbrev main_v374 : Ref sig .tc := ⟨.hbm, 444, rfl⟩
abbrev main_v375 : Ref sig .tc := ⟨.hbm, 445, rfl⟩
abbrev main_v376 : Ref sig .tc := ⟨.hbm, 446, rfl⟩
abbrev main_v377 : Ref sig .tc := ⟨.hbm, 447, rfl⟩
abbrev main_v378 : Ref sig .tc := ⟨.hbm, 448, rfl⟩
abbrev main_v379 : Ref sig .tc := ⟨.hbm, 449, rfl⟩
abbrev main_v380 : Ref sig .tc := ⟨.hbm, 450, rfl⟩
abbrev main_v381 : Ref sig .tc := ⟨.hbm, 451, rfl⟩
abbrev main_v382 : Ref sig .tc := ⟨.hbm, 452, rfl⟩
abbrev main_v383 : Ref sig .tc := ⟨.hbm, 453, rfl⟩
abbrev main_v384 : Ref sig .tc := ⟨.hbm, 454, rfl⟩
abbrev main_v385 : Ref sig .tc := ⟨.hbm, 455, rfl⟩
abbrev main_v386 : Ref sig .tc := ⟨.hbm, 456, rfl⟩
abbrev main_v387 : Ref sig .tc := ⟨.hbm, 457, rfl⟩
abbrev main_v388 : Ref sig .tc := ⟨.hbm, 458, rfl⟩
abbrev main_v389 : Ref sig .tc := ⟨.hbm, 459, rfl⟩
abbrev main_v390 : Ref sig .tc := ⟨.hbm, 460, rfl⟩
abbrev main_call14_cst : Ref sig .tc := ⟨.hbm, 461, rfl⟩
abbrev main_call14_v0 : Ref sig .tc := ⟨.hbm, 462, rfl⟩
abbrev main_v391 : Ref sig .tc := ⟨.hbm, 463, rfl⟩
abbrev main_c_14 : Ref sig .tc := ⟨.hbm, 464, rfl⟩
abbrev main_call15_v0 : Ref sig .tc := ⟨.hbm, 465, rfl⟩
abbrev main_v392 : Ref sig .tc := ⟨.hbm, 466, rfl⟩
abbrev main_v393 : Ref sig .tc := ⟨.hbm, 467, rfl⟩
abbrev main_v394 : Ref sig .tc := ⟨.hbm, 468, rfl⟩
abbrev main_v395 : Ref sig .tc := ⟨.hbm, 469, rfl⟩
abbrev main_v396 : Ref sig .tc := ⟨.hbm, 470, rfl⟩
abbrev main_v397 : Ref sig .tc := ⟨.hbm, 471, rfl⟩
abbrev main_v398 : Ref sig .tc := ⟨.hbm, 472, rfl⟩
abbrev main_v399 : Ref sig .tc := ⟨.hbm, 473, rfl⟩
abbrev main_v400 : Ref sig .tc := ⟨.hbm, 474, rfl⟩
abbrev main_v401 : Ref sig .tc := ⟨.hbm, 475, rfl⟩
abbrev main_v402 : Ref sig .tc := ⟨.hbm, 476, rfl⟩
abbrev main_v403 : Ref sig .tc := ⟨.hbm, 477, rfl⟩
abbrev main_v404 : Ref sig .tc := ⟨.hbm, 478, rfl⟩
abbrev main_v405 : Ref sig .tc := ⟨.hbm, 479, rfl⟩
abbrev main_v406 : Ref sig .tc := ⟨.hbm, 480, rfl⟩
abbrev main_v407 : Ref sig .tc := ⟨.hbm, 481, rfl⟩
abbrev main_v408 : Ref sig .tc := ⟨.hbm, 482, rfl⟩
abbrev main_v409 : Ref sig .tc := ⟨.hbm, 483, rfl⟩
abbrev main_v410 : Ref sig .tc := ⟨.hbm, 484, rfl⟩
abbrev main_v411 : Ref sig .tc := ⟨.hbm, 485, rfl⟩
abbrev main_v412 : Ref sig .tc := ⟨.hbm, 486, rfl⟩
abbrev main_v413 : Ref sig .tc := ⟨.hbm, 487, rfl⟩
abbrev main_v414 : Ref sig .tc := ⟨.hbm, 488, rfl⟩
abbrev main_v415 : Ref sig .tc := ⟨.hbm, 489, rfl⟩
abbrev main_v416 : Ref sig .tc := ⟨.hbm, 490, rfl⟩
abbrev main_v417 : Ref sig .tc := ⟨.hbm, 491, rfl⟩
abbrev main_v418 : Ref sig .tc := ⟨.hbm, 492, rfl⟩
abbrev main_v419 : Ref sig .tc := ⟨.hbm, 493, rfl⟩
abbrev main_v420 : Ref sig .tc := ⟨.hbm, 494, rfl⟩
abbrev main_v421 : Ref sig .tc := ⟨.hbm, 495, rfl⟩
abbrev main_v422 : Ref sig .tc := ⟨.hbm, 496, rfl⟩
abbrev main_v423 : Ref sig .tc := ⟨.hbm, 497, rfl⟩
abbrev main_v424 : Ref sig .tc := ⟨.hbm, 498, rfl⟩
abbrev main_v425 : Ref sig .tc := ⟨.hbm, 499, rfl⟩
abbrev main_v426 : Ref sig .tc := ⟨.hbm, 500, rfl⟩
abbrev main_v427 : Ref sig .tc := ⟨.hbm, 501, rfl⟩
abbrev main_v428 : Ref sig .tc := ⟨.hbm, 502, rfl⟩
abbrev main_v429 : Ref sig .tc := ⟨.hbm, 503, rfl⟩
abbrev main_v430 : Ref sig .tc := ⟨.hbm, 504, rfl⟩
abbrev main_v431 : Ref sig .tc := ⟨.hbm, 505, rfl⟩
abbrev main_v432 : Ref sig .tc := ⟨.hbm, 506, rfl⟩
abbrev main_v433 : Ref sig .tc := ⟨.hbm, 507, rfl⟩
abbrev main_v434 : Ref sig .tc := ⟨.hbm, 508, rfl⟩
abbrev main_v435 : Ref sig .tc := ⟨.hbm, 509, rfl⟩
abbrev main_v436 : Ref sig .tc := ⟨.hbm, 510, rfl⟩
abbrev main_v437 : Ref sig .tc := ⟨.hbm, 511, rfl⟩
abbrev main_c_15 : Ref sig .tc := ⟨.hbm, 512, rfl⟩
abbrev main_call16_v0 : Ref sig .tc := ⟨.hbm, 513, rfl⟩
abbrev main_v438 : Ref sig .tc := ⟨.hbm, 514, rfl⟩
abbrev main_v439 : Ref sig .tc := ⟨.hbm, 515, rfl⟩
abbrev main_v440 : Ref sig .tc := ⟨.hbm, 516, rfl⟩
abbrev main_v441 : Ref sig .tc := ⟨.hbm, 517, rfl⟩
abbrev main_v442 : Ref sig .tc := ⟨.hbm, 518, rfl⟩
abbrev main_v443 : Ref sig .tc := ⟨.hbm, 519, rfl⟩
abbrev main_v444 : Ref sig .tc := ⟨.hbm, 520, rfl⟩
abbrev main_v445 : Ref sig .tc := ⟨.hbm, 521, rfl⟩
abbrev main_v446 : Ref sig .tc := ⟨.hbm, 522, rfl⟩
abbrev main_v447 : Ref sig .tc := ⟨.hbm, 523, rfl⟩
abbrev main_v448 : Ref sig .tc := ⟨.hbm, 524, rfl⟩
abbrev main_v449 : Ref sig .tc := ⟨.hbm, 525, rfl⟩
abbrev main_v450 : Ref sig .tc := ⟨.hbm, 526, rfl⟩
abbrev main_v451 : Ref sig .tc := ⟨.hbm, 527, rfl⟩
abbrev main_v452 : Ref sig .tc := ⟨.hbm, 528, rfl⟩
abbrev main_v453 : Ref sig .tc := ⟨.hbm, 529, rfl⟩
abbrev main_v454 : Ref sig .tc := ⟨.hbm, 530, rfl⟩
abbrev main_v455 : Ref sig .tc := ⟨.hbm, 531, rfl⟩
abbrev main_v456 : Ref sig .tc := ⟨.hbm, 532, rfl⟩
abbrev main_v457 : Ref sig .tc := ⟨.hbm, 533, rfl⟩
abbrev main_v458 : Ref sig .tc := ⟨.hbm, 534, rfl⟩
abbrev main_v459 : Ref sig .tc := ⟨.hbm, 535, rfl⟩
abbrev main_v460 : Ref sig .tc := ⟨.hbm, 536, rfl⟩
abbrev main_v461 : Ref sig .tc := ⟨.hbm, 537, rfl⟩
abbrev main_v462 : Ref sig .tc := ⟨.hbm, 538, rfl⟩
abbrev main_v463 : Ref sig .tc := ⟨.hbm, 539, rfl⟩
abbrev main_v464 : Ref sig .tc := ⟨.hbm, 540, rfl⟩
abbrev main_v465 : Ref sig .tc := ⟨.hbm, 541, rfl⟩
abbrev main_v466 : Ref sig .tc := ⟨.hbm, 542, rfl⟩
abbrev main_v467 : Ref sig .tc := ⟨.hbm, 543, rfl⟩
abbrev main_v468 : Ref sig .tc := ⟨.hbm, 544, rfl⟩
abbrev main_v469 : Ref sig .tc := ⟨.hbm, 545, rfl⟩
abbrev main_v470 : Ref sig .tc := ⟨.hbm, 546, rfl⟩
abbrev main_v471 : Ref sig .tc := ⟨.hbm, 547, rfl⟩
abbrev main_v472 : Ref sig .tc := ⟨.hbm, 548, rfl⟩
abbrev main_v473 : Ref sig .tc := ⟨.hbm, 549, rfl⟩
abbrev main_v474 : Ref sig .tc := ⟨.hbm, 550, rfl⟩
abbrev main_v475 : Ref sig .tc := ⟨.hbm, 551, rfl⟩
abbrev main_v476 : Ref sig .tc := ⟨.hbm, 552, rfl⟩
abbrev main_v477 : Ref sig .tc := ⟨.hbm, 553, rfl⟩
abbrev main_v478 : Ref sig .tc := ⟨.hbm, 554, rfl⟩
abbrev main_v479 : Ref sig .tc := ⟨.hbm, 555, rfl⟩
abbrev main_v480 : Ref sig .tc := ⟨.hbm, 556, rfl⟩
abbrev main_v481 : Ref sig .tc := ⟨.hbm, 557, rfl⟩
abbrev main_v482 : Ref sig .tc := ⟨.hbm, 558, rfl⟩
abbrev main_v483 : Ref sig .tc := ⟨.hbm, 559, rfl⟩

abbrev nD : Nat := 1
abbrev τ : Topo := Topo.v7x

variable {F : FTy → Type} [FloatOps F]
-- ==== Proof.Nearest.lean ====
module

public import Idealize.ShloMosaic.PureOps.Ideal
public import Idealize.ShloMosaic.PureOps.Reduce
public import Idealize.ShloMosaic.PureOps.Ideal.Laws
public import Idealize.ShloMosaic.Lib.Pointwise
public import Idealize.ShloMosaic.Lib.SortNet.Extract

/-! The index of the least entry of a row, the first of several: as a minimum over indices, as the kernel finds it by two minima,
and as a fold over pairs of a value and its index. The names say nothing of any program. -/

@[expose] public section

noncomputable section

namespace Cert.Proof

open Idealize.ShloMosaic

/-- The indices whose entry is least. -/
def leasts (D : Fin 1024 → EReal) : Finset (Fin 1024) := Finset.univ.filter fun k => ∀ j, D k ≤ D j

theorem leasts_nonempty (D : Fin 1024 → EReal) : (leasts D).Nonempty := by
  obtain ⟨k, -, hk⟩ := Finset.exists_min_image Finset.univ D ⟨0, Finset.mem_univ _⟩
  exact ⟨k, by simp only [leasts, Finset.mem_filter, Finset.mem_univ, true_and]; exact fun j => hk j (Finset.mem_univ _)⟩

/-- The first index whose entry is least. -/
def nearest (D : Fin 1024 → EReal) : Fin 1024 := (leasts D).min' (leasts_nonempty D)

theorem nearest_le (D : Fin 1024 → EReal) (j : Fin 1024) : D (nearest D) ≤ D j := by
  have h := (leasts D).min'_mem (leasts_nonempty D)
  simp only [leasts, Finset.mem_filter, Finset.mem_univ, true_and] at h
  exact h j

theorem nearest_first (D : Fin 1024 → EReal) (k : Fin 1024) (h : ∀ j, D k ≤ D j) : nearest D ≤ k :=
  Finset.min'_le _ _ (by simp only [leasts, Finset.mem_filter, Finset.mem_univ, true_and]; exact h)

/-! ### By two minima -/

/-- The least entry, as a fold, is the entry at `nearest`. -/
theorem fold_min_eq (D : Fin 1024 → EReal) : Finset.fold min (⊤ : EReal) D Finset.univ = D (nearest D) := by
  apply le_antisymm
  · rw [Finset.fold_min_le]; exact Or.inr ⟨_, Finset.mem_univ _, le_rfl⟩
  · rw [Finset.le_fold_min]; exact ⟨le_top, fun j _ => nearest_le D j⟩

theorem ofNat_toInt (k : Fin 1024) : (BitVec.ofNat 32 k.val).toInt = k.val := by
  have := k.isLt
  rw [BitVec.toInt_eq_toNat_of_lt (by rw [BitVec.toNat_ofNat]; omega), BitVec.toNat_ofNat, Nat.mod_eq_of_lt (by omega)]

/-- The least index among those whose entry is the least one. -/
theorem fold_minsi_eq (D : Fin 1024 → EReal) (M : EReal) (hM : M = D (nearest D)) :
    Finset.fold IntOp.minsi (2147483647#32) (fun k : Fin 1024 => if D k = M then BitVec.ofNat 32 k.val else 1073741824#32) Finset.univ
      = BitVec.ofNat 32 (nearest D).val := by
  subst hM
  apply BitVec.eq_of_toInt_eq
  rw [← Finset.fold_hom (op' := min) (m := BitVec.toInt) (SortNet.toInt_minsi), ofNat_toInt]
  have hb : (2147483647#32).toInt = 2147483647 := by decide
  have hc : (1073741824#32).toInt = 1073741824 := by decide
  have hl := (nearest D).isLt
  rw [hb]
  apply le_antisymm
  · rw [Finset.fold_min_le]
    refine Or.inr ⟨nearest D, Finset.mem_univ _, ?_⟩
    rw [if_pos rfl, ofNat_toInt]
  · rw [Finset.le_fold_min]
    refine ⟨by omega, fun k _ => ?_⟩
    split
    · next h =>
      rw [ofNat_toInt]
      have : nearest D ≤ k := nearest_first D k fun j => h ▸ nearest_le D j
      exact_mod_cast this
    · rw [hc]; omega

/-- A row of zeros with a one at index `n`. -/
theorem onehot_eq (k n : Fin 1024) :
    (FloatOps.sitofp .f32 (BitVec.setWidth 32 (IntOp.cmpi .eq (BitVec.ofNat 32 k.val) (BitVec.ofNat 32 n.val))) : Ideal .f32)
      = if k = n then (1 : EReal) else 0 := by
  by_cases h : k = n
  · subst h
    rw [if_pos rfl]
    have : IntOp.cmpi .eq (BitVec.ofNat 32 k.val) (BitVec.ofNat 32 k.val) = 1#1 := by simp [IntOp.cmpi]
    rw [this]
    show (((BitVec.setWidth 32 (1#1)).toInt : ℝ) : EReal) = 1
    rw [show (BitVec.setWidth 32 (1#1)).toInt = 1 by decide]
    norm_num
  · rw [if_neg h]
    have hne : BitVec.ofNat 32 k.val ≠ BitVec.ofNat 32 n.val := by
      intro e
      have := congrArg BitVec.toInt e
      rw [ofNat_toInt, ofNat_toInt] at this
      exact h (Fin.ext (by exact_mod_cast this))
    have : IntOp.cmpi .eq (BitVec.ofNat 32 k.val) (BitVec.ofNat 32 n.val) = 0#1 := by
      show BitVec.ofBool (BitVec.ofNat 32 k.val == BitVec.ofNat 32 n.val) = 0#1
      rw [beq_false_of_ne hne]; rfl
    rw [this]
    show (((BitVec.setWidth 32 (0#1)).toInt : ℝ) : EReal) = 0
    rw [show (BitVec.setWidth 32 (0#1)).toInt = 0 by decide]
    norm_num

theorem sum_onehot (n : Fin 1024) (f : Fin 1024 → EReal) : (∑ k : Fin 1024, (if k = n then (1 : EReal) else 0) * f k) = f n := by
  rw [Finset.sum_eq_single n]
  · rw [if_pos rfl, one_mul]
  · intro k _ h; rw [if_neg h, zero_mul]
  · intro h; exact absurd (Finset.mem_univ _) h

/-! ### The quantizer's row -/

/-- The squared distance of a row to each row of the codebook, multiplied out. -/
def dist (z : Fin 256 → EReal) (cb : Fin 1024 → Fin 256 → EReal) (k : Fin 1024) : EReal :=
  ∑ x : Fin 256, z x * z x - Ideal.ofBits .f32 1073741824#32 * ∑ x : Fin 256, z x * cb k x + ∑ x : Fin 256, cb k x * cb k x

/-- The nearest row of the codebook. -/
def quantRow (z : Fin 256 → EReal) (cb : Fin 1024 → Fin 256 → EReal) (e : Fin 256) : EReal := cb (nearest (dist z cb)) e

theorem top_bits : Ideal.ofBits .f32 2139095040#32 = (⊤ : EReal) := by simp [Ideal.ofBits, Ideal.ieee]

/-! ### By a fold over pairs -/

/-- One pair is before another: a lesser value, or the same value at an index not greater. -/
def Before (p q : EReal × BitVec 32) : Prop := p.1 < q.1 ∨ (p.1 = q.1 ∧ p.2.toInt ≤ q.2.toInt)

theorem Before.refl (p : EReal × BitVec 32) : Before p p := Or.inr ⟨rfl, le_rfl⟩
theorem Before.trans {p q r : EReal × BitVec 32} (h : Before p q) (h' : Before q r) : Before p r := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

/-- A step that keeps one of its two pairs, and the earlier one. -/
structure Picks (f : EReal × BitVec 32 → EReal × BitVec 32 → EReal × BitVec 32) : Prop where
  mem : ∀ a b, f a b = a ∨ f a b = b
  left : ∀ a b, Before (f a b) a
  right : ∀ a b, Before (f a b) b

theorem foldl_picks {ι : Type} {f : EReal × BitVec 32 → EReal × BitVec 32 → EReal × BitVec 32} (hf : Picks f) (g : ι → EReal × BitVec 32) :
    ∀ (l : List ι) (a : EReal × BitVec 32),
      (l.foldl (fun r n => f r (g n)) a = a ∨ ∃ n ∈ l, l.foldl (fun r n => f r (g n)) a = g n)
        ∧ Before (l.foldl (fun r n => f r (g n)) a) a ∧ ∀ n ∈ l, Before (l.foldl (fun r n => f r (g n)) a) (g n)
  | [], a => ⟨Or.inl rfl, Before.refl a, fun n h => absurd h List.not_mem_nil⟩
  | x :: l, a => by
    obtain ⟨h1, h2, h3⟩ := foldl_picks hf g l (f a (g x))
    refine ⟨?_, h2.trans (hf.left _ _), ?_⟩
    · rcases h1 with h1 | ⟨n, hn, h1⟩
      · rcases hf.mem a (g x) with h | h
        · exact Or.inl (h1.trans h)
        · exact Or.inr ⟨x, List.mem_cons_self, h1.trans h⟩
      · exact Or.inr ⟨n, List.mem_cons_of_mem _ hn, h1⟩
    · intro n hn
      rcases List.mem_cons.mp hn with rfl | hn
      · exact h2.trans (hf.right _ _)
      · exact h3 n hn

/-- The fold over the pairs of a row, from the pair `(⊤, 0)`, ends at the first least index. -/
theorem foldl_nearest {ι : Type} {f : EReal × BitVec 32 → EReal × BitVec 32 → EReal × BitVec 32} (hf : Picks f) (D : Fin 1024 → EReal)
    (g : ι → EReal × BitVec 32) (l : List ι) (hg : ∀ n ∈ l, ∃ k, g n = (D k, BitVec.ofNat 32 k.val))
    (hk : ∀ k, ∃ n ∈ l, g n = (D k, BitVec.ofNat 32 k.val)) :
    (l.foldl (fun r n => f r (g n)) (⊤, 0#32)).2 = BitVec.ofNat 32 (nearest D).val := by
  obtain ⟨h1, -, h3⟩ := foldl_picks hf g l (⊤, 0#32)
  generalize l.foldl (fun r n => f r (g n)) (⊤, 0#32) = r at h1 h3 ⊢
  have hle : ∀ k, Before r (D k, BitVec.ofNat 32 k.val) := fun k => by
    obtain ⟨n, hn, e⟩ := hk k; exact e ▸ h3 n hn
  have hval : ∀ k, r.1 ≤ D k := fun k => by
    rcases hle k with h | ⟨h, -⟩
    · exact h.le
    · exact h.le
  have hr : ∃ k : Fin 1024, r.1 = D k ∧ r.2 = BitVec.ofNat 32 k.val := by
    rcases h1 with h | ⟨n, hn, h⟩
    · refine ⟨0, ?_, by rw [h]; rfl⟩
      have := hval 0
      rw [h] at this ⊢
      exact (top_le_iff.mp this).symm
    · obtain ⟨k, e⟩ := hg n hn
      exact ⟨k, by rw [h, e], by rw [h, e]⟩
  obtain ⟨k, e1, e2⟩ := hr
  have hkn : nearest D = k := by
    apply le_antisymm (nearest_first D k fun j => e1 ▸ hval j)
    rcases hle (nearest D) with h | ⟨-, h⟩
    · exact absurd (nearest_le D k) (by rw [← e1]; exact not_le.mpr h)
    · rw [e2, ofNat_toInt, ofNat_toInt] at h; exact_mod_cast h
  rw [e2, hkn]

/-- The reduction over pairs along a row of distances, each with its own index, ends at the first least index. -/
theorem argReduce_nearest {N : ℕ} {u : Shape} {f : EReal × BitVec 32 → EReal × BitVec 32 → EReal × BitVec 32} (hf : Picks f)
    (D : FVec Ideal ⟨2, ![N, 1024]⟩ .f32) (y : (⟨2, ![N, 1024]⟩ : Shape).Idx → BitVec 32) (x0 : FVec Ideal u .f32) (y0 : u.Idx → BitVec 32)
    (hy : ∀ n k, y (ix2 n k) = BitVec.ofNat 32 k.val) {j : u.Idx} (hx0 : x0 j = (⊤ : EReal)) (hy0 : y0 j = 0#32)
    (h : (⟨2, ![N, 1024]⟩ : Shape).ReducesTo [1] ⟨1, ![N]⟩) (hu : 0 < u.numel) (n : Fin N) (hj : j = Shape.Idx.first hu := by rfl) :
    (Host.argReduce (F := Ideal) (φ := .f32) f D y x0 y0 h hu (ix1 n)).2 = BitVec.ofNat 32 (nearest fun k => D (ix2 n k)).val := by
  subst hj
  rw [Ideal.argReduce_eq_reduce2]
  unfold Host.reduce2
  have hdrop : ∀ i : (⟨2, ![N, 1024]⟩ : Shape).Idx, (h.drop i 0 : Nat) = i 0 := fun i => Shape.ReducesTo.drop_apply_val_of_eq h i 0 0 Nat.one_pos rfl
  rw [show (x0 (Shape.Idx.first hu), y0 (Shape.Idx.first hu)) = ((⊤ : EReal), 0#32) from Prod.ext hx0 hy0]
  refine foldl_nearest hf (fun k => D (ix2 n k)) (fun m => (D ((⟨2, ![N, 1024]⟩ : Shape).rowMajor.symm m), y ((⟨2, ![N, 1024]⟩ : Shape).rowMajor.symm m))) _ ?_ ?_
  · intro m hm
    have hm' := of_decide_eq_true (List.mem_filter.mp hm).2
    have h0 : ((⟨2, ![N, 1024]⟩ : Shape).rowMajor.symm m 0).val = n.val := by rw [← hdrop, hm']; rfl
    refine ⟨(⟨2, ![N, 1024]⟩ : Shape).rowMajor.symm m 1, ?_⟩
    have e : (⟨2, ![N, 1024]⟩ : Shape).rowMajor.symm m = ix2 n ((⟨2, ![N, 1024]⟩ : Shape).rowMajor.symm m 1) :=
      (eq_ix2 _).trans (congrArg (fun p => ix2 p _) (Fin.ext h0))
    exact Prod.ext (congrArg D e) ((congrArg y e).trans (hy _ _))
  · intro k
    refine ⟨(⟨2, ![N, 1024]⟩ : Shape).rowMajor (ix2 n k), List.mem_filter.mpr ⟨List.mem_finRange _, decide_eq_true ?_⟩, ?_⟩
    · rw [Equiv.symm_apply_apply]
      funext b
      obtain rfl : b = 0 := Subsingleton.elim (α := Fin 1) b 0
      exact Fin.ext (hdrop _)
    · simp only [Equiv.symm_apply_apply, hy]

end Cert.Proof

end
-- ==== Proof.KTaps.lean ====
module

public import Idealize.ShloMosaic.PureOps.Ideal
public import Idealize.ShloMosaic.Lib.Pointwise

/-! What the blocks of a tap convolution compute, as sums over arrays: the products of one tap, the taps of one kernel call in
the order it adds them. The names say nothing of any program. -/

@[expose] public section

noncomputable section

namespace Cert.Proof

open Idealize.ShloMosaic

/-- A float array of four axes. -/
abbrev A4 (a b c d : ℕ) := FVec Ideal ⟨4, ![a, b, c, d]⟩ .f32

/-- Column `u` moved right by `d` in a row that is `D` longer. -/
def sh {W W' : ℕ} (D : ℕ) (hW : W' = W + D) (d : ℕ) (hd : d ≤ D) (u : Fin W) : Fin W' := ⟨u.val + d, by omega⟩

/-- One tap: a pixel's channels against one tap's weights. -/
def tapK {H W C O R S : ℕ} (X : A4 8 H W C) (w : A4 R S C O) (r : Fin R) (s : Fin S) (b : Fin 8) (h : Fin H) (u : Fin W) (o : Fin O) : EReal :=
  ∑ k : Fin C, X (ix4 b h u k) * w (ix4 r s k o)

/-- Two by two taps. -/
def conv2K {H W W' C O : ℕ} (hW : W' = W + 1) (X0 X1 : A4 8 H W' C) (w : A4 2 2 C O) (b : Fin 8) (h : Fin H) (u : Fin W) (o : Fin O) : EReal :=
  tapK X0 w 0 0 b h (sh 1 hW 0 (by omega) u) o + tapK X0 w 0 1 b h (sh 1 hW 1 (by omega) u) o
    + tapK X1 w 1 0 b h (sh 1 hW 0 (by omega) u) o + tapK X1 w 1 1 b h (sh 1 hW 1 (by omega) u) o

/-- Three by three taps. -/
def conv3K {H W W' C O : ℕ} (hW : W' = W + 2) (X0 X1 X2 : A4 8 H W' C) (w : A4 3 3 C O) (b : Fin 8) (h : Fin H) (u : Fin W) (o : Fin O) : EReal :=
  tapK X0 w 0 0 b h (sh 2 hW 0 (by omega) u) o + tapK X0 w 0 1 b h (sh 2 hW 1 (by omega) u) o + tapK X0 w 0 2 b h (sh 2 hW 2 (by omega) u) o
    + tapK X1 w 1 0 b h (sh 2 hW 0 (by omega) u) o + tapK X1 w 1 1 b h (sh 2 hW 1 (by omega) u) o + tapK X1 w 1 2 b h (sh 2 hW 2 (by omega) u) o
    + tapK X2 w 2 0 b h (sh 2 hW 0 (by omega) u) o + tapK X2 w 2 1 b h (sh 2 hW 1 (by omega) u) o + tapK X2 w 2 2 b h (sh 2 hW 2 (by omega) u) o

/-- One tap of one phase of an upsampled convolution. -/
def tapU {H W C O : ℕ} (X : A4 8 H W C) (w : FVec Ideal ⟨6, ![2, 2, 2, 2, C, O]⟩ .f32) (p q r s : Fin 2) (b : Fin 8) (h : Fin H) (u : Fin W)
    (o : Fin O) : EReal :=
  ∑ k : Fin C, X (ix4 b h u k) * w (ix6 p q r s k o)

/-- One phase of an upsampled convolution: two by two taps over the rows `X` and the rows `Y` below them, then the rectifier. -/
def upK {H W W' C O : ℕ} (hW : W' = W + 2) (X Y : A4 8 H W' C) (w : FVec Ideal ⟨6, ![2, 2, 2, 2, C, O]⟩ .f32) (p q : Fin 2)
    (b : Fin 8) (h : Fin H) (u : Fin W) (o : Fin O) : EReal :=
  max (tapU X w p q 0 0 b h (sh 2 hW q.val (by omega) u) o + tapU X w p q 0 1 b h (sh 2 hW (q.val + 1) (by omega) u) o
    + tapU Y w p q 1 0 b h (sh 2 hW q.val (by omega) u) o + tapU Y w p q 1 1 b h (sh 2 hW (q.val + 1) (by omega) u) o) 0

end Cert.Proof

end
-- ==== Proof.Spec.lean ====
module

public import proofs.«01_k».proof.Proof.Nearest
public import proofs.«01_k».proof.Proof.KTaps

/-! The model's stages as plain formulas over images: pixels by row and column, then channels. Nothing here names a program. -/

@[expose] public section

noncomputable section

namespace Cert.Proof

open Idealize.ShloMosaic

/-- Eight images: batch, row, column, channel. -/
abbrev Im (H W C : ℕ) := Fin 8 → Fin H → Fin W → Fin C → EReal

/-- A batch of images within a border of zeros one pixel wide, read at a row and a column of the larger image. -/
def padf {H W C : ℕ} (X : Im H W C) (b : Fin 8) (u v : ℕ) (k : Fin C) : EReal :=
  if h : (1 ≤ u ∧ u - 1 < H) ∧ 1 ≤ v ∧ v - 1 < W then X b ⟨u - 1, h.1.2⟩ ⟨v - 1, h.2.2⟩ k else 0

/-- One tap of a convolution. -/
def tap {H W C O R S : ℕ} (X : Im H W C) (w : A4 O C R S) (r : Fin R) (s : Fin S) (b : Fin 8) (u v : ℕ) (o : Fin O) : EReal :=
  ∑ k : Fin C, w (ix4 o k r s) * padf X b u v k

/-- The convolution with three by three taps, stride one. -/
def conv3 {H W C O : ℕ} (X : Im H W C) (w : A4 O C 3 3) : Im H W O := fun b i j o =>
  tap X w 0 0 b i.val j.val o + tap X w 0 1 b i.val (j.val + 1) o + tap X w 0 2 b i.val (j.val + 2) o
    + tap X w 1 0 b (i.val + 1) j.val o + tap X w 1 1 b (i.val + 1) (j.val + 1) o + tap X w 1 2 b (i.val + 1) (j.val + 2) o
    + tap X w 2 0 b (i.val + 2) j.val o + tap X w 2 1 b (i.val + 2) (j.val + 1) o + tap X w 2 2 b (i.val + 2) (j.val + 2) o

/-- The convolution with four by four taps, stride two. -/
def conv4 {H W H' W' C O : ℕ} (X : Im H W C) (w : A4 O C 4 4) : Im H' W' O := fun b i j o =>
  tap X w 0 0 b (2 * i.val) (2 * j.val) o + tap X w 0 1 b (2 * i.val) (2 * j.val + 1) o
    + tap X w 0 2 b (2 * i.val) (2 * j.val + 2) o + tap X w 0 3 b (2 * i.val) (2 * j.val + 3) o
    + tap X w 1 0 b (2 * i.val + 1) (2 * j.val) o + tap X w 1 1 b (2 * i.val + 1) (2 * j.val + 1) o
    + tap X w 1 2 b (2 * i.val + 1) (2 * j.val + 2) o + tap X w 1 3 b (2 * i.val + 1) (2 * j.val + 3) o
    + tap X w 2 0 b (2 * i.val + 2) (2 * j.val) o + tap X w 2 1 b (2 * i.val + 2) (2 * j.val + 1) o
    + tap X w 2 2 b (2 * i.val + 2) (2 * j.val + 2) o + tap X w 2 3 b (2 * i.val + 2) (2 * j.val + 3) o
    + tap X w 3 0 b (2 * i.val + 3) (2 * j.val) o + tap X w 3 1 b (2 * i.val + 3) (2 * j.val + 1) o
    + tap X w 3 2 b (2 * i.val + 3) (2 * j.val + 2) o + tap X w 3 3 b (2 * i.val + 3) (2 * j.val + 3) o

/-- The pixelwise linear map. -/
def conv1 {H W C O : ℕ} (X : Im H W C) (w : A4 O C 1 1) : Im H W O := fun b i j o => ∑ k : Fin C, w (ix4 o k 0 0) * X b i j k

def relu {H W C : ℕ} (X : Im H W C) : Im H W C := fun b i j k => max (X b i j k) 0

/-- Every pixel four times. -/
def up {H W H' W' C : ℕ} (hH : H' = 2 * H) (hW : W' = 2 * W) (X : Im H W C) : Im H' W' C := fun b i j k =>
  X b ⟨i.val / 2, by omega⟩ ⟨j.val / 2, by omega⟩ k

/-- Each pixel's channels replaced by the nearest row of the codebook. -/
def quantIm {H W : ℕ} (X : Im H W 256) (cb : FVec Ideal ⟨2, ![1024, 256]⟩ .f32) : Im H W 256 := fun b i j k =>
  quantRow (X b i j) (fun n x => cb (ix2 n x)) k

/-- The image of an array with its channels last. -/
def nhwc {H W C : ℕ} (X : A4 8 H W C) : Im H W C := fun b i j k => X (ix4 b i j k)
/-- The image of an array with its channels second. -/
def nchw {H W C : ℕ} (X : A4 8 C H W) : Im H W C := fun b i j k => X (ix4 b k i j)

/-- The row of a pixel, all pixels of all images in one column. -/
def pix (b : Fin 8) (i j : Fin 64) : Fin 32768 := ⟨b.val * 4096 + i.val * 64 + j.val, by omega⟩

/-- The images whose pixels are an array's rows. -/
def rowIm (X : FVec Ideal ⟨2, ![32768, 256]⟩ .f32) : Im 64 64 256 := fun b i j k => X (ix2 (pix b i j) k)

/-- The array whose rows are an image's pixels. -/
def rowsOf (X : Im 64 64 256) : FVec Ideal ⟨2, ![32768, 256]⟩ .f32 := fun i =>
  X ⟨(i 0).val / 4096, by have h : (i 0).val < 32768 := (i 0).isLt; omega⟩ ⟨(i 0).val / 64 % 64, by omega⟩ ⟨(i 0).val % 64, by omega⟩ (i 1)

theorem eq_rowsOf (A : FVec Ideal ⟨2, ![32768, 256]⟩ .f32) (X : Im 64 64 256) (h : rowIm A = X) : A = rowsOf X := by
  subst h
  funext i
  refine congrArg A ((eq_ix2 i).trans (congrArg (fun p => ix2 p (i 1)) (Fin.ext ?_)))
  simp only [pix]
  omega

theorem rowIm_rowsOf (X : Im 64 64 256) : rowIm (rowsOf X) = X := by
  funext b i j k
  have h : ∀ (p : Fin 8) (q r : Fin 64), p = b → q = i → r = j → X p q r k = X b i j k := by rintro _ _ _ rfl rfl rfl; rfl
  refine h _ _ _ (Fin.ext ?_) (Fin.ext ?_) (Fin.ext ?_)
  · show (pix b i j).val / 4096 = b.val
    simp only [pix]; omega
  · show (pix b i j).val / 64 % 64 = i.val
    simp only [pix]; omega
  · show (pix b i j).val % 64 = j.val
    simp only [pix]; omega

/-- The squared distances of the rows of two arrays, summed. -/
def errRows (Q Z : FVec Ideal ⟨2, ![32768, 256]⟩ .f32) : EReal :=
  ∑ n : Fin 32768, ∑ x : Fin 256, ((Q (ix2 n x) : EReal) - Z (ix2 n x)) * ((Q (ix2 n x) : EReal) - Z (ix2 n x))

/-! ### Sums with equal terms -/

section
variable {a₁ a₂ a₃ a₄ a₅ a₆ a₇ a₈ a₉ b₁ b₂ b₃ b₄ b₅ b₆ b₇ b₈ b₉ : EReal}

theorem add4 (h₁ : a₁ = b₁) (h₂ : a₂ = b₂) (h₃ : a₃ = b₃) (h₄ : a₄ = b₄) : a₁ + a₂ + a₃ + a₄ = b₁ + b₂ + b₃ + b₄ := by
  rw [h₁, h₂, h₃, h₄]
theorem addto4 (h : a₉ = b₉) (h₁ : a₁ = b₁) (h₂ : a₂ = b₂) (h₃ : a₃ = b₃) (h₄ : a₄ = b₄) :
    a₉ + a₁ + a₂ + a₃ + a₄ = b₉ + b₁ + b₂ + b₃ + b₄ := by
  rw [h, h₁, h₂, h₃, h₄]
theorem add9 (h₁ : a₁ = b₁) (h₂ : a₂ = b₂) (h₃ : a₃ = b₃) (h₄ : a₄ = b₄) (h₅ : a₅ = b₅) (h₆ : a₆ = b₆) (h₇ : a₇ = b₇) (h₈ : a₈ = b₈) (h₉ : a₉ = b₉) :
    a₁ + a₂ + a₃ + a₄ + a₅ + a₆ + a₇ + a₈ + a₉ = b₁ + b₂ + b₃ + b₄ + b₅ + b₆ + b₇ + b₈ + b₉ := by
  rw [h₁, h₂, h₃, h₄, h₅, h₆, h₇, h₈, h₉]
end

theorem sum_mul_congr {n : ℕ} {f g h : Fin n → EReal} (e : ∀ k, g k = h k) : ∑ k, f k * g k = ∑ k, f k * h k :=
  Finset.sum_congr rfl fun k _ => congrArg (f k * ·) (e k)

/-! ### The chain -/

/-- The model's twelve arguments. -/
structure Args where
  x : A4 8 2 256 256
  w1 : A4 128 2 4 4
  w2 : A4 256 128 4 4
  w3 : A4 256 256 3 3
  wq : A4 256 256 1 1
  cb : FVec Ideal ⟨2, ![1024, 256]⟩ .f32
  wp : A4 256 256 1 1
  d1 : A4 256 256 3 3
  d2 : A4 128 256 3 3
  d3 : A4 64 128 3 3
  won : A4 2 64 3 3
  wdu : A4 2 64 3 3

namespace Args
variable (a : Args)

def h1 : Im 128 128 128 := relu (conv4 (nchw a.x) a.w1)
def h2 : Im 64 64 256 := relu (conv4 a.h1 a.w2)
def enc : Im 64 64 256 := conv3 a.h2 a.w3
def z : Im 64 64 256 := conv1 a.enc a.wq
def q : Im 64 64 256 := quantIm a.z a.cb
def post : Im 64 64 256 := conv1 a.q a.wp
def e1 : Im 64 64 256 := relu (conv3 a.post a.d1)
def e2 : Im 128 128 128 := relu (conv3 (up (H' := 128) (W' := 128) rfl rfl a.e1) a.d2)
def e3 : Im 256 256 64 := relu (conv3 (up (H' := 256) (W' := 256) rfl rfl a.e2) a.d3)
def onset : Im 256 256 2 := conv3 a.e3 a.won
def duration : Im 256 256 2 := conv3 a.e3 a.wdu

/-- The squared distances of all pixels' channels to their quantized ones, summed. -/
def err : EReal := errRows (rowsOf a.q) (rowsOf a.z)

end Args

end Cert.Proof

end
-- ==== Proof.KArgs.lean ====
module

public import proofs.«01_k».proof.Proof.Spec
public import proofs.«01_k».proof.Proof.Gen.KernelIdeal.Frame

/-! The arguments a launch of the kernel finds in memory. -/

@[expose] public section

set_option maxRecDepth 16384

noncomputable section

namespace Cert.Proof.Kern

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (c : Dev nD)

/-- The model's arguments in memory. -/
def argsM : Args where
  x := (m ((c : Thread nD τ).loc main_arg0) : A4 8 2 256 256)
  w1 := (m ((c : Thread nD τ).loc main_arg1) : A4 128 2 4 4)
  w2 := (m ((c : Thread nD τ).loc main_arg2) : A4 256 128 4 4)
  w3 := (m ((c : Thread nD τ).loc main_arg3) : A4 256 256 3 3)
  wq := (m ((c : Thread nD τ).loc main_arg4) : A4 256 256 1 1)
  cb := (m ((c : Thread nD τ).loc main_arg5) : FVec Ideal S1024x256 .f32)
  wp := (m ((c : Thread nD τ).loc main_arg6) : A4 256 256 1 1)
  d1 := (m ((c : Thread nD τ).loc main_arg7) : A4 256 256 3 3)
  d2 := (m ((c : Thread nD τ).loc main_arg8) : A4 128 256 3 3)
  d3 := (m ((c : Thread nD τ).loc main_arg9) : A4 64 128 3 3)
  won := (m ((c : Thread nD τ).loc main_arg10) : A4 2 64 3 3)
  wdu := (m ((c : Thread nD τ).loc main_arg11) : A4 2 64 3 3)

end Cert.Proof.Kern

end
-- ==== Proof.Finite.lean ====
module

public import proofs.«01_k».proof.Proof.Spec

/-! Arrays of real numbers: what keeps the entries away from the infinities. -/

@[expose] public section

set_option maxRecDepth 16384

noncomputable section

namespace Cert.Proof

open Idealize.ShloMosaic

/-- A value that is a real number. -/
def IsR (x : EReal) : Prop := ∃ r : ℝ, x = (r : EReal)

theorem IsR.zero : IsR 0 := ⟨0, rfl⟩
theorem IsR.add {x y : EReal} (h : IsR x) (h' : IsR y) : IsR (x + y) := by
  obtain ⟨r, rfl⟩ := h; obtain ⟨s, rfl⟩ := h'; exact ⟨r + s, (EReal.coe_add r s).symm⟩
theorem IsR.sub {x y : EReal} (h : IsR x) (h' : IsR y) : IsR (x - y) := by
  obtain ⟨r, rfl⟩ := h; obtain ⟨s, rfl⟩ := h'; exact ⟨r - s, (EReal.coe_sub r s).symm⟩
theorem IsR.mul {x y : EReal} (h : IsR x) (h' : IsR y) : IsR (x * y) := by
  obtain ⟨r, rfl⟩ := h; obtain ⟨s, rfl⟩ := h'; exact ⟨r * s, (EReal.coe_mul r s).symm⟩
theorem IsR.max {x y : EReal} (h : IsR x) (h' : IsR y) : IsR (max x y) := by
  rcases max_choice x y with e | e <;> rw [e] <;> assumption
theorem IsR.sum {ι : Type} (s : Finset ι) {f : ι → EReal} (h : ∀ i, IsR (f i)) : IsR (∑ i ∈ s, f i) := by
  classical
  induction s using Finset.induction_on with
  | empty => exact IsR.zero
  | insert a s ha ih => rw [Finset.sum_insert ha]; exact (h a).add ih

/-- A batch of images of real numbers. -/
def RIm {H W C : ℕ} (X : Im H W C) : Prop := ∀ b i j k, IsR (X b i j k)
/-- An array of real numbers. -/
def RA {s : Shape} (A : FVec Ideal s .f32) : Prop := ∀ i, IsR (A i)

theorem IsR.padf {H W C : ℕ} {X : Im H W C} (h : RIm X) (b : Fin 8) (u v : ℕ) (k : Fin C) : IsR (Cert.Proof.padf X b u v k) := by
  unfold Cert.Proof.padf; split
  · exact h _ _ _ _
  · exact IsR.zero
theorem IsR.tap {H W C O R S : ℕ} {X : Im H W C} {w : A4 O C R S} (h : RIm X) (hw : RA w) (r : Fin R) (s : Fin S) (b : Fin 8) (u v : ℕ) (o : Fin O) :
    IsR (Cert.Proof.tap X w r s b u v o) := IsR.sum _ fun k => (hw _).mul (IsR.padf h b u v k)
theorem RIm.conv3 {H W C O : ℕ} {X : Im H W C} {w : A4 O C 3 3} (h : RIm X) (hw : RA w) : RIm (Cert.Proof.conv3 X w) := fun b i j o => by
  unfold Cert.Proof.conv3; repeat' apply IsR.add
  all_goals exact IsR.tap h hw _ _ _ _ _ _
theorem RIm.conv4 {H W H' W' C O : ℕ} {X : Im H W C} {w : A4 O C 4 4} (h : RIm X) (hw : RA w) : RIm (Cert.Proof.conv4 (H' := H') (W' := W') X w) :=
  fun b i j o => by
    unfold Cert.Proof.conv4; repeat' apply IsR.add
    all_goals exact IsR.tap h hw _ _ _ _ _ _
theorem RIm.conv1 {H W C O : ℕ} {X : Im H W C} {w : A4 O C 1 1} (h : RIm X) (hw : RA w) : RIm (Cert.Proof.conv1 X w) := fun b i j o =>
  IsR.sum _ fun k => (hw _).mul (h b i j k)
theorem RIm.relu {H W C : ℕ} {X : Im H W C} (h : RIm X) : RIm (Cert.Proof.relu X) := fun b i j k => (h b i j k).max IsR.zero
theorem RIm.up {H W H' W' C : ℕ} {hH : H' = 2 * H} {hW : W' = 2 * W} {X : Im H W C} (h : RIm X) : RIm (Cert.Proof.up hH hW X) := fun _ _ _ _ => h _ _ _ _
theorem RIm.quantIm {H W : ℕ} {X : Im H W 256} {cb : FVec Ideal ⟨2, ![1024, 256]⟩ .f32} (h : RA cb) : RIm (Cert.Proof.quantIm X cb) := fun _ _ _ _ => h _
theorem RIm.nchw {H W C : ℕ} {X : A4 8 C H W} (h : RA X) : RIm (Cert.Proof.nchw X) := fun _ _ _ _ => h _

theorem RA.rowsOf {X : Im 64 64 256} (h : RIm X) : RA (Cert.Proof.rowsOf X) := fun _ => h _ _ _ _
theorem IsR.errRows {Q Z : FVec Ideal ⟨2, ![32768, 256]⟩ .f32} (h : RA Q) (h' : RA Z) : IsR (Cert.Proof.errRows Q Z) := by
  unfold Cert.Proof.errRows
  exact IsR.sum _ fun n => IsR.sum _ fun x => ((h (ix2 n x)).sub (h' (ix2 n x))).mul ((h (ix2 n x)).sub (h' (ix2 n x)))

/-- Real numbers: adding back what was taken away. -/
theorem IsR.add_sub {x y : EReal} (h : IsR x) (h' : IsR y) : x + (y - x) = y := by
  obtain ⟨r, rfl⟩ := h; obtain ⟨s, rfl⟩ := h'
  rw [← EReal.coe_sub, ← EReal.coe_add]
  congr 1; ring

/-- The arguments whose entries must be real numbers: all but the two heads' weights. -/
structure Args.Real (a : Args) : Prop where
  x : RA a.x
  w1 : RA a.w1
  w2 : RA a.w2
  w3 : RA a.w3
  wq : RA a.wq
  cb : RA a.cb
  wp : RA a.wp
  d1 : RA a.d1
  d2 : RA a.d2
  d3 : RA a.d3

namespace Args.Real
variable {a : Args} (h : a.Real)
include h

theorem h1 : RIm a.h1 := (RIm.conv4 (RIm.nchw h.x) h.w1).relu
theorem h2 : RIm a.h2 := (RIm.conv4 h.h1 h.w2).relu
theorem enc : RIm a.enc := RIm.conv3 h.h2 h.w3
theorem z : RIm a.z := RIm.conv1 h.enc h.wq
theorem q : RIm a.q := RIm.quantIm h.cb
theorem post : RIm a.post := RIm.conv1 h.q h.wp
theorem e1 : RIm a.e1 := (RIm.conv3 h.post h.d1).relu
theorem e2 : RIm a.e2 := (RIm.conv3 h.e1.up h.d2).relu

theorem err : IsR a.err := IsR.errRows (RA.rowsOf h.q) (RA.rowsOf h.z)

end Args.Real

end Cert.Proof

end
-- ==== Proof.Pre.lean ====
module

public import proofs.«01_k».proof.Proof.KArgs
public import proofs.«01_k».proof.Proof.Finite
public import proofs.«01_k».proof.Pre_finite
public import Idealize.ShloMosaic.Lib.ReduceAll
public import Idealize.ShloMosaic.Lib.Affine
public import Idealize.ShloMosaic.Lib.Pointwise.Select

/-! The precondition says that the first ten arguments hold real numbers. -/

@[expose] public section

set_option maxRecDepth 16384

noncomputable section

namespace Cert.Proof

open Idealize.ShloMosaic

/-- The shape facts of the precondition. -/
theorem facts_pre : Cert.Pre_finite.Facts := by
  constructor <;> decide

/-- A number whose magnitude is below infinity is real. -/
theorem IsR.of_abs_lt {x : EReal} (h : Max.max x (-x) < ⊤) : IsR x := by
  induction x with
  | bot => simp at h
  | coe r => exact ⟨r, rfl⟩
  | top => simp at h

/-- The word of the positive infinity. -/
theorem inf_word : Ideal.ofBits .f32 0x7F800000#32 = (⊤ : EReal) := by simp [Ideal.ofBits, Ideal.ieee]

/-- The test «all magnitudes below infinity» of one array: if it says one, the array is of real numbers. -/
theorem RA.of_test {s t : Shape} [Subsingleton t.Idx] {axes : List (Fin s.rank)} (A : FVec Ideal s .f32) (B : FVec Ideal s .f32)
    (hB : ∀ i, B i = Ideal.ofBits .f32 0x7F800000#32) (init : IVec t 1) (h : s.ReducesTo axes t) (hu : 0 < t.numel) (j : t.Idx)
    (e : Host.reduce IntOp.andi (cmpf .olt (Host.absf A) B) init h hu j = 1#1) : RA A := fun i => by
  have q := Host.reduce_andi_all _ _ h hu j e i
  have q' : Max.max (A i) (-(A i)) < B i := (Ideal.cmp_olt_eq_one _ _).mp q
  rw [hB, inf_word] at q'
  exact IsR.of_abs_lt q'

/-- A scalar conjunction that is one: both sides are. -/
theorem andi_one {t : Shape} {a b : IVec t 1} {j : t.Idx} (h : andi a b j = 1#1) : a j = 1#1 ∧ b j = 1#1 := IntOp.andi_eq_one.mp h

/-- Where the precondition holds, the first ten arguments are of real numbers. -/
theorem args_real (m : (ℓ : Loc Cert.KernelIdeal.nD Cert.KernelIdeal.τ Cert.KernelIdeal.sig) → Buf (Elt Ideal) ℓ)
    (c : Dev Cert.KernelIdeal.nD)
    (h : @Cert.Pre_finite.fn facts_pre Ideal _
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      = fun _ => 1#1) : (Kern.argsM m c).Real := by
  haveI : Subsingleton Cert.Pre_finite.S_.Idx := ⟨fun a b => funext fun i => i.elim0⟩
  have e := congrFun h ix0
  unfold Cert.Pre_finite.fn Cert.Pre_finite.fn_part1 Cert.Pre_finite.fn_part2 at e
  obtain ⟨e, t9⟩ := andi_one e
  obtain ⟨e, t8⟩ := andi_one e
  obtain ⟨e, t7⟩ := andi_one e
  obtain ⟨e, t6⟩ := andi_one e
  obtain ⟨e, t5⟩ := andi_one e
  obtain ⟨e, t4⟩ := andi_one e
  obtain ⟨e, t3⟩ := andi_one e
  obtain ⟨e, t2⟩ := andi_one e
  obtain ⟨t0, t1⟩ := andi_one e
  exact ⟨RA.of_test _ _ (fun _ => rfl) _ _ _ ix0 t0, RA.of_test _ _ (fun _ => rfl) _ _ _ ix0 t1, RA.of_test _ _ (fun _ => rfl) _ _ _ ix0 t2,
    RA.of_test _ _ (fun _ => rfl) _ _ _ ix0 t3, RA.of_test _ _ (fun _ => rfl) _ _ _ ix0 t4, RA.of_test _ _ (fun _ => rfl) _ _ _ ix0 t5,
    RA.of_test _ _ (fun _ => rfl) _ _ _ ix0 t6, RA.of_test _ _ (fun _ => rfl) _ _ _ ix0 t7, RA.of_test _ _ (fun _ => rfl) _ _ _ ix0 t8,
    RA.of_test _ _ (fun _ => rfl) _ _ _ ix0 t9⟩

end Cert.Proof

end
-- ==== Proof.RefOps1.lean ====
module

public import proofs.«01_k».proof.Proof.Gen.ReferenceIdeal
public import Idealize.ShloMosaic.Lib.Claim
public import Idealize.ShloMosaic.PureOps.Ideal

@[expose] public section

set_option maxRecDepth 16384

noncomputable section

namespace Cert.Proof.Ref

open Idealize.ShloMosaic Idealize.ShloMosaic.StableHlo Cert.ReferenceIdeal

/-- The contents of an array of shape `s` and element type `e`. -/
abbrev TE (F : FTy → Type) (s : Shape) (e : EltTy) := (⟨s, e⟩ : BufTy).Contents (Elt F)
/-- The contents of a float array. -/
abbrev T (F : FTy → Type) (s : Shape) := TE F s .f32
/-- A typed reference to an array of the reference program. -/
abbrev TR (s : Shape) (e : EltTy) := TRef sig ⟨s, e⟩

section
open Facts₀
variable {F : FTy → Type} [FloatOps F]

/-- The reference's operations that compute the first encoder convolution. -/
abbrev opsEnc1 : List (HloOp τ sig (Elt F)) :=
  [ unary main_arg0 main_v0 ((transpose S2x8x256x256 [1, 0, 2, 3] · transposes_S8x2x256x256_S2x8x256x256_1_0_2_3) : T F S8x2x256x256 → T F S2x8x256x256),
    nullary main_c (constantI S_ 32 0#32),
    TRef.unary (.of main_c : TR S_ .i32) (.of main_call0_v0 : TR S_ .f32) (sitofp .f32),
    TRef.binary (.of main_v0 : TR S2x8x256x256 .f32) (.of main_call0_v0 : TR S_ .f32) (.of main_v1 : TR S2x8x258x258 .f32) (fun x v => pad S2x8x258x258 ![0, 0, 1, 1] ![0, 0, 1, 1] ![0, 0, 0, 0] x v pads_S2x8x256x256_S2x8x258x258_000_000_110_110 h_S_),
    unary main_v1 main_v2 ((Host.slice S2x8x128x128 ![0, 0, 0, 0] ![1, 1, 2, 2] · slicesBy_S2x8x258x258_S2x8x128x128_0s1_0s1_0s2_0s2) : T F S2x8x258x258 → T F S2x8x128x128),
    unary main_arg1 main_v3 ((extractStridedSlice S128x2x1x1 ![0, 0, 0, 0] · slices_S128x2x4x4_S128x2x1x1_0_0_0_0) : T F S128x2x4x4 → T F S128x2x1x1),
    reshape main_v3 main_v4 (rfl : (.f32 : EltTy) = .f32) shapeCasts_S128x2x1x1_S128x2,
    binary main_v4 main_v2 main_v5 ((fun l r => Host.dotGeneral dot_S128x2_S2x8x128x128_S128x8x128x128_1_0_0_123_n_n none l r) : T F S128x2 → T F S2x8x128x128 → T F S128x8x128x128),
    unary main_v1 main_v6 ((Host.slice S2x8x128x128 ![0, 0, 0, 1] ![1, 1, 2, 2] · slicesBy_S2x8x258x258_S2x8x128x128_0s1_0s1_0s2_1s2) : T F S2x8x258x258 → T F S2x8x128x128),
    unary main_arg1 main_v7 ((extractStridedSlice S128x2x1x1 ![0, 0, 0, 1] · slices_S128x2x4x4_S128x2x1x1_0_0_0_1) : T F S128x2x4x4 → T F S128x2x1x1),
    reshape main_v7 main_v8 (rfl : (.f32 : EltTy) = .f32) shapeCasts_S128x2x1x1_S128x2,
    binary main_v8 main_v6 main_v9 ((fun l r => Host.dotGeneral dot_S128x2_S2x8x128x128_S128x8x128x128_1_0_0_123_n_n none l r) : T F S128x2 → T F S2x8x128x128 → T F S128x8x128x128),
    binary main_v5 main_v9 main_v10 (addf : T F S128x8x128x128 → T F S128x8x128x128 → T F S128x8x128x128),
    unary main_v1 main_v11 ((Host.slice S2x8x128x128 ![0, 0, 0, 2] ![1, 1, 2, 2] · slicesBy_S2x8x258x258_S2x8x128x128_0s1_0s1_0s2_2s2) : T F S2x8x258x258 → T F S2x8x128x128),
    unary main_arg1 main_v12 ((extractStridedSlice S128x2x1x1 ![0, 0, 0, 2] · slices_S128x2x4x4_S128x2x1x1_0_0_0_2) : T F S128x2x4x4 → T F S128x2x1x1),
    reshape main_v12 main_v13 (rfl : (.f32 : EltTy) = .f32) shapeCasts_S128x2x1x1_S128x2,
    binary main_v13 main_v11 main_v14 ((fun l r => Host.dotGeneral dot_S128x2_S2x8x128x128_S128x8x128x128_1_0_0_123_n_n none l r) : T F S128x2 → T F S2x8x128x128 → T F S128x8x128x128),
    binary main_v10 main_v14 main_v15 (addf : T F S128x8x128x128 → T F S128x8x128x128 → T F S128x8x128x128),
    unary main_v1 main_v16 ((Host.slice S2x8x128x128 ![0, 0, 0, 3] ![1, 1, 2, 2] · slicesBy_S2x8x258x258_S2x8x128x128_0s1_0s1_0s2_3s2) : T F S2x8x258x258 → T F S2x8x128x128),
    unary main_arg1 main_v17 ((extractStridedSlice S128x2x1x1 ![0, 0, 0, 3] · slices_S128x2x4x4_S128x2x1x1_0_0_0_3) : T F S128x2x4x4 → T F S128x2x1x1),
    reshape main_v17 main_v18 (rfl : (.f32 : EltTy) = .f32) shapeCasts_S128x2x1x1_S128x2,
    binary main_v18 main_v16 main_v19 ((fun l r => Host.dotGeneral dot_S128x2_S2x8x128x128_S128x8x128x128_1_0_0_123_n_n none l r) : T F S128x2 → T F S2x8x128x128 → T F S128x8x128x128),
    binary main_v15 main_v19 main_v20 (addf : T F S128x8x128x128 → T F S128x8x128x128 → T F S128x8x128x128),
    unary main_v1 main_v21 ((Host.slice S2x8x128x128 ![0, 0, 1, 0] ![1, 1, 2, 2] · slicesBy_S2x8x258x258_S2x8x128x128_0s1_0s1_1s2_0s2) : T F S2x8x258x258 → T F S2x8x128x128),
    unary main_arg1 main_v22 ((extractStridedSlice S128x2x1x1 ![0, 0, 1, 0] · slices_S128x2x4x4_S128x2x1x1_0_0_1_0) : T F S128x2x4x4 → T F S128x2x1x1),
    reshape main_v22 main_v23 (rfl : (.f32 : EltTy) = .f32) shapeCasts_S128x2x1x1_S128x2,
    binary main_v23 main_v21 main_v24 ((fun l r => Host.dotGeneral dot_S128x2_S2x8x128x128_S128x8x128x128_1_0_0_123_n_n none l r) : T F S128x2 → T F S2x8x128x128 → T F S128x8x128x128),
    binary main_v20 main_v24 main_v25 (addf : T F S128x8x128x128 → T F S128x8x128x128 → T F S128x8x128x128),
    unary main_v1 main_v26 ((Host.slice S2x8x128x128 ![0, 0, 1, 1] ![1, 1, 2, 2] · slicesBy_S2x8x258x258_S2x8x128x128_0s1_0s1_1s2_1s2) : T F S2x8x258x258 → T F S2x8x128x128),
    unary main_arg1 main_v27 ((extractStridedSlice S128x2x1x1 ![0, 0, 1, 1] · slices_S128x2x4x4_S128x2x1x1_0_0_1_1) : T F S128x2x4x4 → T F S128x2x1x1),
    reshape main_v27 main_v28 (rfl : (.f32 : EltTy) = .f32) shapeCasts_S128x2x1x1_S128x2,
    binary main_v28 main_v26 main_v29 ((fun l r => Host.dotGeneral dot_S128x2_S2x8x128x128_S128x8x128x128_1_0_0_123_n_n none l r) : T F S128x2 → T F S2x8x128x128 → T F S128x8x128x128),
    binary main_v25 main_v29 main_v30 (addf : T F S128x8x128x128 → T F S128x8x128x128 → T F S128x8x128x128),
    unary main_v1 main_v31 ((Host.slice S2x8x128x128 ![0, 0, 1, 2] ![1, 1, 2, 2] · slicesBy_S2x8x258x258_S2x8x128x128_0s1_0s1_1s2_2s2) : T F S2x8x258x258 → T F S2x8x128x128),
    unary main_arg1 main_v32 ((extractStridedSlice S128x2x1x1 ![0, 0, 1, 2] · slices_S128x2x4x4_S128x2x1x1_0_0_1_2) : T F S128x2x4x4 → T F S128x2x1x1),
    reshape main_v32 main_v33 (rfl : (.f32 : EltTy) = .f32) shapeCasts_S128x2x1x1_S128x2,
    binary main_v33 main_v31 main_v34 ((fun l r => Host.dotGeneral dot_S128x2_S2x8x128x128_S128x8x128x128_1_0_0_123_n_n none l r) : T F S128x2 → T F S2x8x128x128 → T F S128x8x128x128),
    binary main_v30 main_v34 main_v35 (addf : T F S128x8x128x128 → T F S128x8x128x128 → T F S128x8x128x128),
    unary main_v1 main_v36 ((Host.slice S2x8x128x128 ![0, 0, 1, 3] ![1, 1, 2, 2] · slicesBy_S2x8x258x258_S2x8x128x128_0s1_0s1_1s2_3s2) : T F S2x8x258x258 → T F S2x8x128x128),
    unary main_arg1 main_v37 ((extractStridedSlice S128x2x1x1 ![0, 0, 1, 3] · slices_S128x2x4x4_S128x2x1x1_0_0_1_3) : T F S128x2x4x4 → T F S128x2x1x1),
    reshape main_v37 main_v38 (rfl : (.f32 : EltTy) = .f32) shapeCasts_S128x2x1x1_S128x2,
    binary main_v38 main_v36 main_v39 ((fun l r => Host.dotGeneral dot_S128x2_S2x8x128x128_S128x8x128x128_1_0_0_123_n_n none l r) : T F S128x2 → T F S2x8x128x128 → T F S128x8x128x128),
    binary main_v35 main_v39 main_v40 (addf : T F S128x8x128x128 → T F S128x8x128x128 → T F S128x8x128x128),
    unary main_v1 main_v41 ((Host.slice S2x8x128x128 ![0, 0, 2, 0] ![1, 1, 2, 2] · slicesBy_S2x8x258x258_S2x8x128x128_0s1_0s1_2s2_0s2) : T F S2x8x258x258 → T F S2x8x128x128),
    unary main_arg1 main_v42 ((extractStridedSlice S128x2x1x1 ![0, 0, 2, 0] · slices_S128x2x4x4_S128x2x1x1_0_0_2_0) : T F S128x2x4x4 → T F S128x2x1x1),
    reshape main_v42 main_v43 (rfl : (.f32 : EltTy) = .f32) shapeCasts_S128x2x1x1_S128x2,
    binary main_v43 main_v41 main_v44 ((fun l r => Host.dotGeneral dot_S128x2_S2x8x128x128_S128x8x128x128_1_0_0_123_n_n none l r) : T F S128x2 → T F S2x8x128x128 → T F S128x8x128x128),
    binary main_v40 main_v44 main_v45 (addf : T F S128x8x128x128 → T F S128x8x128x128 → T F S128x8x128x128),
    unary main_v1 main_v46 ((Host.slice S2x8x128x128 ![0, 0, 2, 1] ![1, 1, 2, 2] · slicesBy_S2x8x258x258_S2x8x128x128_0s1_0s1_2s2_1s2) : T F S2x8x258x258 → T F S2x8x128x128),
    unary main_arg1 main_v47 ((extractStridedSlice S128x2x1x1 ![0, 0, 2, 1] · slices_S128x2x4x4_S128x2x1x1_0_0_2_1) : T F S128x2x4x4 → T F S128x2x1x1),
    reshape main_v47 main_v48 (rfl : (.f32 : EltTy) = .f32) shapeCasts_S128x2x1x1_S128x2,
    binary main_v48 main_v46 main_v49 ((fun l r => Host.dotGeneral dot_S128x2_S2x8x128x128_S128x8x128x128_1_0_0_123_n_n none l r) : T F S128x2 → T F S2x8x128x128 → T F S128x8x128x128),
    binary main_v45 main_v49 main_v50 (addf : T F S128x8x128x128 → T F S128x8x128x128 → T F S128x8x128x128),
    unary main_v1 main_v51 ((Host.slice S2x8x128x128 ![0, 0, 2, 2] ![1, 1, 2, 2] · slicesBy_S2x8x258x258_S2x8x128x128_0s1_0s1_2s2_2s2) : T F S2x8x258x258 → T F S2x8x128x128),
    unary main_arg1 main_v52 ((extractStridedSlice S128x2x1x1 ![0, 0, 2, 2] · slices_S128x2x4x4_S128x2x1x1_0_0_2_2) : T F S128x2x4x4 → T F S128x2x1x1),
    reshape main_v52 main_v53 (rfl : (.f32 : EltTy) = .f32) shapeCasts_S128x2x1x1_S128x2,
    binary main_v53 main_v51 main_v54 ((fun l r => Host.dotGeneral dot_S128x2_S2x8x128x128_S128x8x128x128_1_0_0_123_n_n none l r) : T F S128x2 → T F S2x8x128x128 → T F S128x8x128x128),
    binary main_v50 main_v54 main_v55 (addf : T F S128x8x128x128 → T F S128x8x128x128 → T F S128x8x128x128),
    unary main_v1 main_v56 ((Host.slice S2x8x128x128 ![0, 0, 2, 3] ![1, 1, 2, 2] · slicesBy_S2x8x258x258_S2x8x128x128_0s1_0s1_2s2_3s2) : T F S2x8x258x258 → T F S2x8x128x128),
    unary main_arg1 main_v57 ((extractStridedSlice S128x2x1x1 ![0, 0, 2, 3] · slices_S128x2x4x4_S128x2x1x1_0_0_2_3) : T F S128x2x4x4 → T F S128x2x1x1),
    reshape main_v57 main_v58 (rfl : (.f32 : EltTy) = .f32) shapeCasts_S128x2x1x1_S128x2,
    binary main_v58 main_v56 main_v59 ((fun l r => Host.dotGeneral dot_S128x2_S2x8x128x128_S128x8x128x128_1_0_0_123_n_n none l r) : T F S128x2 → T F S2x8x128x128 → T F S128x8x128x128),
    binary main_v55 main_v59 main_v60 (addf : T F S128x8x128x128 → T F S128x8x128x128 → T F S128x8x128x128),
    unary main_v1 main_v61 ((Host.slice S2x8x128x128 ![0, 0, 3, 0] ![1, 1, 2, 2] · slicesBy_S2x8x258x258_S2x8x128x128_0s1_0s1_3s2_0s2) : T F S2x8x258x258 → T F S2x8x128x128),
    unary main_arg1 main_v62 ((extractStridedSlice S128x2x1x1 ![0, 0, 3, 0] · slices_S128x2x4x4_S128x2x1x1_0_0_3_0) : T F S128x2x4x4 → T F S128x2x1x1),
    reshape main_v62 main_v63 (rfl : (.f32 : EltTy) = .f32) shapeCasts_S128x2x1x1_S128x2,
    binary main_v63 main_v61 main_v64 ((fun l r => Host.dotGeneral dot_S128x2_S2x8x128x128_S128x8x128x128_1_0_0_123_n_n none l r) : T F S128x2 → T F S2x8x128x128 → T F S128x8x128x128),
    binary main_v60 main_v64 main_v65 (addf : T F S128x8x128x128 → T F S128x8x128x128 → T F S128x8x128x128),
    unary main_v1 main_v66 ((Host.slice S2x8x128x128 ![0, 0, 3, 1] ![1, 1, 2, 2] · slicesBy_S2x8x258x258_S2x8x128x128_0s1_0s1_3s2_1s2) : T F S2x8x258x258 → T F S2x8x128x128),
    unary main_arg1 main_v67 ((extractStridedSlice S128x2x1x1 ![0, 0, 3, 1] · slices_S128x2x4x4_S128x2x1x1_0_0_3_1) : T F S128x2x4x4 → T F S128x2x1x1),
    reshape main_v67 main_v68 (rfl : (.f32 : EltTy) = .f32) shapeCasts_S128x2x1x1_S128x2,
    binary main_v68 main_v66 main_v69 ((fun l r => Host.dotGeneral dot_S128x2_S2x8x128x128_S128x8x128x128_1_0_0_123_n_n none l r) : T F S128x2 → T F S2x8x128x128 → T F S128x8x128x128),
    binary main_v65 main_v69 main_v70 (addf : T F S128x8x128x128 → T F S128x8x128x128 → T F S128x8x128x128),
    unary main_v1 main_v71 ((Host.slice S2x8x128x128 ![0, 0, 3, 2] ![1, 1, 2, 2] · slicesBy_S2x8x258x258_S2x8x128x128_0s1_0s1_3s2_2s2) : T F S2x8x258x258 → T F S2x8x128x128),
    unary main_arg1 main_v72 ((extractStridedSlice S128x2x1x1 ![0, 0, 3, 2] · slices_S128x2x4x4_S128x2x1x1_0_0_3_2) : T F S128x2x4x4 → T F S128x2x1x1),
    reshape main_v72 main_v73 (rfl : (.f32 : EltTy) = .f32) shapeCasts_S128x2x1x1_S128x2,
    binary main_v73 main_v71 main_v74 ((fun l r => Host.dotGeneral dot_S128x2_S2x8x128x128_S128x8x128x128_1_0_0_123_n_n none l r) : T F S128x2 → T F S2x8x128x128 → T F S128x8x128x128),
    binary main_v70 main_v74 main_v75 (addf : T F S128x8x128x128 → T F S128x8x128x128 → T F S128x8x128x128),
    unary main_v1 main_v76 ((Host.slice S2x8x128x128 ![0, 0, 3, 3] ![1, 1, 2, 2] · slicesBy_S2x8x258x258_S2x8x128x128_0s1_0s1_3s2_3s2) : T F S2x8x258x258 → T F S2x8x128x128),
    unary main_arg1 main_v77 ((extractStridedSlice S128x2x1x1 ![0, 0, 3, 3] · slices_S128x2x4x4_S128x2x1x1_0_0_3_3) : T F S128x2x4x4 → T F S128x2x1x1),
    reshape main_v77 main_v78 (rfl : (.f32 : EltTy) = .f32) shapeCasts_S128x2x1x1_S128x2,
    binary main_v78 main_v76 main_v79 ((fun l r => Host.dotGeneral dot_S128x2_S2x8x128x128_S128x8x128x128_1_0_0_123_n_n none l r) : T F S128x2 → T F S2x8x128x128 → T F S128x8x128x128),
    binary main_v75 main_v79 main_v80 (addf : T F S128x8x128x128 → T F S128x8x128x128 → T F S128x8x128x128),
    TRef.nullary (.of main_call1_cst : TR S_ .f32) (constant S_ .f32 0x00000000#32),
    TRef.unary (.of main_call1_cst : TR S_ .f32) (.of main_call1_v0 : TR S128x8x128x128 .f32) (broadcastInDim S128x8x128x128 ![] bcast_S_S128x8x128x128),
    TRef.binary (.of main_v80 : TR S128x8x128x128 .f32) (.of main_call1_v0 : TR S128x8x128x128 .f32) (.of main_v81 : TR S128x8x128x128 .f32) maximumf ]

/-- The reference's operations that compute the second encoder convolution. -/
abbrev opsEnc2 : List (HloOp τ sig (Elt F)) :=
  [ nullary main_c_0 (constantI S_ 32 0#32),
    TRef.unary (.of main_c_0 : TR S_ .i32) (.of main_call2_v0 : TR S_ .f32) (sitofp .f32),
    TRef.binary (.of main_v81 : TR S128x8x128x128 .f32) (.of main_call2_v0 : TR S_ .f32) (.of main_v82 : TR S128x8x130x130 .f32) (fun x v => pad S128x8x130x130 ![0, 0, 1, 1] ![0, 0, 1, 1] ![0, 0, 0, 0] x v pads_S128x8x128x128_S128x8x130x130_000_000_110_110 h_S_),
    unary main_v82 main_v83 ((Host.slice S128x8x64x64 ![0, 0, 0, 0] ![1, 1, 2, 2] · slicesBy_S128x8x130x130_S128x8x64x64_0s1_0s1_0s2_0s2) : T F S128x8x130x130 → T F S128x8x64x64),
    unary main_arg2 main_v84 ((extractStridedSlice S256x128x1x1 ![0, 0, 0, 0] · slices_S256x128x4x4_S256x128x1x1_0_0_0_0) : T F S256x128x4x4 → T F S256x128x1x1),
    reshape main_v84 main_v85 (rfl : (.f32 : EltTy) = .f32) shapeCasts_S256x128x1x1_S256x128,
    binary main_v85 main_v83 main_v86 ((fun l r => Host.dotGeneral dot_S256x128_S128x8x64x64_S256x8x64x64_1_0_0_123_n_n none l r) : T F S256x128 → T F S128x8x64x64 → T F S256x8x64x64),
    unary main_v82 main_v87 ((Host.slice S128x8x64x64 ![0, 0, 0, 1] ![1, 1, 2, 2] · slicesBy_S128x8x130x130_S128x8x64x64_0s1_0s1_0s2_1s2) : T F S128x8x130x130 → T F S128x8x64x64),
    unary main_arg2 main_v88 ((extractStridedSlice S256x128x1x1 ![0, 0, 0, 1] · slices_S256x128x4x4_S256x128x1x1_0_0_0_1) : T F S256x128x4x4 → T F S256x128x1x1),
    reshape main_v88 main_v89 (rfl : (.f32 : EltTy) = .f32) shapeCasts_S256x128x1x1_S256x128,
    binary main_v89 main_v87 main_v90 ((fun l r => Host.dotGeneral dot_S256x128_S128x8x64x64_S256x8x64x64_1_0_0_123_n_n none l r) : T F S256x128 → T F S128x8x64x64 → T F S256x8x64x64),
    binary main_v86 main_v90 main_v91 (addf : T F S256x8x64x64 → T F S256x8x64x64 → T F S256x8x64x64),
    unary main_v82 main_v92 ((Host.slice S128x8x64x64 ![0, 0, 0, 2] ![1, 1, 2, 2] · slicesBy_S128x8x130x130_S128x8x64x64_0s1_0s1_0s2_2s2) : T F S128x8x130x130 → T F S128x8x64x64),
    unary main_arg2 main_v93 ((extractStridedSlice S256x128x1x1 ![0, 0, 0, 2] · slices_S256x128x4x4_S256x128x1x1_0_0_0_2) : T F S256x128x4x4 → T F S256x128x1x1),
    reshape main_v93 main_v94 (rfl : (.f32 : EltTy) = .f32) shapeCasts_S256x128x1x1_S256x128,
    binary main_v94 main_v92 main_v95 ((fun l r => Host.dotGeneral dot_S256x128_S128x8x64x64_S256x8x64x64_1_0_0_123_n_n none l r) : T F S256x128 → T F S128x8x64x64 → T F S256x8x64x64),
    binary main_v91 main_v95 main_v96 (addf : T F S256x8x64x64 → T F S256x8x64x64 → T F S256x8x64x64),
    unary main_v82 main_v97 ((Host.slice S128x8x64x64 ![0, 0, 0, 3] ![1, 1, 2, 2] · slicesBy_S128x8x130x130_S128x8x64x64_0s1_0s1_0s2_3s2) : T F S128x8x130x130 → T F S128x8x64x64),
    unary main_arg2 main_v98 ((extractStridedSlice S256x128x1x1 ![0, 0, 0, 3] · slices_S256x128x4x4_S256x128x1x1_0_0_0_3) : T F S256x128x4x4 → T F S256x128x1x1),
    reshape main_v98 main_v99 (rfl : (.f32 : EltTy) = .f32) shapeCasts_S256x128x1x1_S256x128,
    binary main_v99 main_v97 main_v100 ((fun l r => Host.dotGeneral dot_S256x128_S128x8x64x64_S256x8x64x64_1_0_0_123_n_n none l r) : T F S256x128 → T F S128x8x64x64 → T F S256x8x64x64),
    binary main_v96 main_v100 main_v101 (addf : T F S256x8x64x64 → T F S256x8x64x64 → T F S256x8x64x64),
    unary main_v82 main_v102 ((Host.slice S128x8x64x64 ![0, 0, 1, 0] ![1, 1, 2, 2] · slicesBy_S128x8x130x130_S128x8x64x64_0s1_0s1_1s2_0s2) : T F S128x8x130x130 → T F S128x8x64x64),
    unary main_arg2 main_v103 ((extractStridedSlice S256x128x1x1 ![0, 0, 1, 0] · slices_S256x128x4x4_S256x128x1x1_0_0_1_0) : T F S256x128x4x4 → T F S256x128x1x1),
    reshape main_v103 main_v104 (rfl : (.f32 : EltTy) = .f32) shapeCasts_S256x128x1x1_S256x128,
    binary main_v104 main_v102 main_v105 ((fun l r => Host.dotGeneral dot_S256x128_S128x8x64x64_S256x8x64x64_1_0_0_123_n_n none l r) : T F S256x128 → T F S128x8x64x64 → T F S256x8x64x64),
    binary main_v101 main_v105 main_v106 (addf : T F S256x8x64x64 → T F S256x8x64x64 → T F S256x8x64x64),
    unary main_v82 main_v107 ((Host.slice S128x8x64x64 ![0, 0, 1, 1] ![1, 1, 2, 2] · slicesBy_S128x8x130x130_S128x8x64x64_0s1_0s1_1s2_1s2) : T F S128x8x130x130 → T F S128x8x64x64),
    unary main_arg2 main_v108 ((extractStridedSlice S256x128x1x1 ![0, 0, 1, 1] · slices_S256x128x4x4_S256x128x1x1_0_0_1_1) : T F S256x128x4x4 → T F S256x128x1x1),
    reshape main_v108 main_v109 (rfl : (.f32 : EltTy) = .f32) shapeCasts_S256x128x1x1_S256x128,
    binary main_v109 main_v107 main_v110 ((fun l r => Host.dotGeneral dot_S256x128_S128x8x64x64_S256x8x64x64_1_0_0_123_n_n none l r) : T F S256x128 → T F S128x8x64x64 → T F S256x8x64x64),
    binary main_v106 main_v110 main_v111 (addf : T F S256x8x64x64 → T F S256x8x64x64 → T F S256x8x64x64),
    unary main_v82 main_v112 ((Host.slice S128x8x64x64 ![0, 0, 1, 2] ![1, 1, 2, 2] · slicesBy_S128x8x130x130_S128x8x64x64_0s1_0s1_1s2_2s2) : T F S128x8x130x130 → T F S128x8x64x64),
    unary main_arg2 main_v113 ((extractStridedSlice S256x128x1x1 ![0, 0, 1, 2] · slices_S256x128x4x4_S256x128x1x1_0_0_1_2) : T F S256x128x4x4 → T F S256x128x1x1),
    reshape main_v113 main_v114 (rfl : (.f32 : EltTy) = .f32) shapeCasts_S256x128x1x1_S256x128,
    binary main_v114 main_v112 main_v115 ((fun l r => Host.dotGeneral dot_S256x128_S128x8x64x64_S256x8x64x64_1_0_0_123_n_n none l r) : T F S256x128 → T F S128x8x64x64 → T F S256x8x64x64),
    binary main_v111 main_v115 main_v116 (addf : T F S256x8x64x64 → T F S256x8x64x64 → T F S256x8x64x64),
    unary main_v82 main_v117 ((Host.slice S128x8x64x64 ![0, 0, 1, 3] ![1, 1, 2, 2] · slicesBy_S128x8x130x130_S128x8x64x64_0s1_0s1_1s2_3s2) : T F S128x8x130x130 → T F S128x8x64x64),
    unary main_arg2 main_v118 ((extractStridedSlice S256x128x1x1 ![0, 0, 1, 3] · slices_S256x128x4x4_S256x128x1x1_0_0_1_3) : T F S256x128x4x4 → T F S256x128x1x1),
    reshape main_v118 main_v119 (rfl : (.f32 : EltTy) = .f32) shapeCasts_S256x128x1x1_S256x128,
    binary main_v119 main_v117 main_v120 ((fun l r => Host.dotGeneral dot_S256x128_S128x8x64x64_S256x8x64x64_1_0_0_123_n_n none l r) : T F S256x128 → T F S128x8x64x64 → T F S256x8x64x64),
    binary main_v116 main_v120 main_v121 (addf : T F S256x8x64x64 → T F S256x8x64x64 → T F S256x8x64x64),
    unary main_v82 main_v122 ((Host.slice S128x8x64x64 ![0, 0, 2, 0] ![1, 1, 2, 2] · slicesBy_S128x8x130x130_S128x8x64x64_0s1_0s1_2s2_0s2) : T F S128x8x130x130 → T F S128x8x64x64),
    unary main_arg2 main_v123 ((extractStridedSlice S256x128x1x1 ![0, 0, 2, 0] · slices_S256x128x4x4_S256x128x1x1_0_0_2_0) : T F S256x128x4x4 → T F S256x128x1x1),
    reshape main_v123 main_v124 (rfl : (.f32 : EltTy) = .f32) shapeCasts_S256x128x1x1_S256x128,
    binary main_v124 main_v122 main_v125 ((fun l r => Host.dotGeneral dot_S256x128_S128x8x64x64_S256x8x64x64_1_0_0_123_n_n none l r) : T F S256x128 → T F S128x8x64x64 → T F S256x8x64x64),
    binary main_v121 main_v125 main_v126 (addf : T F S256x8x64x64 → T F S256x8x64x64 → T F S256x8x64x64),
    unary main_v82 main_v127 ((Host.slice S128x8x64x64 ![0, 0, 2, 1] ![1, 1, 2, 2] · slicesBy_S128x8x130x130_S128x8x64x64_0s1_0s1_2s2_1s2) : T F S128x8x130x130 → T F S128x8x64x64),
    unary main_arg2 main_v128 ((extractStridedSlice S256x128x1x1 ![0, 0, 2, 1] · slices_S256x128x4x4_S256x128x1x1_0_0_2_1) : T F S256x128x4x4 → T F S256x128x1x1),
    reshape main_v128 main_v129 (rfl : (.f32 : EltTy) = .f32) shapeCasts_S256x128x1x1_S256x128,
    binary main_v129 main_v127 main_v130 ((fun l r => Host.dotGeneral dot_S256x128_S128x8x64x64_S256x8x64x64_1_0_0_123_n_n none l r) : T F S256x128 → T F S128x8x64x64 → T F S256x8x64x64),
    binary main_v126 main_v130 main_v131 (addf : T F S256x8x64x64 → T F S256x8x64x64 → T F S256x8x64x64),
    unary main_v82 main_v132 ((Host.slice S128x8x64x64 ![0, 0, 2, 2] ![1, 1, 2, 2] · slicesBy_S128x8x130x130_S128x8x64x64_0s1_0s1_2s2_2s2) : T F S128x8x130x130 → T F S128x8x64x64),
    unary main_arg2 main_v133 ((extractStridedSlice S256x128x1x1 ![0, 0, 2, 2] · slices_S256x128x4x4_S256x128x1x1_0_0_2_2) : T F S256x128x4x4 → T F S256x128x1x1),
    reshape main_v133 main_v134 (rfl : (.f32 : EltTy) = .f32) shapeCasts_S256x128x1x1_S256x128,
    binary main_v134 main_v132 main_v135 ((fun l r => Host.dotGeneral dot_S256x128_S128x8x64x64_S256x8x64x64_1_0_0_123_n_n none l r) : T F S256x128 → T F S128x8x64x64 → T F S256x8x64x64),
    binary main_v131 main_v135 main_v136 (addf : T F S256x8x64x64 → T F S256x8x64x64 → T F S256x8x64x64),
    unary main_v82 main_v137 ((Host.slice S128x8x64x64 ![0, 0, 2, 3] ![1, 1, 2, 2] · slicesBy_S128x8x130x130_S128x8x64x64_0s1_0s1_2s2_3s2) : T F S128x8x130x130 → T F S128x8x64x64),
    unary main_arg2 main_v138 ((extractStridedSlice S256x128x1x1 ![0, 0, 2, 3] · slices_S256x128x4x4_S256x128x1x1_0_0_2_3) : T F S256x128x4x4 → T F S256x128x1x1),
    reshape main_v138 main_v139 (rfl : (.f32 : EltTy) = .f32) shapeCasts_S256x128x1x1_S256x128,
    binary main_v139 main_v137 main_v140 ((fun l r => Host.dotGeneral dot_S256x128_S128x8x64x64_S256x8x64x64_1_0_0_123_n_n none l r) : T F S256x128 → T F S128x8x64x64 → T F S256x8x64x64),
    binary main_v136 main_v140 main_v141 (addf : T F S256x8x64x64 → T F S256x8x64x64 → T F S256x8x64x64),
    unary main_v82 main_v142 ((Host.slice S128x8x64x64 ![0, 0, 3, 0] ![1, 1, 2, 2] · slicesBy_S128x8x130x130_S128x8x64x64_0s1_0s1_3s2_0s2) : T F S128x8x130x130 → T F S128x8x64x64),
    unary main_arg2 main_v143 ((extractStridedSlice S256x128x1x1 ![0, 0, 3, 0] · slices_S256x128x4x4_S256x128x1x1_0_0_3_0) : T F S256x128x4x4 → T F S256x128x1x1),
    reshape main_v143 main_v144 (rfl : (.f32 : EltTy) = .f32) shapeCasts_S256x128x1x1_S256x128,
    binary main_v144 main_v142 main_v145 ((fun l r => Host.dotGeneral dot_S256x128_S128x8x64x64_S256x8x64x64_1_0_0_123_n_n none l r) : T F S256x128 → T F S128x8x64x64 → T F S256x8x64x64),
    binary main_v141 main_v145 main_v146 (addf : T F S256x8x64x64 → T F S256x8x64x64 → T F S256x8x64x64),
    unary main_v82 main_v147 ((Host.slice S128x8x64x64 ![0, 0, 3, 1] ![1, 1, 2, 2] · slicesBy_S128x8x130x130_S128x8x64x64_0s1_0s1_3s2_1s2) : T F S128x8x130x130 → T F S128x8x64x64),
    unary main_arg2 main_v148 ((extractStridedSlice S256x128x1x1 ![0, 0, 3, 1] · slices_S256x128x4x4_S256x128x1x1_0_0_3_1) : T F S256x128x4x4 → T F S256x128x1x1),
    reshape main_v148 main_v149 (rfl : (.f32 : EltTy) = .f32) shapeCasts_S256x128x1x1_S256x128,
    binary main_v149 main_v147 main_v150 ((fun l r => Host.dotGeneral dot_S256x128_S128x8x64x64_S256x8x64x64_1_0_0_123_n_n none l r) : T F S256x128 → T F S128x8x64x64 → T F S256x8x64x64),
    binary main_v146 main_v150 main_v151 (addf : T F S256x8x64x64 → T F S256x8x64x64 → T F S256x8x64x64),
    unary main_v82 main_v152 ((Host.slice S128x8x64x64 ![0, 0, 3, 2] ![1, 1, 2, 2] · slicesBy_S128x8x130x130_S128x8x64x64_0s1_0s1_3s2_2s2) : T F S128x8x130x130 → T F S128x8x64x64),
    unary main_arg2 main_v153 ((extractStridedSlice S256x128x1x1 ![0, 0, 3, 2] · slices_S256x128x4x4_S256x128x1x1_0_0_3_2) : T F S256x128x4x4 → T F S256x128x1x1),
    reshape main_v153 main_v154 (rfl : (.f32 : EltTy) = .f32) shapeCasts_S256x128x1x1_S256x128,
    binary main_v154 main_v152 main_v155 ((fun l r => Host.dotGeneral dot_S256x128_S128x8x64x64_S256x8x64x64_1_0_0_123_n_n none l r) : T F S256x128 → T F S128x8x64x64 → T F S256x8x64x64),
    binary main_v151 main_v155 main_v156 (addf : T F S256x8x64x64 → T F S256x8x64x64 → T F S256x8x64x64),
    unary main_v82 main_v157 ((Host.slice S128x8x64x64 ![0, 0, 3, 3] ![1, 1, 2, 2] · slicesBy_S128x8x130x130_S128x8x64x64_0s1_0s1_3s2_3s2) : T F S128x8x130x130 → T F S128x8x64x64),
    unary main_arg2 main_v158 ((extractStridedSlice S256x128x1x1 ![0, 0, 3, 3] · slices_S256x128x4x4_S256x128x1x1_0_0_3_3) : T F S256x128x4x4 → T F S256x128x1x1),
    reshape main_v158 main_v159 (rfl : (.f32 : EltTy) = .f32) shapeCasts_S256x128x1x1_S256x128,
    binary main_v159 main_v157 main_v160 ((fun l r => Host.dotGeneral dot_S256x128_S128x8x64x64_S256x8x64x64_1_0_0_123_n_n none l r) : T F S256x128 → T F S128x8x64x64 → T F S256x8x64x64),
    binary main_v156 main_v160 main_v161 (addf : T F S256x8x64x64 → T F S256x8x64x64 → T F S256x8x64x64),
    TRef.nullary (.of main_call3_cst : TR S_ .f32) (constant S_ .f32 0x00000000#32),
    TRef.unary (.of main_call3_cst : TR S_ .f32) (.of main_call3_v0 : TR S256x8x64x64 .f32) (broadcastInDim S256x8x64x64 ![] bcast_S_S256x8x64x64),
    TRef.binary (.of main_v161 : TR S256x8x64x64 .f32) (.of main_call3_v0 : TR S256x8x64x64 .f32) (.of main_v162 : TR S256x8x64x64 .f32) maximumf ]

/-- The reference's operations that compute the third encoder convolution. -/
abbrev opsEnc3 : List (HloOp τ sig (Elt F)) :=
  [ nullary main_c_1 (constantI S_ 32 0#32),
    TRef.unary (.of main_c_1 : TR S_ .i32) (.of main_call4_v0 : TR S_ .f32) (sitofp .f32),
    TRef.binary (.of main_v162 : TR S256x8x64x64 .f32) (.of main_call4_v0 : TR S_ .f32) (.of main_v163 : TR S256x8x66x66 .f32) (fun x v => pad S256x8x66x66 ![0, 0, 1, 1] ![0, 0, 1, 1] ![0, 0, 0, 0] x v pads_S256x8x64x64_S256x8x66x66_000_000_110_110 h_S_),
    unary main_v163 main_v164 ((extractStridedSlice S256x8x64x64 ![0, 0, 0, 0] · slices_S256x8x66x66_S256x8x64x64_0_0_0_0) : T F S256x8x66x66 → T F S256x8x64x64),
    unary main_arg3 main_v165 ((extractStridedSlice S256x256x1x1 ![0, 0, 0, 0] · slices_S256x256x3x3_S256x256x1x1_0_0_0_0) : T F S256x256x3x3 → T F S256x256x1x1),
    reshape main_v165 main_v166 (rfl : (.f32 : EltTy) = .f32) shapeCasts_S256x256x1x1_S256x256,
    binary main_v166 main_v164 main_v167 ((fun l r => Host.dotGeneral dot_S256x256_S256x8x64x64_S256x8x64x64_1_0_0_123_n_n none l r) : T F S256x256 → T F S256x8x64x64 → T F S256x8x64x64),
    unary main_v163 main_v168 ((extractStridedSlice S256x8x64x64 ![0, 0, 0, 1] · slices_S256x8x66x66_S256x8x64x64_0_0_0_1) : T F S256x8x66x66 → T F S256x8x64x64),
    unary main_arg3 main_v169 ((extractStridedSlice S256x256x1x1 ![0, 0, 0, 1] · slices_S256x256x3x3_S256x256x1x1_0_0_0_1) : T F S256x256x3x3 → T F S256x256x1x1),
    reshape main_v169 main_v170 (rfl : (.f32 : EltTy) = .f32) shapeCasts_S256x256x1x1_S256x256,
    binary main_v170 main_v168 main_v171 ((fun l r => Host.dotGeneral dot_S256x256_S256x8x64x64_S256x8x64x64_1_0_0_123_n_n none l r) : T F S256x256 → T F S256x8x64x64 → T F S256x8x64x64),
    binary main_v167 main_v171 main_v172 (addf : T F S256x8x64x64 → T F S256x8x64x64 → T F S256x8x64x64),
    unary main_v163 main_v173 ((extractStridedSlice S256x8x64x64 ![0, 0, 0, 2] · slices_S256x8x66x66_S256x8x64x64_0_0_0_2) : T F S256x8x66x66 → T F S256x8x64x64),
    unary main_arg3 main_v174 ((extractStridedSlice S256x256x1x1 ![0, 0, 0, 2] · slices_S256x256x3x3_S256x256x1x1_0_0_0_2) : T F S256x256x3x3 → T F S256x256x1x1),
    reshape main_v174 main_v175 (rfl : (.f32 : EltTy) = .f32) shapeCasts_S256x256x1x1_S256x256,
    binary main_v175 main_v173 main_v176 ((fun l r => Host.dotGeneral dot_S256x256_S256x8x64x64_S256x8x64x64_1_0_0_123_n_n none l r) : T F S256x256 → T F S256x8x64x64 → T F S256x8x64x64),
    binary main_v172 main_v176 main_v177 (addf : T F S256x8x64x64 → T F S256x8x64x64 → T F S256x8x64x64),
    unary main_v163 main_v178 ((extractStridedSlice S256x8x64x64 ![0, 0, 1, 0] · slices_S256x8x66x66_S256x8x64x64_0_0_1_0) : T F S256x8x66x66 → T F S256x8x64x64),
    unary main_arg3 main_v179 ((extractStridedSlice S256x256x1x1 ![0, 0, 1, 0] · slices_S256x256x3x3_S256x256x1x1_0_0_1_0) : T F S256x256x3x3 → T F S256x256x1x1),
    reshape main_v179 main_v180 (rfl : (.f32 : EltTy) = .f32) shapeCasts_S256x256x1x1_S256x256,
    binary main_v180 main_v178 main_v181 ((fun l r => Host.dotGeneral dot_S256x256_S256x8x64x64_S256x8x64x64_1_0_0_123_n_n none l r) : T F S256x256 → T F S256x8x64x64 → T F S256x8x64x64),
    binary main_v177 main_v181 main_v182 (addf : T F S256x8x64x64 → T F S256x8x64x64 → T F S256x8x64x64),
    unary main_v163 main_v183 ((extractStridedSlice S256x8x64x64 ![0, 0, 1, 1] · slices_S256x8x66x66_S256x8x64x64_0_0_1_1) : T F S256x8x66x66 → T F S256x8x64x64),
    unary main_arg3 main_v184 ((extractStridedSlice S256x256x1x1 ![0, 0, 1, 1] · slices_S256x256x3x3_S256x256x1x1_0_0_1_1) : T F S256x256x3x3 → T F S256x256x1x1),
    reshape main_v184 main_v185 (rfl : (.f32 : EltTy) = .f32) shapeCasts_S256x256x1x1_S256x256,
    binary main_v185 main_v183 main_v186 ((fun l r => Host.dotGeneral dot_S256x256_S256x8x64x64_S256x8x64x64_1_0_0_123_n_n none l r) : T F S256x256 → T F S256x8x64x64 → T F S256x8x64x64),
    binary main_v182 main_v186 main_v187 (addf : T F S256x8x64x64 → T F S256x8x64x64 → T F S256x8x64x64),
    unary main_v163 main_v188 ((extractStridedSlice S256x8x64x64 ![0, 0, 1, 2] · slices_S256x8x66x66_S256x8x64x64_0_0_1_2) : T F S256x8x66x66 → T F S256x8x64x64),
    unary main_arg3 main_v189 ((extractStridedSlice S256x256x1x1 ![0, 0, 1, 2] · slices_S256x256x3x3_S256x256x1x1_0_0_1_2) : T F S256x256x3x3 → T F S256x256x1x1),
    reshape main_v189 main_v190 (rfl : (.f32 : EltTy) = .f32) shapeCasts_S256x256x1x1_S256x256,
    binary main_v190 main_v188 main_v191 ((fun l r => Host.dotGeneral dot_S256x256_S256x8x64x64_S256x8x64x64_1_0_0_123_n_n none l r) : T F S256x256 → T F S256x8x64x64 → T F S256x8x64x64),
    binary main_v187 main_v191 main_v192 (addf : T F S256x8x64x64 → T F S256x8x64x64 → T F S256x8x64x64),
    unary main_v163 main_v193 ((extractStridedSlice S256x8x64x64 ![0, 0, 2, 0] · slices_S256x8x66x66_S256x8x64x64_0_0_2_0) : T F S256x8x66x66 → T F S256x8x64x64),
    unary main_arg3 main_v194 ((extractStridedSlice S256x256x1x1 ![0, 0, 2, 0] · slices_S256x256x3x3_S256x256x1x1_0_0_2_0) : T F S256x256x3x3 → T F S256x256x1x1),
    reshape main_v194 main_v195 (rfl : (.f32 : EltTy) = .f32) shapeCasts_S256x256x1x1_S256x256,
    binary main_v195 main_v193 main_v196 ((fun l r => Host.dotGeneral dot_S256x256_S256x8x64x64_S256x8x64x64_1_0_0_123_n_n none l r) : T F S256x256 → T F S256x8x64x64 → T F S256x8x64x64),
    binary main_v192 main_v196 main_v197 (addf : T F S256x8x64x64 → T F S256x8x64x64 → T F S256x8x64x64),
    unary main_v163 main_v198 ((extractStridedSlice S256x8x64x64 ![0, 0, 2, 1] · slices_S256x8x66x66_S256x8x64x64_0_0_2_1) : T F S256x8x66x66 → T F S256x8x64x64),
    unary main_arg3 main_v199 ((extractStridedSlice S256x256x1x1 ![0, 0, 2, 1] · slices_S256x256x3x3_S256x256x1x1_0_0_2_1) : T F S256x256x3x3 → T F S256x256x1x1),
    reshape main_v199 main_v200 (rfl : (.f32 : EltTy) = .f32) shapeCasts_S256x256x1x1_S256x256,
    binary main_v200 main_v198 main_v201 ((fun l r => Host.dotGeneral dot_S256x256_S256x8x64x64_S256x8x64x64_1_0_0_123_n_n none l r) : T F S256x256 → T F S256x8x64x64 → T F S256x8x64x64),
    binary main_v197 main_v201 main_v202 (addf : T F S256x8x64x64 → T F S256x8x64x64 → T F S256x8x64x64),
    unary main_v163 main_v203 ((extractStridedSlice S256x8x64x64 ![0, 0, 2, 2] · slices_S256x8x66x66_S256x8x64x64_0_0_2_2) : T F S256x8x66x66 → T F S256x8x64x64),
    unary main_arg3 main_v204 ((extractStridedSlice S256x256x1x1 ![0, 0, 2, 2] · slices_S256x256x3x3_S256x256x1x1_0_0_2_2) : T F S256x256x3x3 → T F S256x256x1x1),
    reshape main_v204 main_v205 (rfl : (.f32 : EltTy) = .f32) shapeCasts_S256x256x1x1_S256x256,
    binary main_v205 main_v203 main_v206 ((fun l r => Host.dotGeneral dot_S256x256_S256x8x64x64_S256x8x64x64_1_0_0_123_n_n none l r) : T F S256x256 → T F S256x8x64x64 → T F S256x8x64x64),
    binary main_v202 main_v206 main_v207 (addf : T F S256x8x64x64 → T F S256x8x64x64 → T F S256x8x64x64) ]

/-- The reference's operations that compute the 1x1 convolution in front of the quantizer, flattened to rows. -/
abbrev opsQuant : List (HloOp τ sig (Elt F)) :=
  [ nullary main_c_2 (constantI S_ 32 0#32),
    TRef.unary (.of main_c_2 : TR S_ .i32) (.of main_call5_v0 : TR S_ .f32) (sitofp .f32),
    TRef.binary (.of main_v207 : TR S256x8x64x64 .f32) (.of main_call5_v0 : TR S_ .f32) (.of main_v208 : TR S256x8x64x64 .f32) (fun x v => pad S256x8x64x64 ![0, 0, 0, 0] ![0, 0, 0, 0] ![0, 0, 0, 0] x v pads_S256x8x64x64_S256x8x64x64_000_000_000_000 h_S_),
    reshape main_arg4 main_v209 (rfl : (.f32 : EltTy) = .f32) shapeCasts_S256x256x1x1_S256x256,
    binary main_v209 main_v208 main_v210 ((fun l r => Host.dotGeneral dot_S256x256_S256x8x64x64_S256x8x64x64_1_0_0_123_n_n none l r) : T F S256x256 → T F S256x8x64x64 → T F S256x8x64x64),
    unary main_v210 main_v211 ((transpose S8x64x64x256 [1, 2, 3, 0] · transposes_S256x8x64x64_S8x64x64x256_1_2_3_0) : T F S256x8x64x64 → T F S8x64x64x256),
    reshape main_v211 main_v212 (rfl : (.f32 : EltTy) = .f32) shapeCasts_S8x64x64x256_S32768x256 ]

/-- The reference's operations that compute the squared distances to the codebook. -/
abbrev opsDist : List (HloOp τ sig (Elt F)) :=
  [ binary main_v212 main_v212 main_v213 (mulf : T F S32768x256 → T F S32768x256 → T F S32768x256),
    nullary main_cst (constant S_ .f32 0x00000000#32),
    binary main_v213 main_cst main_v214 ((fun x v => Host.reduceAdd x v reducesTo_S32768x256_S32768_d1 h_S_) : T F S32768x256 → T F S_ → T F S32768),
    unary main_v214 main_v215 (broadcastInDim S32768x1 ![0] bcast_S32768_S32768x1_0 : T F S32768 → T F S32768x1),
    unary main_arg5 main_v216 ((transpose S256x1024 [1, 0] · transposes_S1024x256_S256x1024_1_0) : T F S1024x256 → T F S256x1024),
    binary main_v212 main_v216 main_v217 ((fun l r => Host.dotGeneral dot_S32768x256_S256x1024_S32768x1024_1_0_0_1_n_n none l r) : T F S32768x256 → T F S256x1024 → T F S32768x1024),
    nullary main_cst_3 (constant S_ .f32 0x40000000#32),
    unary main_cst_3 main_v218 (broadcastInDim S32768x1024 ![] bcast_S_S32768x1024 : T F S_ → T F S32768x1024),
    binary main_v218 main_v217 main_v219 (mulf : T F S32768x1024 → T F S32768x1024 → T F S32768x1024),
    unary main_v215 main_v220 (broadcastInDim S32768x1024 ![0, 1] bcast_S32768x1_S32768x1024_0_1 : T F S32768x1 → T F S32768x1024),
    binary main_v220 main_v219 main_v221 (subf : T F S32768x1024 → T F S32768x1024 → T F S32768x1024),
    binary main_arg5 main_arg5 main_v222 (mulf : T F S1024x256 → T F S1024x256 → T F S1024x256),
    nullary main_cst_4 (constant S_ .f32 0x00000000#32),
    binary main_v222 main_cst_4 main_v223 ((fun x v => Host.reduceAdd x v reducesTo_S1024x256_S1024_d1 h_S_) : T F S1024x256 → T F S_ → T F S1024),
    unary main_v223 main_v224 (broadcastInDim S1x1024 ![1] bcast_S1024_S1x1024_1 : T F S1024 → T F S1x1024),
    unary main_v224 main_v225 (broadcastInDim S32768x1024 ![0, 1] bcast_S1x1024_S32768x1024_0_1 : T F S1x1024 → T F S32768x1024),
    binary main_v221 main_v225 main_v226 (addf : T F S32768x1024 → T F S32768x1024 → T F S32768x1024) ]

/-- The reference's operations that compute the index of the nearest codebook row. -/
abbrev opsArg : List (HloOp τ sig (Elt F)) :=
  [ TRef.nullary (.of main_call6_v0 : TR S32768x1024 .i32) (iotaInDim S32768x1024 32 1),
    TRef.nullary (.of main_call6_cst : TR S_ .f32) (constant S_ .f32 0x7F800000#32),
    TRef.nullary (.of main_call6_c : TR S_ .i32) (constantI S_ 32 0#32),
    TRef.quaternary (.of main_v226 : TR S32768x1024 .f32) (.of main_call6_v0 : TR S32768x1024 .i32) (.of main_call6_cst : TR S_ .f32) (.of main_call6_c : TR S_ .i32) (.of main_call6_v1_0 : TR S32768 .f32) (fun x y u v j => (Host.argReduce reducer_argmin_f32_i32 x y u v reducesTo_S32768x1024_S32768_d1 h_S_ j).1),
    TRef.quaternary (.of main_v226 : TR S32768x1024 .f32) (.of main_call6_v0 : TR S32768x1024 .i32) (.of main_call6_cst : TR S_ .f32) (.of main_call6_c : TR S_ .i32) (.of main_v227 : TR S32768 .i32) (fun x y u v j => (Host.argReduce reducer_argmin_f32_i32 x y u v reducesTo_S32768x1024_S32768_d1 h_S_ j).2) ]

/-- The reference's operations that compute the nearest codebook row. -/
abbrev opsTake : List (HloOp τ sig (Elt F)) :=
  [ TRef.nullary (.of main_call7_c : TR S_ .i32) (constantI S_ 32 0#32),
    TRef.unary (.of main_call7_c : TR S_ .i32) (.of main_call7_v0 : TR S32768 .i32) (broadcastInDim S32768 ![] bcast_S_S32768),
    TRef.binary (.of main_v227 : TR S32768 .i32) (.of main_call7_v0 : TR S32768 .i32) (.of main_call7_v1 : TR S32768 .i1) (cmpi .slt),
    TRef.nullary (.of main_call7_c_0 : TR S_ .i32) (constantI S_ 32 1024#32),
    TRef.unary (.of main_call7_c_0 : TR S_ .i32) (.of main_call7_v2 : TR S32768 .i32) (broadcastInDim S32768 ![] bcast_S_S32768),
    TRef.binary (.of main_v227 : TR S32768 .i32) (.of main_call7_v2 : TR S32768 .i32) (.of main_call7_v3 : TR S32768 .i32) addi,
    TRef.ternary (.of main_call7_v1 : TR S32768 .i1) (.of main_call7_v3 : TR S32768 .i32) (.of main_v227 : TR S32768 .i32) (.of main_call7_v4 : TR S32768 .i32) select,
    TRef.unary (.of main_call7_v4 : TR S32768 .i32) (.of main_call7_v5 : TR S32768x1 .i32) (broadcastInDim S32768x1 ![0] bcast_S32768_S32768x1_0),
    TRef.nullary (.of main_call7_c_1 : TR S1 .i32) (constantI S1 32 1023#32),
    TRef.nullary (.of main_call7_c_2 : TR S_ .i32) (constantI S_ 32 0#32),
    TRef.unary (.of main_call7_c_2 : TR S_ .i32) (.of main_call7_v6 : TR S32768x1 .i32) (broadcastInDim S32768x1 ![] bcast_S_S32768x1),
    TRef.binary (.of main_call7_v5 : TR S32768x1 .i32) (.of main_call7_v6 : TR S32768x1 .i32) (.of main_call7_v7 : TR S32768x1 .i1) (cmpi .sge),
    TRef.unary (.of main_call7_c_1 : TR S1 .i32) (.of main_call7_v8 : TR S1x1 .i32) (broadcastInDim S1x1 ![1] bcast_S1_S1x1_1),
    TRef.unary (.of main_call7_v8 : TR S1x1 .i32) (.of main_call7_v9 : TR S32768x1 .i32) (broadcastInDim S32768x1 ![0, 1] bcast_S1x1_S32768x1_0_1),
    TRef.binary (.of main_call7_v5 : TR S32768x1 .i32) (.of main_call7_v9 : TR S32768x1 .i32) (.of main_call7_v10 : TR S32768x1 .i1) (cmpi .sle),
    TRef.binary (.of main_call7_v7 : TR S32768x1 .i1) (.of main_call7_v10 : TR S32768x1 .i1) (.of main_call7_v11 : TR S32768x1 .i1) andi,
    TRef.nullary (.of main_call7_c_3 : TR S_ .i1) (constantI S_ 1 1#1),
    TRef.binary (.of main_call7_v11 : TR S32768x1 .i1) (.of main_call7_c_3 : TR S_ .i1) (.of main_call7_v12 : TR S32768 .i1) (fun x v => Host.reduce IntOp.andi x v reducesTo_S32768x1_S32768_d1 h_S_),
    TRef.binary (.of main_arg5 : TR S1024x256 .f32) (.of main_call7_v5 : TR S32768x1 .i32) (.of main_call7_v13 : TR S32768x256 .f32) (fun x i => Host.gather gather_S1024x256_S32768x1_S32768x256_1_0_n_n_0_1_1256 x i),
    TRef.unary (.of main_call7_v12 : TR S32768 .i1) (.of main_call7_v14 : TR S32768x256 .i1) (broadcastInDim S32768x256 ![0] bcast_S32768_S32768x256_0),
    TRef.nullary (.of main_call7_cst : TR S_ .f32) (constant S_ .f32 0x7FC00000#32),
    TRef.unary (.of main_call7_cst : TR S_ .f32) (.of main_call7_v15 : TR S32768x256 .f32) (broadcastInDim S32768x256 ![] bcast_S_S32768x256),
    TRef.ternary (.of main_call7_v14 : TR S32768x256 .i1) (.of main_call7_v13 : TR S32768x256 .f32) (.of main_call7_v15 : TR S32768x256 .f32) (.of main_v228 : TR S32768x256 .f32) select ]

/-- The reference's operations that compute the commitment loss. -/
abbrev opsCommit : List (HloOp τ sig (Elt F)) :=
  [ binary main_v228 main_v212 main_v229 (subf : T F S32768x256 → T F S32768x256 → T F S32768x256),
    binary main_v229 main_v229 main_v230 (mulf : T F S32768x256 → T F S32768x256 → T F S32768x256),
    nullary main_cst_5 (constant S_ .f32 0x00000000#32),
    binary main_v230 main_cst_5 main_v231 ((fun x v => Host.reduceAdd x v reducesTo_S32768x256_S_d0_1 h_S_) : T F S32768x256 → T F S_ → T F S_),
    nullary main_cst_6 (constant S_ .f32 0x4B000000#32),
    binary main_v231 main_cst_6 main_v232 (Host.divf : T F S_ → T F S_ → T F S_),
    binary main_v228 main_v212 main_v233 (subf : T F S32768x256 → T F S32768x256 → T F S32768x256),
    binary main_v233 main_v233 main_v234 (mulf : T F S32768x256 → T F S32768x256 → T F S32768x256),
    nullary main_cst_7 (constant S_ .f32 0x00000000#32),
    binary main_v234 main_cst_7 main_v235 ((fun x v => Host.reduceAdd x v reducesTo_S32768x256_S_d0_1 h_S_) : T F S32768x256 → T F S_ → T F S_),
    nullary main_cst_8 (constant S_ .f32 0x4B000000#32),
    binary main_v235 main_cst_8 main_v236 (Host.divf : T F S_ → T F S_ → T F S_),
    nullary main_cst_9 (constant S_ .f32 0x3E800000#32),
    binary main_cst_9 main_v236 main_v237 (mulf : T F S_ → T F S_ → T F S_),
    binary main_v232 main_v237 main_v238 (addf : T F S_ → T F S_ → T F S_) ]

end

end Cert.Proof.Ref

end
-- ==== Proof.RefOps2.lean ====
module

public import proofs.«01_k».proof.Proof.Gen.ReferenceIdeal
public import Idealize.ShloMosaic.Lib.Claim
public import Idealize.ShloMosaic.PureOps.Ideal
public import proofs.«01_k».proof.Proof.RefOps1

@[expose] public section

set_option maxRecDepth 16384

noncomputable section

namespace Cert.Proof.Ref

open Idealize.ShloMosaic Idealize.ShloMosaic.StableHlo Cert.ReferenceIdeal

section
open Facts₀
variable {F : FTy → Type} [FloatOps F]

/-- The reference's operations that compute the straight-through rows and the 1x1 convolution behind the quantizer. -/
abbrev opsPost : List (HloOp τ sig (Elt F)) :=
  [ binary main_v228 main_v212 main_v239 (subf : T F S32768x256 → T F S32768x256 → T F S32768x256),
    binary main_v212 main_v239 main_v240 (addf : T F S32768x256 → T F S32768x256 → T F S32768x256),
    reshape main_v240 main_v241 (rfl : (.f32 : EltTy) = .f32) shapeCasts_S32768x256_S8x64x64x256,
    unary main_v241 main_v242 ((transpose S256x8x64x64 [3, 0, 1, 2] · transposes_S8x64x64x256_S256x8x64x64_3_0_1_2) : T F S8x64x64x256 → T F S256x8x64x64),
    nullary main_c_10 (constantI S_ 32 0#32),
    TRef.unary (.of main_c_10 : TR S_ .i32) (.of main_call8_v0 : TR S_ .f32) (sitofp .f32),
    TRef.binary (.of main_v242 : TR S256x8x64x64 .f32) (.of main_call8_v0 : TR S_ .f32) (.of main_v243 : TR S256x8x64x64 .f32) (fun x v => pad S256x8x64x64 ![0, 0, 0, 0] ![0, 0, 0, 0] ![0, 0, 0, 0] x v pads_S256x8x64x64_S256x8x64x64_000_000_000_000 h_S_),
    reshape main_arg6 main_v244 (rfl : (.f32 : EltTy) = .f32) shapeCasts_S256x256x1x1_S256x256,
    binary main_v244 main_v243 main_v245 ((fun l r => Host.dotGeneral dot_S256x256_S256x8x64x64_S256x8x64x64_1_0_0_123_n_n none l r) : T F S256x256 → T F S256x8x64x64 → T F S256x8x64x64) ]

/-- The reference's operations that compute the first decoder convolution. -/
abbrev opsDec1 : List (HloOp τ sig (Elt F)) :=
  [ nullary main_c_11 (constantI S_ 32 0#32),
    TRef.unary (.of main_c_11 : TR S_ .i32) (.of main_call9_v0 : TR S_ .f32) (sitofp .f32),
    TRef.binary (.of main_v245 : TR S256x8x64x64 .f32) (.of main_call9_v0 : TR S_ .f32) (.of main_v246 : TR S256x8x66x66 .f32) (fun x v => pad S256x8x66x66 ![0, 0, 1, 1] ![0, 0, 1, 1] ![0, 0, 0, 0] x v pads_S256x8x64x64_S256x8x66x66_000_000_110_110 h_S_),
    unary main_v246 main_v247 ((extractStridedSlice S256x8x64x64 ![0, 0, 0, 0] · slices_S256x8x66x66_S256x8x64x64_0_0_0_0) : T F S256x8x66x66 → T F S256x8x64x64),
    unary main_arg7 main_v248 ((extractStridedSlice S256x256x1x1 ![0, 0, 0, 0] · slices_S256x256x3x3_S256x256x1x1_0_0_0_0) : T F S256x256x3x3 → T F S256x256x1x1),
    reshape main_v248 main_v249 (rfl : (.f32 : EltTy) = .f32) shapeCasts_S256x256x1x1_S256x256,
    binary main_v249 main_v247 main_v250 ((fun l r => Host.dotGeneral dot_S256x256_S256x8x64x64_S256x8x64x64_1_0_0_123_n_n none l r) : T F S256x256 → T F S256x8x64x64 → T F S256x8x64x64),
    unary main_v246 main_v251 ((extractStridedSlice S256x8x64x64 ![0, 0, 0, 1] · slices_S256x8x66x66_S256x8x64x64_0_0_0_1) : T F S256x8x66x66 → T F S256x8x64x64),
    unary main_arg7 main_v252 ((extractStridedSlice S256x256x1x1 ![0, 0, 0, 1] · slices_S256x256x3x3_S256x256x1x1_0_0_0_1) : T F S256x256x3x3 → T F S256x256x1x1),
    reshape main_v252 main_v253 (rfl : (.f32 : EltTy) = .f32) shapeCasts_S256x256x1x1_S256x256,
    binary main_v253 main_v251 main_v254 ((fun l r => Host.dotGeneral dot_S256x256_S256x8x64x64_S256x8x64x64_1_0_0_123_n_n none l r) : T F S256x256 → T F S256x8x64x64 → T F S256x8x64x64),
    binary main_v250 main_v254 main_v255 (addf : T F S256x8x64x64 → T F S256x8x64x64 → T F S256x8x64x64),
    unary main_v246 main_v256 ((extractStridedSlice S256x8x64x64 ![0, 0, 0, 2] · slices_S256x8x66x66_S256x8x64x64_0_0_0_2) : T F S256x8x66x66 → T F S256x8x64x64),
    unary main_arg7 main_v257 ((extractStridedSlice S256x256x1x1 ![0, 0, 0, 2] · slices_S256x256x3x3_S256x256x1x1_0_0_0_2) : T F S256x256x3x3 → T F S256x256x1x1),
    reshape main_v257 main_v258 (rfl : (.f32 : EltTy) = .f32) shapeCasts_S256x256x1x1_S256x256,
    binary main_v258 main_v256 main_v259 ((fun l r => Host.dotGeneral dot_S256x256_S256x8x64x64_S256x8x64x64_1_0_0_123_n_n none l r) : T F S256x256 → T F S256x8x64x64 → T F S256x8x64x64),
    binary main_v255 main_v259 main_v260 (addf : T F S256x8x64x64 → T F S256x8x64x64 → T F S256x8x64x64),
    unary main_v246 main_v261 ((extractStridedSlice S256x8x64x64 ![0, 0, 1, 0] · slices_S256x8x66x66_S256x8x64x64_0_0_1_0) : T F S256x8x66x66 → T F S256x8x64x64),
    unary main_arg7 main_v262 ((extractStridedSlice S256x256x1x1 ![0, 0, 1, 0] · slices_S256x256x3x3_S256x256x1x1_0_0_1_0) : T F S256x256x3x3 → T F S256x256x1x1),
    reshape main_v262 main_v263 (rfl : (.f32 : EltTy) = .f32) shapeCasts_S256x256x1x1_S256x256,
    binary main_v263 main_v261 main_v264 ((fun l r => Host.dotGeneral dot_S256x256_S256x8x64x64_S256x8x64x64_1_0_0_123_n_n none l r) : T F S256x256 → T F S256x8x64x64 → T F S256x8x64x64),
    binary main_v260 main_v264 main_v265 (addf : T F S256x8x64x64 → T F S256x8x64x64 → T F S256x8x64x64),
    unary main_v246 main_v266 ((extractStridedSlice S256x8x64x64 ![0, 0, 1, 1] · slices_S256x8x66x66_S256x8x64x64_0_0_1_1) : T F S256x8x66x66 → T F S256x8x64x64),
    unary main_arg7 main_v267 ((extractStridedSlice S256x256x1x1 ![0, 0, 1, 1] · slices_S256x256x3x3_S256x256x1x1_0_0_1_1) : T F S256x256x3x3 → T F S256x256x1x1),
    reshape main_v267 main_v268 (rfl : (.f32 : EltTy) = .f32) shapeCasts_S256x256x1x1_S256x256,
    binary main_v268 main_v266 main_v269 ((fun l r => Host.dotGeneral dot_S256x256_S256x8x64x64_S256x8x64x64_1_0_0_123_n_n none l r) : T F S256x256 → T F S256x8x64x64 → T F S256x8x64x64),
    binary main_v265 main_v269 main_v270 (addf : T F S256x8x64x64 → T F S256x8x64x64 → T F S256x8x64x64),
    unary main_v246 main_v271 ((extractStridedSlice S256x8x64x64 ![0, 0, 1, 2] · slices_S256x8x66x66_S256x8x64x64_0_0_1_2) : T F S256x8x66x66 → T F S256x8x64x64),
    unary main_arg7 main_v272 ((extractStridedSlice S256x256x1x1 ![0, 0, 1, 2] · slices_S256x256x3x3_S256x256x1x1_0_0_1_2) : T F S256x256x3x3 → T F S256x256x1x1),
    reshape main_v272 main_v273 (rfl : (.f32 : EltTy) = .f32) shapeCasts_S256x256x1x1_S256x256,
    binary main_v273 main_v271 main_v274 ((fun l r => Host.dotGeneral dot_S256x256_S256x8x64x64_S256x8x64x64_1_0_0_123_n_n none l r) : T F S256x256 → T F S256x8x64x64 → T F S256x8x64x64),
    binary main_v270 main_v274 main_v275 (addf : T F S256x8x64x64 → T F S256x8x64x64 → T F S256x8x64x64),
    unary main_v246 main_v276 ((extractStridedSlice S256x8x64x64 ![0, 0, 2, 0] · slices_S256x8x66x66_S256x8x64x64_0_0_2_0) : T F S256x8x66x66 → T F S256x8x64x64),
    unary main_arg7 main_v277 ((extractStridedSlice S256x256x1x1 ![0, 0, 2, 0] · slices_S256x256x3x3_S256x256x1x1_0_0_2_0) : T F S256x256x3x3 → T F S256x256x1x1),
    reshape main_v277 main_v278 (rfl : (.f32 : EltTy) = .f32) shapeCasts_S256x256x1x1_S256x256,
    binary main_v278 main_v276 main_v279 ((fun l r => Host.dotGeneral dot_S256x256_S256x8x64x64_S256x8x64x64_1_0_0_123_n_n none l r) : T F S256x256 → T F S256x8x64x64 → T F S256x8x64x64),
    binary main_v275 main_v279 main_v280 (addf : T F S256x8x64x64 → T F S256x8x64x64 → T F S256x8x64x64),
    unary main_v246 main_v281 ((extractStridedSlice S256x8x64x64 ![0, 0, 2, 1] · slices_S256x8x66x66_S256x8x64x64_0_0_2_1) : T F S256x8x66x66 → T F S256x8x64x64),
    unary main_arg7 main_v282 ((extractStridedSlice S256x256x1x1 ![0, 0, 2, 1] · slices_S256x256x3x3_S256x256x1x1_0_0_2_1) : T F S256x256x3x3 → T F S256x256x1x1),
    reshape main_v282 main_v283 (rfl : (.f32 : EltTy) = .f32) shapeCasts_S256x256x1x1_S256x256,
    binary main_v283 main_v281 main_v284 ((fun l r => Host.dotGeneral dot_S256x256_S256x8x64x64_S256x8x64x64_1_0_0_123_n_n none l r) : T F S256x256 → T F S256x8x64x64 → T F S256x8x64x64),
    binary main_v280 main_v284 main_v285 (addf : T F S256x8x64x64 → T F S256x8x64x64 → T F S256x8x64x64),
    unary main_v246 main_v286 ((extractStridedSlice S256x8x64x64 ![0, 0, 2, 2] · slices_S256x8x66x66_S256x8x64x64_0_0_2_2) : T F S256x8x66x66 → T F S256x8x64x64),
    unary main_arg7 main_v287 ((extractStridedSlice S256x256x1x1 ![0, 0, 2, 2] · slices_S256x256x3x3_S256x256x1x1_0_0_2_2) : T F S256x256x3x3 → T F S256x256x1x1),
    reshape main_v287 main_v288 (rfl : (.f32 : EltTy) = .f32) shapeCasts_S256x256x1x1_S256x256,
    binary main_v288 main_v286 main_v289 ((fun l r => Host.dotGeneral dot_S256x256_S256x8x64x64_S256x8x64x64_1_0_0_123_n_n none l r) : T F S256x256 → T F S256x8x64x64 → T F S256x8x64x64),
    binary main_v285 main_v289 main_v290 (addf : T F S256x8x64x64 → T F S256x8x64x64 → T F S256x8x64x64),
    TRef.nullary (.of main_call10_cst : TR S_ .f32) (constant S_ .f32 0x00000000#32),
    TRef.unary (.of main_call10_cst : TR S_ .f32) (.of main_call10_v0 : TR S256x8x64x64 .f32) (broadcastInDim S256x8x64x64 ![] bcast_S_S256x8x64x64),
    TRef.binary (.of main_v290 : TR S256x8x64x64 .f32) (.of main_call10_v0 : TR S256x8x64x64 .f32) (.of main_v291 : TR S256x8x64x64 .f32) maximumf ]

/-- The reference's operations that compute the first upsampling. -/
abbrev opsUp2 : List (HloOp τ sig (Elt F)) :=
  [ unary main_v291 main_v292 (broadcastInDim S256x8x64x2x64 ![0, 1, 2, 4] bcast_S256x8x64x64_S256x8x64x2x64_0_1_2_4 : T F S256x8x64x64 → T F S256x8x64x2x64),
    reshape main_v292 main_v293 (rfl : (.f32 : EltTy) = .f32) shapeCasts_S256x8x64x2x64_S256x8x128x64,
    unary main_v293 main_v294 (broadcastInDim S256x8x128x64x2 ![0, 1, 2, 3] bcast_S256x8x128x64_S256x8x128x64x2_0_1_2_3 : T F S256x8x128x64 → T F S256x8x128x64x2),
    reshape main_v294 main_v295 (rfl : (.f32 : EltTy) = .f32) shapeCasts_S256x8x128x64x2_S256x8x128x128 ]

/-- The reference's operations that compute the second decoder convolution. -/
abbrev opsDec2 : List (HloOp τ sig (Elt F)) :=
  [ nullary main_c_12 (constantI S_ 32 0#32),
    TRef.unary (.of main_c_12 : TR S_ .i32) (.of main_call11_v0 : TR S_ .f32) (sitofp .f32),
    TRef.binary (.of main_v295 : TR S256x8x128x128 .f32) (.of main_call11_v0 : TR S_ .f32) (.of main_v296 : TR S256x8x130x130 .f32) (fun x v => pad S256x8x130x130 ![0, 0, 1, 1] ![0, 0, 1, 1] ![0, 0, 0, 0] x v pads_S256x8x128x128_S256x8x130x130_000_000_110_110 h_S_),
    unary main_v296 main_v297 ((extractStridedSlice S256x8x128x128 ![0, 0, 0, 0] · slices_S256x8x130x130_S256x8x128x128_0_0_0_0) : T F S256x8x130x130 → T F S256x8x128x128),
    unary main_arg8 main_v298 ((extractStridedSlice S128x256x1x1 ![0, 0, 0, 0] · slices_S128x256x3x3_S128x256x1x1_0_0_0_0) : T F S128x256x3x3 → T F S128x256x1x1),
    reshape main_v298 main_v299 (rfl : (.f32 : EltTy) = .f32) shapeCasts_S128x256x1x1_S128x256,
    binary main_v299 main_v297 main_v300 ((fun l r => Host.dotGeneral dot_S128x256_S256x8x128x128_S128x8x128x128_1_0_0_123_n_n none l r) : T F S128x256 → T F S256x8x128x128 → T F S128x8x128x128),
    unary main_v296 main_v301 ((extractStridedSlice S256x8x128x128 ![0, 0, 0, 1] · slices_S256x8x130x130_S256x8x128x128_0_0_0_1) : T F S256x8x130x130 → T F S256x8x128x128),
    unary main_arg8 main_v302 ((extractStridedSlice S128x256x1x1 ![0, 0, 0, 1] · slices_S128x256x3x3_S128x256x1x1_0_0_0_1) : T F S128x256x3x3 → T F S128x256x1x1),
    reshape main_v302 main_v303 (rfl : (.f32 : EltTy) = .f32) shapeCasts_S128x256x1x1_S128x256,
    binary main_v303 main_v301 main_v304 ((fun l r => Host.dotGeneral dot_S128x256_S256x8x128x128_S128x8x128x128_1_0_0_123_n_n none l r) : T F S128x256 → T F S256x8x128x128 → T F S128x8x128x128),
    binary main_v300 main_v304 main_v305 (addf : T F S128x8x128x128 → T F S128x8x128x128 → T F S128x8x128x128),
    unary main_v296 main_v306 ((extractStridedSlice S256x8x128x128 ![0, 0, 0, 2] · slices_S256x8x130x130_S256x8x128x128_0_0_0_2) : T F S256x8x130x130 → T F S256x8x128x128),
    unary main_arg8 main_v307 ((extractStridedSlice S128x256x1x1 ![0, 0, 0, 2] · slices_S128x256x3x3_S128x256x1x1_0_0_0_2) : T F S128x256x3x3 → T F S128x256x1x1),
    reshape main_v307 main_v308 (rfl : (.f32 : EltTy) = .f32) shapeCasts_S128x256x1x1_S128x256,
    binary main_v308 main_v306 main_v309 ((fun l r => Host.dotGeneral dot_S128x256_S256x8x128x128_S128x8x128x128_1_0_0_123_n_n none l r) : T F S128x256 → T F S256x8x128x128 → T F S128x8x128x128),
    binary main_v305 main_v309 main_v310 (addf : T F S128x8x128x128 → T F S128x8x128x128 → T F S128x8x128x128),
    unary main_v296 main_v311 ((extractStridedSlice S256x8x128x128 ![0, 0, 1, 0] · slices_S256x8x130x130_S256x8x128x128_0_0_1_0) : T F S256x8x130x130 → T F S256x8x128x128),
    unary main_arg8 main_v312 ((extractStridedSlice S128x256x1x1 ![0, 0, 1, 0] · slices_S128x256x3x3_S128x256x1x1_0_0_1_0) : T F S128x256x3x3 → T F S128x256x1x1),
    reshape main_v312 main_v313 (rfl : (.f32 : EltTy) = .f32) shapeCasts_S128x256x1x1_S128x256,
    binary main_v313 main_v311 main_v314 ((fun l r => Host.dotGeneral dot_S128x256_S256x8x128x128_S128x8x128x128_1_0_0_123_n_n none l r) : T F S128x256 → T F S256x8x128x128 → T F S128x8x128x128),
    binary main_v310 main_v314 main_v315 (addf : T F S128x8x128x128 → T F S128x8x128x128 → T F S128x8x128x128),
    unary main_v296 main_v316 ((extractStridedSlice S256x8x128x128 ![0, 0, 1, 1] · slices_S256x8x130x130_S256x8x128x128_0_0_1_1) : T F S256x8x130x130 → T F S256x8x128x128),
    unary main_arg8 main_v317 ((extractStridedSlice S128x256x1x1 ![0, 0, 1, 1] · slices_S128x256x3x3_S128x256x1x1_0_0_1_1) : T F S128x256x3x3 → T F S128x256x1x1),
    reshape main_v317 main_v318 (rfl : (.f32 : EltTy) = .f32) shapeCasts_S128x256x1x1_S128x256,
    binary main_v318 main_v316 main_v319 ((fun l r => Host.dotGeneral dot_S128x256_S256x8x128x128_S128x8x128x128_1_0_0_123_n_n none l r) : T F S128x256 → T F S256x8x128x128 → T F S128x8x128x128),
    binary main_v315 main_v319 main_v320 (addf : T F S128x8x128x128 → T F S128x8x128x128 → T F S128x8x128x128),
    unary main_v296 main_v321 ((extractStridedSlice S256x8x128x128 ![0, 0, 1, 2] · slices_S256x8x130x130_S256x8x128x128_0_0_1_2) : T F S256x8x130x130 → T F S256x8x128x128),
    unary main_arg8 main_v322 ((extractStridedSlice S128x256x1x1 ![0, 0, 1, 2] · slices_S128x256x3x3_S128x256x1x1_0_0_1_2) : T F S128x256x3x3 → T F S128x256x1x1),
    reshape main_v322 main_v323 (rfl : (.f32 : EltTy) = .f32) shapeCasts_S128x256x1x1_S128x256,
    binary main_v323 main_v321 main_v324 ((fun l r => Host.dotGeneral dot_S128x256_S256x8x128x128_S128x8x128x128_1_0_0_123_n_n none l r) : T F S128x256 → T F S256x8x128x128 → T F S128x8x128x128),
    binary main_v320 main_v324 main_v325 (addf : T F S128x8x128x128 → T F S128x8x128x128 → T F S128x8x128x128),
    unary main_v296 main_v326 ((extractStridedSlice S256x8x128x128 ![0, 0, 2, 0] · slices_S256x8x130x130_S256x8x128x128_0_0_2_0) : T F S256x8x130x130 → T F S256x8x128x128),
    unary main_arg8 main_v327 ((extractStridedSlice S128x256x1x1 ![0, 0, 2, 0] · slices_S128x256x3x3_S128x256x1x1_0_0_2_0) : T F S128x256x3x3 → T F S128x256x1x1),
    reshape main_v327 main_v328 (rfl : (.f32 : EltTy) = .f32) shapeCasts_S128x256x1x1_S128x256,
    binary main_v328 main_v326 main_v329 ((fun l r => Host.dotGeneral dot_S128x256_S256x8x128x128_S128x8x128x128_1_0_0_123_n_n none l r) : T F S128x256 → T F S256x8x128x128 → T F S128x8x128x128),
    binary main_v325 main_v329 main_v330 (addf : T F S128x8x128x128 → T F S128x8x128x128 → T F S128x8x128x128),
    unary main_v296 main_v331 ((extractStridedSlice S256x8x128x128 ![0, 0, 2, 1] · slices_S256x8x130x130_S256x8x128x128_0_0_2_1) : T F S256x8x130x130 → T F S256x8x128x128),
    unary main_arg8 main_v332 ((extractStridedSlice S128x256x1x1 ![0, 0, 2, 1] · slices_S128x256x3x3_S128x256x1x1_0_0_2_1) : T F S128x256x3x3 → T F S128x256x1x1),
    reshape main_v332 main_v333 (rfl : (.f32 : EltTy) = .f32) shapeCasts_S128x256x1x1_S128x256,
    binary main_v333 main_v331 main_v334 ((fun l r => Host.dotGeneral dot_S128x256_S256x8x128x128_S128x8x128x128_1_0_0_123_n_n none l r) : T F S128x256 → T F S256x8x128x128 → T F S128x8x128x128),
    binary main_v330 main_v334 main_v335 (addf : T F S128x8x128x128 → T F S128x8x128x128 → T F S128x8x128x128),
    unary main_v296 main_v336 ((extractStridedSlice S256x8x128x128 ![0, 0, 2, 2] · slices_S256x8x130x130_S256x8x128x128_0_0_2_2) : T F S256x8x130x130 → T F S256x8x128x128),
    unary main_arg8 main_v337 ((extractStridedSlice S128x256x1x1 ![0, 0, 2, 2] · slices_S128x256x3x3_S128x256x1x1_0_0_2_2) : T F S128x256x3x3 → T F S128x256x1x1),
    reshape main_v337 main_v338 (rfl : (.f32 : EltTy) = .f32) shapeCasts_S128x256x1x1_S128x256,
    binary main_v338 main_v336 main_v339 ((fun l r => Host.dotGeneral dot_S128x256_S256x8x128x128_S128x8x128x128_1_0_0_123_n_n none l r) : T F S128x256 → T F S256x8x128x128 → T F S128x8x128x128),
    binary main_v335 main_v339 main_v340 (addf : T F S128x8x128x128 → T F S128x8x128x128 → T F S128x8x128x128),
    TRef.nullary (.of main_call12_cst : TR S_ .f32) (constant S_ .f32 0x00000000#32),
    TRef.unary (.of main_call12_cst : TR S_ .f32) (.of main_call12_v0 : TR S128x8x128x128 .f32) (broadcastInDim S128x8x128x128 ![] bcast_S_S128x8x128x128),
    TRef.binary (.of main_v340 : TR S128x8x128x128 .f32) (.of main_call12_v0 : TR S128x8x128x128 .f32) (.of main_v341 : TR S128x8x128x128 .f32) maximumf ]

/-- The reference's operations that compute the second upsampling. -/
abbrev opsUp3 : List (HloOp τ sig (Elt F)) :=
  [ unary main_v341 main_v342 (broadcastInDim S128x8x128x2x128 ![0, 1, 2, 4] bcast_S128x8x128x128_S128x8x128x2x128_0_1_2_4 : T F S128x8x128x128 → T F S128x8x128x2x128),
    reshape main_v342 main_v343 (rfl : (.f32 : EltTy) = .f32) shapeCasts_S128x8x128x2x128_S128x8x256x128,
    unary main_v343 main_v344 (broadcastInDim S128x8x256x128x2 ![0, 1, 2, 3] bcast_S128x8x256x128_S128x8x256x128x2_0_1_2_3 : T F S128x8x256x128 → T F S128x8x256x128x2),
    reshape main_v344 main_v345 (rfl : (.f32 : EltTy) = .f32) shapeCasts_S128x8x256x128x2_S128x8x256x256 ]

/-- The reference's operations that compute the third decoder convolution. -/
abbrev opsDec3 : List (HloOp τ sig (Elt F)) :=
  [ nullary main_c_13 (constantI S_ 32 0#32),
    TRef.unary (.of main_c_13 : TR S_ .i32) (.of main_call13_v0 : TR S_ .f32) (sitofp .f32),
    TRef.binary (.of main_v345 : TR S128x8x256x256 .f32) (.of main_call13_v0 : TR S_ .f32) (.of main_v346 : TR S128x8x258x258 .f32) (fun x v => pad S128x8x258x258 ![0, 0, 1, 1] ![0, 0, 1, 1] ![0, 0, 0, 0] x v pads_S128x8x256x256_S128x8x258x258_000_000_110_110 h_S_),
    unary main_v346 main_v347 ((extractStridedSlice S128x8x256x256 ![0, 0, 0, 0] · slices_S128x8x258x258_S128x8x256x256_0_0_0_0) : T F S128x8x258x258 → T F S128x8x256x256),
    unary main_arg9 main_v348 ((extractStridedSlice S64x128x1x1 ![0, 0, 0, 0] · slices_S64x128x3x3_S64x128x1x1_0_0_0_0) : T F S64x128x3x3 → T F S64x128x1x1),
    reshape main_v348 main_v349 (rfl : (.f32 : EltTy) = .f32) shapeCasts_S64x128x1x1_S64x128,
    binary main_v349 main_v347 main_v350 ((fun l r => Host.dotGeneral dot_S64x128_S128x8x256x256_S64x8x256x256_1_0_0_123_n_n none l r) : T F S64x128 → T F S128x8x256x256 → T F S64x8x256x256),
    unary main_v346 main_v351 ((extractStridedSlice S128x8x256x256 ![0, 0, 0, 1] · slices_S128x8x258x258_S128x8x256x256_0_0_0_1) : T F S128x8x258x258 → T F S128x8x256x256),
    unary main_arg9 main_v352 ((extractStridedSlice S64x128x1x1 ![0, 0, 0, 1] · slices_S64x128x3x3_S64x128x1x1_0_0_0_1) : T F S64x128x3x3 → T F S64x128x1x1),
    reshape main_v352 main_v353 (rfl : (.f32 : EltTy) = .f32) shapeCasts_S64x128x1x1_S64x128,
    binary main_v353 main_v351 main_v354 ((fun l r => Host.dotGeneral dot_S64x128_S128x8x256x256_S64x8x256x256_1_0_0_123_n_n none l r) : T F S64x128 → T F S128x8x256x256 → T F S64x8x256x256),
    binary main_v350 main_v354 main_v355 (addf : T F S64x8x256x256 → T F S64x8x256x256 → T F S64x8x256x256),
    unary main_v346 main_v356 ((extractStridedSlice S128x8x256x256 ![0, 0, 0, 2] · slices_S128x8x258x258_S128x8x256x256_0_0_0_2) : T F S128x8x258x258 → T F S128x8x256x256),
    unary main_arg9 main_v357 ((extractStridedSlice S64x128x1x1 ![0, 0, 0, 2] · slices_S64x128x3x3_S64x128x1x1_0_0_0_2) : T F S64x128x3x3 → T F S64x128x1x1),
    reshape main_v357 main_v358 (rfl : (.f32 : EltTy) = .f32) shapeCasts_S64x128x1x1_S64x128,
    binary main_v358 main_v356 main_v359 ((fun l r => Host.dotGeneral dot_S64x128_S128x8x256x256_S64x8x256x256_1_0_0_123_n_n none l r) : T F S64x128 → T F S128x8x256x256 → T F S64x8x256x256),
    binary main_v355 main_v359 main_v360 (addf : T F S64x8x256x256 → T F S64x8x256x256 → T F S64x8x256x256),
    unary main_v346 main_v361 ((extractStridedSlice S128x8x256x256 ![0, 0, 1, 0] · slices_S128x8x258x258_S128x8x256x256_0_0_1_0) : T F S128x8x258x258 → T F S128x8x256x256),
    unary main_arg9 main_v362 ((extractStridedSlice S64x128x1x1 ![0, 0, 1, 0] · slices_S64x128x3x3_S64x128x1x1_0_0_1_0) : T F S64x128x3x3 → T F S64x128x1x1),
    reshape main_v362 main_v363 (rfl : (.f32 : EltTy) = .f32) shapeCasts_S64x128x1x1_S64x128,
    binary main_v363 main_v361 main_v364 ((fun l r => Host.dotGeneral dot_S64x128_S128x8x256x256_S64x8x256x256_1_0_0_123_n_n none l r) : T F S64x128 → T F S128x8x256x256 → T F S64x8x256x256),
    binary main_v360 main_v364 main_v365 (addf : T F S64x8x256x256 → T F S64x8x256x256 → T F S64x8x256x256),
    unary main_v346 main_v366 ((extractStridedSlice S128x8x256x256 ![0, 0, 1, 1] · slices_S128x8x258x258_S128x8x256x256_0_0_1_1) : T F S128x8x258x258 → T F S128x8x256x256),
    unary main_arg9 main_v367 ((extractStridedSlice S64x128x1x1 ![0, 0, 1, 1] · slices_S64x128x3x3_S64x128x1x1_0_0_1_1) : T F S64x128x3x3 → T F S64x128x1x1),
    reshape main_v367 main_v368 (rfl : (.f32 : EltTy) = .f32) shapeCasts_S64x128x1x1_S64x128,
    binary main_v368 main_v366 main_v369 ((fun l r => Host.dotGeneral dot_S64x128_S128x8x256x256_S64x8x256x256_1_0_0_123_n_n none l r) : T F S64x128 → T F S128x8x256x256 → T F S64x8x256x256),
    binary main_v365 main_v369 main_v370 (addf : T F S64x8x256x256 → T F S64x8x256x256 → T F S64x8x256x256),
    unary main_v346 main_v371 ((extractStridedSlice S128x8x256x256 ![0, 0, 1, 2] · slices_S128x8x258x258_S128x8x256x256_0_0_1_2) : T F S128x8x258x258 → T F S128x8x256x256),
    unary main_arg9 main_v372 ((extractStridedSlice S64x128x1x1 ![0, 0, 1, 2] · slices_S64x128x3x3_S64x128x1x1_0_0_1_2) : T F S64x128x3x3 → T F S64x128x1x1),
    reshape main_v372 main_v373 (rfl : (.f32 : EltTy) = .f32) shapeCasts_S64x128x1x1_S64x128,
    binary main_v373 main_v371 main_v374 ((fun l r => Host.dotGeneral dot_S64x128_S128x8x256x256_S64x8x256x256_1_0_0_123_n_n none l r) : T F S64x128 → T F S128x8x256x256 → T F S64x8x256x256),
    binary main_v370 main_v374 main_v375 (addf : T F S64x8x256x256 → T F S64x8x256x256 → T F S64x8x256x256),
    unary main_v346 main_v376 ((extractStridedSlice S128x8x256x256 ![0, 0, 2, 0] · slices_S128x8x258x258_S128x8x256x256_0_0_2_0) : T F S128x8x258x258 → T F S128x8x256x256),
    unary main_arg9 main_v377 ((extractStridedSlice S64x128x1x1 ![0, 0, 2, 0] · slices_S64x128x3x3_S64x128x1x1_0_0_2_0) : T F S64x128x3x3 → T F S64x128x1x1),
    reshape main_v377 main_v378 (rfl : (.f32 : EltTy) = .f32) shapeCasts_S64x128x1x1_S64x128,
    binary main_v378 main_v376 main_v379 ((fun l r => Host.dotGeneral dot_S64x128_S128x8x256x256_S64x8x256x256_1_0_0_123_n_n none l r) : T F S64x128 → T F S128x8x256x256 → T F S64x8x256x256),
    binary main_v375 main_v379 main_v380 (addf : T F S64x8x256x256 → T F S64x8x256x256 → T F S64x8x256x256),
    unary main_v346 main_v381 ((extractStridedSlice S128x8x256x256 ![0, 0, 2, 1] · slices_S128x8x258x258_S128x8x256x256_0_0_2_1) : T F S128x8x258x258 → T F S128x8x256x256),
    unary main_arg9 main_v382 ((extractStridedSlice S64x128x1x1 ![0, 0, 2, 1] · slices_S64x128x3x3_S64x128x1x1_0_0_2_1) : T F S64x128x3x3 → T F S64x128x1x1),
    reshape main_v382 main_v383 (rfl : (.f32 : EltTy) = .f32) shapeCasts_S64x128x1x1_S64x128,
    binary main_v383 main_v381 main_v384 ((fun l r => Host.dotGeneral dot_S64x128_S128x8x256x256_S64x8x256x256_1_0_0_123_n_n none l r) : T F S64x128 → T F S128x8x256x256 → T F S64x8x256x256),
    binary main_v380 main_v384 main_v385 (addf : T F S64x8x256x256 → T F S64x8x256x256 → T F S64x8x256x256),
    unary main_v346 main_v386 ((extractStridedSlice S128x8x256x256 ![0, 0, 2, 2] · slices_S128x8x258x258_S128x8x256x256_0_0_2_2) : T F S128x8x258x258 → T F S128x8x256x256),
    unary main_arg9 main_v387 ((extractStridedSlice S64x128x1x1 ![0, 0, 2, 2] · slices_S64x128x3x3_S64x128x1x1_0_0_2_2) : T F S64x128x3x3 → T F S64x128x1x1),
    reshape main_v387 main_v388 (rfl : (.f32 : EltTy) = .f32) shapeCasts_S64x128x1x1_S64x128,
    binary main_v388 main_v386 main_v389 ((fun l r => Host.dotGeneral dot_S64x128_S128x8x256x256_S64x8x256x256_1_0_0_123_n_n none l r) : T F S64x128 → T F S128x8x256x256 → T F S64x8x256x256),
    binary main_v385 main_v389 main_v390 (addf : T F S64x8x256x256 → T F S64x8x256x256 → T F S64x8x256x256),
    TRef.nullary (.of main_call14_cst : TR S_ .f32) (constant S_ .f32 0x00000000#32),
    TRef.unary (.of main_call14_cst : TR S_ .f32) (.of main_call14_v0 : TR S64x8x256x256 .f32) (broadcastInDim S64x8x256x256 ![] bcast_S_S64x8x256x256),
    TRef.binary (.of main_v390 : TR S64x8x256x256 .f32) (.of main_call14_v0 : TR S64x8x256x256 .f32) (.of main_v391 : TR S64x8x256x256 .f32) maximumf ]

/-- The reference's operations that compute the onset head. -/
abbrev opsOnset : List (HloOp τ sig (Elt F)) :=
  [ nullary main_c_14 (constantI S_ 32 0#32),
    TRef.unary (.of main_c_14 : TR S_ .i32) (.of main_call15_v0 : TR S_ .f32) (sitofp .f32),
    TRef.binary (.of main_v391 : TR S64x8x256x256 .f32) (.of main_call15_v0 : TR S_ .f32) (.of main_v392 : TR S64x8x258x258 .f32) (fun x v => pad S64x8x258x258 ![0, 0, 1, 1] ![0, 0, 1, 1] ![0, 0, 0, 0] x v pads_S64x8x256x256_S64x8x258x258_000_000_110_110 h_S_),
    unary main_v392 main_v393 ((extractStridedSlice S64x8x256x256 ![0, 0, 0, 0] · slices_S64x8x258x258_S64x8x256x256_0_0_0_0) : T F S64x8x258x258 → T F S64x8x256x256),
    unary main_arg10 main_v394 ((extractStridedSlice S2x64x1x1 ![0, 0, 0, 0] · slices_S2x64x3x3_S2x64x1x1_0_0_0_0) : T F S2x64x3x3 → T F S2x64x1x1),
    reshape main_v394 main_v395 (rfl : (.f32 : EltTy) = .f32) shapeCasts_S2x64x1x1_S2x64,
    binary main_v395 main_v393 main_v396 ((fun l r => Host.dotGeneral dot_S2x64_S64x8x256x256_S2x8x256x256_1_0_0_123_n_n none l r) : T F S2x64 → T F S64x8x256x256 → T F S2x8x256x256),
    unary main_v392 main_v397 ((extractStridedSlice S64x8x256x256 ![0, 0, 0, 1] · slices_S64x8x258x258_S64x8x256x256_0_0_0_1) : T F S64x8x258x258 → T F S64x8x256x256),
    unary main_arg10 main_v398 ((extractStridedSlice S2x64x1x1 ![0, 0, 0, 1] · slices_S2x64x3x3_S2x64x1x1_0_0_0_1) : T F S2x64x3x3 → T F S2x64x1x1),
    reshape main_v398 main_v399 (rfl : (.f32 : EltTy) = .f32) shapeCasts_S2x64x1x1_S2x64,
    binary main_v399 main_v397 main_v400 ((fun l r => Host.dotGeneral dot_S2x64_S64x8x256x256_S2x8x256x256_1_0_0_123_n_n none l r) : T F S2x64 → T F S64x8x256x256 → T F S2x8x256x256),
    binary main_v396 main_v400 main_v401 (addf : T F S2x8x256x256 → T F S2x8x256x256 → T F S2x8x256x256),
    unary main_v392 main_v402 ((extractStridedSlice S64x8x256x256 ![0, 0, 0, 2] · slices_S64x8x258x258_S64x8x256x256_0_0_0_2) : T F S64x8x258x258 → T F S64x8x256x256),
    unary main_arg10 main_v403 ((extractStridedSlice S2x64x1x1 ![0, 0, 0, 2] · slices_S2x64x3x3_S2x64x1x1_0_0_0_2) : T F S2x64x3x3 → T F S2x64x1x1),
    reshape main_v403 main_v404 (rfl : (.f32 : EltTy) = .f32) shapeCasts_S2x64x1x1_S2x64,
    binary main_v404 main_v402 main_v405 ((fun l r => Host.dotGeneral dot_S2x64_S64x8x256x256_S2x8x256x256_1_0_0_123_n_n none l r) : T F S2x64 → T F S64x8x256x256 → T F S2x8x256x256),
    binary main_v401 main_v405 main_v406 (addf : T F S2x8x256x256 → T F S2x8x256x256 → T F S2x8x256x256),
    unary main_v392 main_v407 ((extractStridedSlice S64x8x256x256 ![0, 0, 1, 0] · slices_S64x8x258x258_S64x8x256x256_0_0_1_0) : T F S64x8x258x258 → T F S64x8x256x256),
    unary main_arg10 main_v408 ((extractStridedSlice S2x64x1x1 ![0, 0, 1, 0] · slices_S2x64x3x3_S2x64x1x1_0_0_1_0) : T F S2x64x3x3 → T F S2x64x1x1),
    reshape main_v408 main_v409 (rfl : (.f32 : EltTy) = .f32) shapeCasts_S2x64x1x1_S2x64,
    binary main_v409 main_v407 main_v410 ((fun l r => Host.dotGeneral dot_S2x64_S64x8x256x256_S2x8x256x256_1_0_0_123_n_n none l r) : T F S2x64 → T F S64x8x256x256 → T F S2x8x256x256),
    binary main_v406 main_v410 main_v411 (addf : T F S2x8x256x256 → T F S2x8x256x256 → T F S2x8x256x256),
    unary main_v392 main_v412 ((extractStridedSlice S64x8x256x256 ![0, 0, 1, 1] · slices_S64x8x258x258_S64x8x256x256_0_0_1_1) : T F S64x8x258x258 → T F S64x8x256x256),
    unary main_arg10 main_v413 ((extractStridedSlice S2x64x1x1 ![0, 0, 1, 1] · slices_S2x64x3x3_S2x64x1x1_0_0_1_1) : T F S2x64x3x3 → T F S2x64x1x1),
    reshape main_v413 main_v414 (rfl : (.f32 : EltTy) = .f32) shapeCasts_S2x64x1x1_S2x64,
    binary main_v414 main_v412 main_v415 ((fun l r => Host.dotGeneral dot_S2x64_S64x8x256x256_S2x8x256x256_1_0_0_123_n_n none l r) : T F S2x64 → T F S64x8x256x256 → T F S2x8x256x256),
    binary main_v411 main_v415 main_v416 (addf : T F S2x8x256x256 → T F S2x8x256x256 → T F S2x8x256x256),
    unary main_v392 main_v417 ((extractStridedSlice S64x8x256x256 ![0, 0, 1, 2] · slices_S64x8x258x258_S64x8x256x256_0_0_1_2) : T F S64x8x258x258 → T F S64x8x256x256),
    unary main_arg10 main_v418 ((extractStridedSlice S2x64x1x1 ![0, 0, 1, 2] · slices_S2x64x3x3_S2x64x1x1_0_0_1_2) : T F S2x64x3x3 → T F S2x64x1x1),
    reshape main_v418 main_v419 (rfl : (.f32 : EltTy) = .f32) shapeCasts_S2x64x1x1_S2x64,
    binary main_v419 main_v417 main_v420 ((fun l r => Host.dotGeneral dot_S2x64_S64x8x256x256_S2x8x256x256_1_0_0_123_n_n none l r) : T F S2x64 → T F S64x8x256x256 → T F S2x8x256x256),
    binary main_v416 main_v420 main_v421 (addf : T F S2x8x256x256 → T F S2x8x256x256 → T F S2x8x256x256),
    unary main_v392 main_v422 ((extractStridedSlice S64x8x256x256 ![0, 0, 2, 0] · slices_S64x8x258x258_S64x8x256x256_0_0_2_0) : T F S64x8x258x258 → T F S64x8x256x256),
    unary main_arg10 main_v423 ((extractStridedSlice S2x64x1x1 ![0, 0, 2, 0] · slices_S2x64x3x3_S2x64x1x1_0_0_2_0) : T F S2x64x3x3 → T F S2x64x1x1),
    reshape main_v423 main_v424 (rfl : (.f32 : EltTy) = .f32) shapeCasts_S2x64x1x1_S2x64,
    binary main_v424 main_v422 main_v425 ((fun l r => Host.dotGeneral dot_S2x64_S64x8x256x256_S2x8x256x256_1_0_0_123_n_n none l r) : T F S2x64 → T F S64x8x256x256 → T F S2x8x256x256),
    binary main_v421 main_v425 main_v426 (addf : T F S2x8x256x256 → T F S2x8x256x256 → T F S2x8x256x256),
    unary main_v392 main_v427 ((extractStridedSlice S64x8x256x256 ![0, 0, 2, 1] · slices_S64x8x258x258_S64x8x256x256_0_0_2_1) : T F S64x8x258x258 → T F S64x8x256x256),
    unary main_arg10 main_v428 ((extractStridedSlice S2x64x1x1 ![0, 0, 2, 1] · slices_S2x64x3x3_S2x64x1x1_0_0_2_1) : T F S2x64x3x3 → T F S2x64x1x1),
    reshape main_v428 main_v429 (rfl : (.f32 : EltTy) = .f32) shapeCasts_S2x64x1x1_S2x64,
    binary main_v429 main_v427 main_v430 ((fun l r => Host.dotGeneral dot_S2x64_S64x8x256x256_S2x8x256x256_1_0_0_123_n_n none l r) : T F S2x64 → T F S64x8x256x256 → T F S2x8x256x256),
    binary main_v426 main_v430 main_v431 (addf : T F S2x8x256x256 → T F S2x8x256x256 → T F S2x8x256x256),
    unary main_v392 main_v432 ((extractStridedSlice S64x8x256x256 ![0, 0, 2, 2] · slices_S64x8x258x258_S64x8x256x256_0_0_2_2) : T F S64x8x258x258 → T F S64x8x256x256),
    unary main_arg10 main_v433 ((extractStridedSlice S2x64x1x1 ![0, 0, 2, 2] · slices_S2x64x3x3_S2x64x1x1_0_0_2_2) : T F S2x64x3x3 → T F S2x64x1x1),
    reshape main_v433 main_v434 (rfl : (.f32 : EltTy) = .f32) shapeCasts_S2x64x1x1_S2x64,
    binary main_v434 main_v432 main_v435 ((fun l r => Host.dotGeneral dot_S2x64_S64x8x256x256_S2x8x256x256_1_0_0_123_n_n none l r) : T F S2x64 → T F S64x8x256x256 → T F S2x8x256x256),
    binary main_v431 main_v435 main_v436 (addf : T F S2x8x256x256 → T F S2x8x256x256 → T F S2x8x256x256),
    unary main_v436 main_v437 ((transpose S8x2x256x256 [1, 0, 2, 3] · transposes_S2x8x256x256_S8x2x256x256_1_0_2_3) : T F S2x8x256x256 → T F S8x2x256x256) ]

/-- The reference's operations that compute the duration head. -/
abbrev opsDur : List (HloOp τ sig (Elt F)) :=
  [ nullary main_c_15 (constantI S_ 32 0#32),
    TRef.unary (.of main_c_15 : TR S_ .i32) (.of main_call16_v0 : TR S_ .f32) (sitofp .f32),
    TRef.binary (.of main_v391 : TR S64x8x256x256 .f32) (.of main_call16_v0 : TR S_ .f32) (.of main_v438 : TR S64x8x258x258 .f32) (fun x v => pad S64x8x258x258 ![0, 0, 1, 1] ![0, 0, 1, 1] ![0, 0, 0, 0] x v pads_S64x8x256x256_S64x8x258x258_000_000_110_110 h_S_),
    unary main_v438 main_v439 ((extractStridedSlice S64x8x256x256 ![0, 0, 0, 0] · slices_S64x8x258x258_S64x8x256x256_0_0_0_0) : T F S64x8x258x258 → T F S64x8x256x256),
    unary main_arg11 main_v440 ((extractStridedSlice S2x64x1x1 ![0, 0, 0, 0] · slices_S2x64x3x3_S2x64x1x1_0_0_0_0) : T F S2x64x3x3 → T F S2x64x1x1),
    reshape main_v440 main_v441 (rfl : (.f32 : EltTy) = .f32) shapeCasts_S2x64x1x1_S2x64,
    binary main_v441 main_v439 main_v442 ((fun l r => Host.dotGeneral dot_S2x64_S64x8x256x256_S2x8x256x256_1_0_0_123_n_n none l r) : T F S2x64 → T F S64x8x256x256 → T F S2x8x256x256),
    unary main_v438 main_v443 ((extractStridedSlice S64x8x256x256 ![0, 0, 0, 1] · slices_S64x8x258x258_S64x8x256x256_0_0_0_1) : T F S64x8x258x258 → T F S64x8x256x256),
    unary main_arg11 main_v444 ((extractStridedSlice S2x64x1x1 ![0, 0, 0, 1] · slices_S2x64x3x3_S2x64x1x1_0_0_0_1) : T F S2x64x3x3 → T F S2x64x1x1),
    reshape main_v444 main_v445 (rfl : (.f32 : EltTy) = .f32) shapeCasts_S2x64x1x1_S2x64,
    binary main_v445 main_v443 main_v446 ((fun l r => Host.dotGeneral dot_S2x64_S64x8x256x256_S2x8x256x256_1_0_0_123_n_n none l r) : T F S2x64 → T F S64x8x256x256 → T F S2x8x256x256),
    binary main_v442 main_v446 main_v447 (addf : T F S2x8x256x256 → T F S2x8x256x256 → T F S2x8x256x256),
    unary main_v438 main_v448 ((extractStridedSlice S64x8x256x256 ![0, 0, 0, 2] · slices_S64x8x258x258_S64x8x256x256_0_0_0_2) : T F S64x8x258x258 → T F S64x8x256x256),
    unary main_arg11 main_v449 ((extractStridedSlice S2x64x1x1 ![0, 0, 0, 2] · slices_S2x64x3x3_S2x64x1x1_0_0_0_2) : T F S2x64x3x3 → T F S2x64x1x1),
    reshape main_v449 main_v450 (rfl : (.f32 : EltTy) = .f32) shapeCasts_S2x64x1x1_S2x64,
    binary main_v450 main_v448 main_v451 ((fun l r => Host.dotGeneral dot_S2x64_S64x8x256x256_S2x8x256x256_1_0_0_123_n_n none l r) : T F S2x64 → T F S64x8x256x256 → T F S2x8x256x256),
    binary main_v447 main_v451 main_v452 (addf : T F S2x8x256x256 → T F S2x8x256x256 → T F S2x8x256x256),
    unary main_v438 main_v453 ((extractStridedSlice S64x8x256x256 ![0, 0, 1, 0] · slices_S64x8x258x258_S64x8x256x256_0_0_1_0) : T F S64x8x258x258 → T F S64x8x256x256),
    unary main_arg11 main_v454 ((extractStridedSlice S2x64x1x1 ![0, 0, 1, 0] · slices_S2x64x3x3_S2x64x1x1_0_0_1_0) : T F S2x64x3x3 → T F S2x64x1x1),
    reshape main_v454 main_v455 (rfl : (.f32 : EltTy) = .f32) shapeCasts_S2x64x1x1_S2x64,
    binary main_v455 main_v453 main_v456 ((fun l r => Host.dotGeneral dot_S2x64_S64x8x256x256_S2x8x256x256_1_0_0_123_n_n none l r) : T F S2x64 → T F S64x8x256x256 → T F S2x8x256x256),
    binary main_v452 main_v456 main_v457 (addf : T F S2x8x256x256 → T F S2x8x256x256 → T F S2x8x256x256),
    unary main_v438 main_v458 ((extractStridedSlice S64x8x256x256 ![0, 0, 1, 1] · slices_S64x8x258x258_S64x8x256x256_0_0_1_1) : T F S64x8x258x258 → T F S64x8x256x256),
    unary main_arg11 main_v459 ((extractStridedSlice S2x64x1x1 ![0, 0, 1, 1] · slices_S2x64x3x3_S2x64x1x1_0_0_1_1) : T F S2x64x3x3 → T F S2x64x1x1),
    reshape main_v459 main_v460 (rfl : (.f32 : EltTy) = .f32) shapeCasts_S2x64x1x1_S2x64,
    binary main_v460 main_v458 main_v461 ((fun l r => Host.dotGeneral dot_S2x64_S64x8x256x256_S2x8x256x256_1_0_0_123_n_n none l r) : T F S2x64 → T F S64x8x256x256 → T F S2x8x256x256),
    binary main_v457 main_v461 main_v462 (addf : T F S2x8x256x256 → T F S2x8x256x256 → T F S2x8x256x256),
    unary main_v438 main_v463 ((extractStridedSlice S64x8x256x256 ![0, 0, 1, 2] · slices_S64x8x258x258_S64x8x256x256_0_0_1_2) : T F S64x8x258x258 → T F S64x8x256x256),
    unary main_arg11 main_v464 ((extractStridedSlice S2x64x1x1 ![0, 0, 1, 2] · slices_S2x64x3x3_S2x64x1x1_0_0_1_2) : T F S2x64x3x3 → T F S2x64x1x1),
    reshape main_v464 main_v465 (rfl : (.f32 : EltTy) = .f32) shapeCasts_S2x64x1x1_S2x64,
    binary main_v465 main_v463 main_v466 ((fun l r => Host.dotGeneral dot_S2x64_S64x8x256x256_S2x8x256x256_1_0_0_123_n_n none l r) : T F S2x64 → T F S64x8x256x256 → T F S2x8x256x256),
    binary main_v462 main_v466 main_v467 (addf : T F S2x8x256x256 → T F S2x8x256x256 → T F S2x8x256x256),
    unary main_v438 main_v468 ((extractStridedSlice S64x8x256x256 ![0, 0, 2, 0] · slices_S64x8x258x258_S64x8x256x256_0_0_2_0) : T F S64x8x258x258 → T F S64x8x256x256),
    unary main_arg11 main_v469 ((extractStridedSlice S2x64x1x1 ![0, 0, 2, 0] · slices_S2x64x3x3_S2x64x1x1_0_0_2_0) : T F S2x64x3x3 → T F S2x64x1x1),
    reshape main_v469 main_v470 (rfl : (.f32 : EltTy) = .f32) shapeCasts_S2x64x1x1_S2x64,
    binary main_v470 main_v468 main_v471 ((fun l r => Host.dotGeneral dot_S2x64_S64x8x256x256_S2x8x256x256_1_0_0_123_n_n none l r) : T F S2x64 → T F S64x8x256x256 → T F S2x8x256x256),
    binary main_v467 main_v471 main_v472 (addf : T F S2x8x256x256 → T F S2x8x256x256 → T F S2x8x256x256),
    unary main_v438 main_v473 ((extractStridedSlice S64x8x256x256 ![0, 0, 2, 1] · slices_S64x8x258x258_S64x8x256x256_0_0_2_1) : T F S64x8x258x258 → T F S64x8x256x256),
    unary main_arg11 main_v474 ((extractStridedSlice S2x64x1x1 ![0, 0, 2, 1] · slices_S2x64x3x3_S2x64x1x1_0_0_2_1) : T F S2x64x3x3 → T F S2x64x1x1),
    reshape main_v474 main_v475 (rfl : (.f32 : EltTy) = .f32) shapeCasts_S2x64x1x1_S2x64,
    binary main_v475 main_v473 main_v476 ((fun l r => Host.dotGeneral dot_S2x64_S64x8x256x256_S2x8x256x256_1_0_0_123_n_n none l r) : T F S2x64 → T F S64x8x256x256 → T F S2x8x256x256),
    binary main_v472 main_v476 main_v477 (addf : T F S2x8x256x256 → T F S2x8x256x256 → T F S2x8x256x256),
    unary main_v438 main_v478 ((extractStridedSlice S64x8x256x256 ![0, 0, 2, 2] · slices_S64x8x258x258_S64x8x256x256_0_0_2_2) : T F S64x8x258x258 → T F S64x8x256x256),
    unary main_arg11 main_v479 ((extractStridedSlice S2x64x1x1 ![0, 0, 2, 2] · slices_S2x64x3x3_S2x64x1x1_0_0_2_2) : T F S2x64x3x3 → T F S2x64x1x1),
    reshape main_v479 main_v480 (rfl : (.f32 : EltTy) = .f32) shapeCasts_S2x64x1x1_S2x64,
    binary main_v480 main_v478 main_v481 ((fun l r => Host.dotGeneral dot_S2x64_S64x8x256x256_S2x8x256x256_1_0_0_123_n_n none l r) : T F S2x64 → T F S64x8x256x256 → T F S2x8x256x256),
    binary main_v477 main_v481 main_v482 (addf : T F S2x8x256x256 → T F S2x8x256x256 → T F S2x8x256x256),
    unary main_v482 main_v483 ((transpose S8x2x256x256 [1, 0, 2, 3] · transposes_S2x8x256x256_S8x2x256x256_1_0_2_3) : T F S2x8x256x256 → T F S8x2x256x256) ]

end

end Cert.Proof.Ref

end
-- ==== Proof.RefRun.lean ====
module

public import proofs.«01_k».proof.Proof.RefOps2
public import Idealize.ShloMosaic.Lib.StableHlo.RunHlo
public import Idealize.ShloMosaic.Lib.StableHlo.RunLoop
public import Idealize.ShloMosaic.Lib.Claim

@[expose] public section

set_option maxRecDepth 65536

noncomputable section

namespace Cert.Proof.Ref

open Idealize.ShloMosaic Idealize.ShloMosaic.StableHlo Idealize.SL.Sem Cert.ReferenceIdeal

variable {F : FTy → Type} [FloatOps F]

/-- The reference's stages, in order. -/
abbrev stages : List (List (HloOp τ sig (Elt F))) :=
  [opsEnc1, opsEnc2, opsEnc3, opsQuant, opsDist, opsArg, opsTake, opsCommit, opsPost, opsDec1, opsUp2, opsDec2, opsUp3, opsDec3, opsOnset, opsDur]

/-- All the reference's operations. -/
abbrev ops : List (HloOp τ sig (Elt F)) := stages.flatten

theorem main_isSeq (d : Dev nD) : IsSeq (main (F := F) d) ops := rfl

/-- A line whose operations touch TensorCore arrays only and name nothing fresh. -/
structure Plain (l : List (HloOp τ sig (Elt F))) : Prop where
  sub : l.Forall fun op => op.bufs ⊆ tcRefs τ sig
  fresh : l.Forall fun op => op.fresh = ∅

theorem opsEnc1_plain : Plain (F := F) opsEnc1 := ⟨by simp, by repeat (first | exact rfl | refine ⟨rfl, ?_⟩)⟩
theorem opsEnc2_plain : Plain (F := F) opsEnc2 := ⟨by simp, by repeat (first | exact rfl | refine ⟨rfl, ?_⟩)⟩
theorem opsEnc3_plain : Plain (F := F) opsEnc3 := ⟨by simp, by repeat (first | exact rfl | refine ⟨rfl, ?_⟩)⟩
theorem opsQuant_plain : Plain (F := F) opsQuant := ⟨by simp, by repeat (first | exact rfl | refine ⟨rfl, ?_⟩)⟩
theorem opsDist_plain : Plain (F := F) opsDist := ⟨by simp, by repeat (first | exact rfl | refine ⟨rfl, ?_⟩)⟩
theorem opsArg_plain : Plain (F := F) opsArg := ⟨by simp, by repeat (first | exact rfl | refine ⟨rfl, ?_⟩)⟩
theorem opsTake_plain : Plain (F := F) opsTake := ⟨by simp, by repeat (first | exact rfl | refine ⟨rfl, ?_⟩)⟩
theorem opsCommit_plain : Plain (F := F) opsCommit := ⟨by simp, by repeat (first | exact rfl | refine ⟨rfl, ?_⟩)⟩
theorem opsPost_plain : Plain (F := F) opsPost := ⟨by simp, by repeat (first | exact rfl | refine ⟨rfl, ?_⟩)⟩
theorem opsDec1_plain : Plain (F := F) opsDec1 := ⟨by simp, by repeat (first | exact rfl | refine ⟨rfl, ?_⟩)⟩
theorem opsUp2_plain : Plain (F := F) opsUp2 := ⟨by simp, by repeat (first | exact rfl | refine ⟨rfl, ?_⟩)⟩
theorem opsDec2_plain : Plain (F := F) opsDec2 := ⟨by simp, by repeat (first | exact rfl | refine ⟨rfl, ?_⟩)⟩
theorem opsUp3_plain : Plain (F := F) opsUp3 := ⟨by simp, by repeat (first | exact rfl | refine ⟨rfl, ?_⟩)⟩
theorem opsDec3_plain : Plain (F := F) opsDec3 := ⟨by simp, by repeat (first | exact rfl | refine ⟨rfl, ?_⟩)⟩
theorem opsOnset_plain : Plain (F := F) opsOnset := ⟨by simp, by repeat (first | exact rfl | refine ⟨rfl, ?_⟩)⟩
theorem opsDur_plain : Plain (F := F) opsDur := ⟨by simp, by repeat (first | exact rfl | refine ⟨rfl, ?_⟩)⟩

theorem stages_plain : (stages (F := F)).Forall Plain :=
  ⟨opsEnc1_plain, opsEnc2_plain, opsEnc3_plain, opsQuant_plain, opsDist_plain, opsArg_plain, opsTake_plain, opsCommit_plain, opsPost_plain, opsDec1_plain, opsUp2_plain, opsDec2_plain, opsUp3_plain, opsDec3_plain, opsOnset_plain, opsDur_plain⟩

theorem ops_plain : Plain (F := F) ops := by
  constructor
  · rw [List.forall_iff_forall_mem]
    intro op h
    obtain ⟨l, hl, ho⟩ := List.mem_flatten.mp h
    exact List.forall_iff_forall_mem.mp (List.forall_iff_forall_mem.mp stages_plain l hl).sub op ho
  · rw [List.forall_iff_forall_mem]
    intro op h
    obtain ⟨l, hl, ho⟩ := List.mem_flatten.mp h
    exact List.forall_iff_forall_mem.mp (List.forall_iff_forall_mem.mp stages_plain l hl).fresh op ho

/-- The reference runs to what its operations leave, stage after stage. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_hlo _ _ main_isSeq (by decide) (by decide) ops_plain.sub (List.forall_iff_forall_mem.mp ops_plain.fresh) m ρ

end Cert.Proof.Ref

end
-- ==== Proof.RefKeep.lean ====
module

public import proofs.«01_k».proof.Proof.RefRun
public import Idealize.ShloMosaic.Lib.Pipeline.ValueKit

/-! What each stage of the reference writes, so that everything else stays. -/

@[expose] public section

set_option maxRecDepth 65536

noncomputable section

namespace Cert.Proof.Ref

open Idealize.ShloMosaic Idealize.SL.Sem Idealize.ShloMosaic.StableHlo
open Cert.ReferenceIdeal

abbrev wEnc1 : List (Ref sig .tc) := [main_v0, main_c, main_call0_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_call1_cst, main_call1_v0, main_v81]
theorem keepEnc1 (V : Valuation τ sig (Elt Ideal)) (r : Ref sig .tc) (h : r ∉ wEnc1) : after opsEnc1 V (Proc.devRef .tc r) = V (Proc.devRef .tc r) :=
  after_of_writes_sub (W := wEnc1) opsEnc1 V (forall_writes_sub_of_map rfl) h

abbrev wEnc2 : List (Ref sig .tc) := [main_c_0, main_call2_v0, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_call3_cst, main_call3_v0, main_v162]
theorem keepEnc2 (V : Valuation τ sig (Elt Ideal)) (r : Ref sig .tc) (h : r ∉ wEnc2) : after opsEnc2 V (Proc.devRef .tc r) = V (Proc.devRef .tc r) :=
  after_of_writes_sub (W := wEnc2) opsEnc2 V (forall_writes_sub_of_map rfl) h

abbrev wEnc3 : List (Ref sig .tc) := [main_c_1, main_call4_v0, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205, main_v206, main_v207]
theorem keepEnc3 (V : Valuation τ sig (Elt Ideal)) (r : Ref sig .tc) (h : r ∉ wEnc3) : after opsEnc3 V (Proc.devRef .tc r) = V (Proc.devRef .tc r) :=
  after_of_writes_sub (W := wEnc3) opsEnc3 V (forall_writes_sub_of_map rfl) h

abbrev wQuant : List (Ref sig .tc) := [main_c_2, main_call5_v0, main_v208, main_v209, main_v210, main_v211, main_v212]
theorem keepQuant (V : Valuation τ sig (Elt Ideal)) (r : Ref sig .tc) (h : r ∉ wQuant) : after opsQuant V (Proc.devRef .tc r) = V (Proc.devRef .tc r) :=
  after_of_writes_sub (W := wQuant) opsQuant V (forall_writes_sub_of_map rfl) h

abbrev wDist : List (Ref sig .tc) := [main_v213, main_cst, main_v214, main_v215, main_v216, main_v217, main_cst_3, main_v218, main_v219, main_v220, main_v221, main_v222, main_cst_4, main_v223, main_v224, main_v225, main_v226]
theorem keepDist (V : Valuation τ sig (Elt Ideal)) (r : Ref sig .tc) (h : r ∉ wDist) : after opsDist V (Proc.devRef .tc r) = V (Proc.devRef .tc r) :=
  after_of_writes_sub (W := wDist) opsDist V (forall_writes_sub_of_map rfl) h

abbrev wArg : List (Ref sig .tc) := [main_call6_v0, main_call6_cst, main_call6_c, main_call6_v1_0, main_v227]
theorem keepArg (V : Valuation τ sig (Elt Ideal)) (r : Ref sig .tc) (h : r ∉ wArg) : after opsArg V (Proc.devRef .tc r) = V (Proc.devRef .tc r) :=
  after_of_writes_sub (W := wArg) opsArg V (forall_writes_sub_of_map rfl) h

abbrev wTake : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v228]
theorem keepTake (V : Valuation τ sig (Elt Ideal)) (r : Ref sig .tc) (h : r ∉ wTake) : after opsTake V (Proc.devRef .tc r) = V (Proc.devRef .tc r) :=
  after_of_writes_sub (W := wTake) opsTake V (forall_writes_sub_of_map rfl) h

abbrev wCommit : List (Ref sig .tc) := [main_v229, main_v230, main_cst_5, main_v231, main_cst_6, main_v232, main_v233, main_v234, main_cst_7, main_v235, main_cst_8, main_v236, main_cst_9, main_v237, main_v238]
theorem keepCommit (V : Valuation τ sig (Elt Ideal)) (r : Ref sig .tc) (h : r ∉ wCommit) : after opsCommit V (Proc.devRef .tc r) = V (Proc.devRef .tc r) :=
  after_of_writes_sub (W := wCommit) opsCommit V (forall_writes_sub_of_map rfl) h

abbrev wPost : List (Ref sig .tc) := [main_v239, main_v240, main_v241, main_v242, main_c_10, main_call8_v0, main_v243, main_v244, main_v245]
theorem keepPost (V : Valuation τ sig (Elt Ideal)) (r : Ref sig .tc) (h : r ∉ wPost) : after opsPost V (Proc.devRef .tc r) = V (Proc.devRef .tc r) :=
  after_of_writes_sub (W := wPost) opsPost V (forall_writes_sub_of_map rfl) h

abbrev wDec1 : List (Ref sig .tc) := [main_c_11, main_call9_v0, main_v246, main_v247, main_v248, main_v249, main_v250, main_v251, main_v252, main_v253, main_v254, main_v255, main_v256, main_v257, main_v258, main_v259, main_v260, main_v261, main_v262, main_v263, main_v264, main_v265, main_v266, main_v267, main_v268, main_v269, main_v270, main_v271, main_v272, main_v273, main_v274, main_v275, main_v276, main_v277, main_v278, main_v279, main_v280, main_v281, main_v282, main_v283, main_v284, main_v285, main_v286, main_v287, main_v288, main_v289, main_v290, main_call10_cst, main_call10_v0, main_v291]
theorem keepDec1 (V : Valuation τ sig (Elt Ideal)) (r : Ref sig .tc) (h : r ∉ wDec1) : after opsDec1 V (Proc.devRef .tc r) = V (Proc.devRef .tc r) :=
  after_of_writes_sub (W := wDec1) opsDec1 V (forall_writes_sub_of_map rfl) h

abbrev wUp2 : List (Ref sig .tc) := [main_v292, main_v293, main_v294, main_v295]
theorem keepUp2 (V : Valuation τ sig (Elt Ideal)) (r : Ref sig .tc) (h : r ∉ wUp2) : after opsUp2 V (Proc.devRef .tc r) = V (Proc.devRef .tc r) :=
  after_of_writes_sub (W := wUp2) opsUp2 V (forall_writes_sub_of_map rfl) h

abbrev wDec2 : List (Ref sig .tc) := [main_c_12, main_call11_v0, main_v296, main_v297, main_v298, main_v299, main_v300, main_v301, main_v302, main_v303, main_v304, main_v305, main_v306, main_v307, main_v308, main_v309, main_v310, main_v311, main_v312, main_v313, main_v314, main_v315, main_v316, main_v317, main_v318, main_v319, main_v320, main_v321, main_v322, main_v323, main_v324, main_v325, main_v326, main_v327, main_v328, main_v329, main_v330, main_v331, main_v332, main_v333, main_v334, main_v335, main_v336, main_v337, main_v338, main_v339, main_v340, main_call12_cst, main_call12_v0, main_v341]
theorem keepDec2 (V : Valuation τ sig (Elt Ideal)) (r : Ref sig .tc) (h : r ∉ wDec2) : after opsDec2 V (Proc.devRef .tc r) = V (Proc.devRef .tc r) :=
  after_of_writes_sub (W := wDec2) opsDec2 V (forall_writes_sub_of_map rfl) h

abbrev wUp3 : List (Ref sig .tc) := [main_v342, main_v343, main_v344, main_v345]
theorem keepUp3 (V : Valuation τ sig (Elt Ideal)) (r : Ref sig .tc) (h : r ∉ wUp3) : after opsUp3 V (Proc.devRef .tc r) = V (Proc.devRef .tc r) :=
  after_of_writes_sub (W := wUp3) opsUp3 V (forall_writes_sub_of_map rfl) h

abbrev wDec3 : List (Ref sig .tc) := [main_c_13, main_call13_v0, main_v346, main_v347, main_v348, main_v349, main_v350, main_v351, main_v352, main_v353, main_v354, main_v355, main_v356, main_v357, main_v358, main_v359, main_v360, main_v361, main_v362, main_v363, main_v364, main_v365, main_v366, main_v367, main_v368, main_v369, main_v370, main_v371, main_v372, main_v373, main_v374, main_v375, main_v376, main_v377, main_v378, main_v379, main_v380, main_v381, main_v382, main_v383, main_v384, main_v385, main_v386, main_v387, main_v388, main_v389, main_v390, main_call14_cst, main_call14_v0, main_v391]
theorem keepDec3 (V : Valuation τ sig (Elt Ideal)) (r : Ref sig .tc) (h : r ∉ wDec3) : after opsDec3 V (Proc.devRef .tc r) = V (Proc.devRef .tc r) :=
  after_of_writes_sub (W := wDec3) opsDec3 V (forall_writes_sub_of_map rfl) h

abbrev wOnset : List (Ref sig .tc) := [main_c_14, main_call15_v0, main_v392, main_v393, main_v394, main_v395, main_v396, main_v397, main_v398, main_v399, main_v400, main_v401, main_v402, main_v403, main_v404, main_v405, main_v406, main_v407, main_v408, main_v409, main_v410, main_v411, main_v412, main_v413, main_v414, main_v415, main_v416, main_v417, main_v418, main_v419, main_v420, main_v421, main_v422, main_v423, main_v424, main_v425, main_v426, main_v427, main_v428, main_v429, main_v430, main_v431, main_v432, main_v433, main_v434, main_v435, main_v436, main_v437]
theorem keepOnset (V : Valuation τ sig (Elt Ideal)) (r : Ref sig .tc) (h : r ∉ wOnset) : after opsOnset V (Proc.devRef .tc r) = V (Proc.devRef .tc r) :=
  after_of_writes_sub (W := wOnset) opsOnset V (forall_writes_sub_of_map rfl) h

abbrev wDur : List (Ref sig .tc) := [main_c_15, main_call16_v0, main_v438, main_v439, main_v440, main_v441, main_v442, main_v443, main_v444, main_v445, main_v446, main_v447, main_v448, main_v449, main_v450, main_v451, main_v452, main_v453, main_v454, main_v455, main_v456, main_v457, main_v458, main_v459, main_v460, main_v461, main_v462, main_v463, main_v464, main_v465, main_v466, main_v467, main_v468, main_v469, main_v470, main_v471, main_v472, main_v473, main_v474, main_v475, main_v476, main_v477, main_v478, main_v479, main_v480, main_v481, main_v482, main_v483]
theorem keepDur (V : Valuation τ sig (Elt Ideal)) (r : Ref sig .tc) (h : r ∉ wDur) : after opsDur V (Proc.devRef .tc r) = V (Proc.devRef .tc r) :=
  after_of_writes_sub (W := wDur) opsDur V (forall_writes_sub_of_map rfl) h

end Cert.Proof.Ref

end
-- ==== Proof.RefRead.lean ====
module

public import proofs.«01_k».proof.Proof.RefRun
public import proofs.«01_k».proof.Proof.Spec
public import Idealize.ShloMosaic.Lib.StableHlo.ReadAt

/-! What the reference's lines share: the images and the zero of a border. -/

@[expose] public section

set_option maxRecDepth 65536

noncomputable section

namespace Cert.Proof.Ref

open Idealize.ShloMosaic Idealize.ShloMosaic.TcCoe Idealize.SL.Sem Idealize.ShloMosaic.StableHlo
open Cert.ReferenceIdeal Facts₀

/-- An array whose first axis is the channels, as an image. -/
def cnhw {C H W : ℕ} (X : FVec Ideal ⟨4, ![C, 8, H, W]⟩ .f32) (b : Fin 8) (i : Fin H) (j : Fin W) (k : Fin C) : EReal := X (ix4 k b i j)

theorem sitofp_zero : (FloatOps.sitofp .f32 (0#32) : Ideal .f32) = (0 : EReal) := by
  show (((0#32 : BitVec 32).toInt : ℝ) : EReal) = 0
  norm_num

theorem ofBits_zero : Ideal.ofBits .f32 0#32 = (0 : EReal) := by simp [Ideal.ofBits, Ideal.ieee]

end Cert.Proof.Ref

end
-- ==== Proof.RefEnc1.lean ====
module

public import proofs.«01_k».proof.Proof.RefRead

/-! The reference's first convolution. -/

@[expose] public section

set_option maxRecDepth 65536

noncomputable section

namespace Cert.Proof.Ref

open Idealize.ShloMosaic Idealize.ShloMosaic.TcCoe Idealize.SL.Sem Idealize.ShloMosaic.StableHlo
open Cert.ReferenceIdeal Facts₀

set_option maxHeartbeats 4000000 in
/-- The first strided convolution and its rectifier. -/
theorem readEnc1 (V : Valuation τ sig (Elt Ideal)) :
    cnhw (after opsEnc1 V (Proc.devRef .tc main_v81) : T Ideal S128x8x128x128)
      = relu (conv4 (nchw (V (Proc.devRef .tc main_arg0) : T Ideal S8x2x256x256)) (V (Proc.devRef .tc main_arg1) : T Ideal S128x2x4x4)) := by
  funext b i j o
  show (after opsEnc1 V (Proc.devRef .tc main_v81) : T Ideal S128x8x128x128) (ix4 o b i j) = _
  after_reads_at
  simp only [relu, conv4, tap, sitofp_zero]
  refine congrArg₂ max ?_ rfl
  refine addto4 (addto4 (addto4 (add4 ?_ ?_ ?_ ?_) ?_ ?_ ?_ ?_) ?_ ?_ ?_ ?_) ?_ ?_ ?_ ?_
  all_goals
    refine sum_mul_congr fun k => ?_
    simp only [padf, nchw, cnhw]
    repeat' split
  all_goals first
    | rfl
    | (exfalso; omega)
    | exact congrArg _ (congrArg₂ (fun p q => ix4 b _ p q) (Fin.ext (by first | rfl | omega | (simp only []; omega))) (Fin.ext (by first | rfl | omega | (simp only []; omega))))

end Cert.Proof.Ref

end
-- ==== Proof.RefEnc2.lean ====
module

public import proofs.«01_k».proof.Proof.RefRead

/-! The reference's second convolution. -/

@[expose] public section

set_option maxRecDepth 65536

noncomputable section

namespace Cert.Proof.Ref

open Idealize.ShloMosaic Idealize.ShloMosaic.TcCoe Idealize.SL.Sem Idealize.ShloMosaic.StableHlo
open Cert.ReferenceIdeal Facts₀

set_option maxHeartbeats 4000000 in
/-- The second strided convolution and its rectifier. -/
theorem readEnc2 (V : Valuation τ sig (Elt Ideal)) :
    cnhw (after opsEnc2 V (Proc.devRef .tc main_v162) : T Ideal S256x8x64x64)
      = relu (conv4 (cnhw (V (Proc.devRef .tc main_v81) : T Ideal S128x8x128x128)) (V (Proc.devRef .tc main_arg2) : T Ideal S256x128x4x4)) := by
  funext b i j o
  show (after opsEnc2 V (Proc.devRef .tc main_v162) : T Ideal S256x8x64x64) (ix4 o b i j) = _
  after_reads_at
  simp only [relu, conv4, tap, sitofp_zero]
  refine congrArg₂ max ?_ rfl
  refine addto4 (addto4 (addto4 (add4 ?_ ?_ ?_ ?_) ?_ ?_ ?_ ?_) ?_ ?_ ?_ ?_) ?_ ?_ ?_ ?_
  all_goals
    refine sum_mul_congr fun k => ?_
    simp only [padf, cnhw]
    repeat' split
  all_goals first
    | rfl
    | (exfalso; omega)
    | exact congrArg _ (congrArg₂ (fun p q => ix4 _ b p q) (Fin.ext (by first | rfl | omega | (simp only []; omega))) (Fin.ext (by first | rfl | omega | (simp only []; omega))))

end Cert.Proof.Ref

end
-- ==== Proof.RefEnc3.lean ====
module

public import proofs.«01_k».proof.Proof.RefRead

/-! The encoder's last convolution and the decoder's first. -/

@[expose] public section

set_option maxRecDepth 65536

noncomputable section

namespace Cert.Proof.Ref

open Idealize.ShloMosaic Idealize.ShloMosaic.TcCoe Idealize.SL.Sem Idealize.ShloMosaic.StableHlo
open Cert.ReferenceIdeal Facts₀

set_option maxHeartbeats 4000000 in
/-- The encoder's last convolution. -/
theorem readEnc3 (V : Valuation τ sig (Elt Ideal)) :
    cnhw (after opsEnc3 V (Proc.devRef .tc main_v207) : T Ideal S256x8x64x64)
      = conv3 (cnhw (V (Proc.devRef .tc main_v162) : T Ideal S256x8x64x64)) (V (Proc.devRef .tc main_arg3) : T Ideal S256x256x3x3) := by
  funext b i j o
  show (after opsEnc3 V (Proc.devRef .tc main_v207) : T Ideal S256x8x64x64) (ix4 o b i j) = _
  after_reads_at
  simp only [conv3, tap, sitofp_zero]
  refine add9 ?_ ?_ ?_ ?_ ?_ ?_ ?_ ?_ ?_
  all_goals
    refine sum_mul_congr fun k => ?_
    simp only [padf, cnhw]
    repeat' split
  all_goals first
    | rfl
    | (exfalso; omega)
    | exact congrArg _ (congrArg₂ (fun p q => ix4 _ b p q) (Fin.ext (by first | rfl | omega | (simp only []; omega))) (Fin.ext (by first | rfl | omega | (simp only []; omega))))

set_option maxHeartbeats 4000000 in
/-- The decoder's first convolution and its rectifier. -/
theorem readDec1 (V : Valuation τ sig (Elt Ideal)) :
    cnhw (after opsDec1 V (Proc.devRef .tc main_v291) : T Ideal S256x8x64x64)
      = relu (conv3 (cnhw (V (Proc.devRef .tc main_v245) : T Ideal S256x8x64x64)) (V (Proc.devRef .tc main_arg7) : T Ideal S256x256x3x3)) := by
  funext b i j o
  show (after opsDec1 V (Proc.devRef .tc main_v291) : T Ideal S256x8x64x64) (ix4 o b i j) = _
  after_reads_at
  simp only [relu, conv3, tap, sitofp_zero]
  refine congrArg₂ max ?_ rfl
  refine add9 ?_ ?_ ?_ ?_ ?_ ?_ ?_ ?_ ?_
  all_goals
    refine sum_mul_congr fun k => ?_
    simp only [padf, cnhw]
    repeat' split
  all_goals first
    | rfl
    | (exfalso; omega)
    | exact congrArg _ (congrArg₂ (fun p q => ix4 _ b p q) (Fin.ext (by first | rfl | omega | (simp only []; omega))) (Fin.ext (by first | rfl | omega | (simp only []; omega))))

end Cert.Proof.Ref

end
-- ==== Proof.RefDec.lean ====
module

public import proofs.«01_k».proof.Proof.RefRead

/-! The decoder's other convolutions. -/

@[expose] public section

set_option maxRecDepth 65536

noncomputable section

namespace Cert.Proof.Ref

open Idealize.ShloMosaic Idealize.ShloMosaic.TcCoe Idealize.SL.Sem Idealize.ShloMosaic.StableHlo
open Cert.ReferenceIdeal Facts₀

set_option maxHeartbeats 4000000 in
/-- The decoder's second convolution and its rectifier. -/
theorem readDec2 (V : Valuation τ sig (Elt Ideal)) :
    cnhw (after opsDec2 V (Proc.devRef .tc main_v341) : T Ideal S128x8x128x128)
      = relu (conv3 (cnhw (V (Proc.devRef .tc main_v295) : T Ideal S256x8x128x128)) (V (Proc.devRef .tc main_arg8) : T Ideal S128x256x3x3)) := by
  funext b i j o
  show (after opsDec2 V (Proc.devRef .tc main_v341) : T Ideal S128x8x128x128) (ix4 o b i j) = _
  after_reads_at
  simp only [relu, conv3, tap, sitofp_zero]
  refine congrArg₂ max ?_ rfl
  refine add9 ?_ ?_ ?_ ?_ ?_ ?_ ?_ ?_ ?_
  all_goals
    refine sum_mul_congr fun k => ?_
    simp only [padf, cnhw]
    repeat' split
  all_goals first
    | rfl
    | (exfalso; omega)
    | exact congrArg _ (congrArg₂ (fun p q => ix4 _ b p q) (Fin.ext (by first | rfl | omega | (simp only []; omega))) (Fin.ext (by first | rfl | omega | (simp only []; omega))))

set_option maxHeartbeats 4000000 in
/-- The decoder's third convolution and its rectifier. -/
theorem readDec3 (V : Valuation τ sig (Elt Ideal)) :
    cnhw (after opsDec3 V (Proc.devRef .tc main_v391) : T Ideal S64x8x256x256)
      = relu (conv3 (cnhw (V (Proc.devRef .tc main_v345) : T Ideal S128x8x256x256)) (V (Proc.devRef .tc main_arg9) : T Ideal S64x128x3x3)) := by
  funext b i j o
  show (after opsDec3 V (Proc.devRef .tc main_v391) : T Ideal S64x8x256x256) (ix4 o b i j) = _
  after_reads_at
  simp only [relu, conv3, tap, sitofp_zero]
  refine congrArg₂ max ?_ rfl
  refine add9 ?_ ?_ ?_ ?_ ?_ ?_ ?_ ?_ ?_
  all_goals
    refine sum_mul_congr fun k => ?_
    simp only [padf, cnhw]
    repeat' split
  all_goals first
    | rfl
    | (exfalso; omega)
    | exact congrArg _ (congrArg₂ (fun p q => ix4 _ b p q) (Fin.ext (by first | rfl | omega | (simp only []; omega))) (Fin.ext (by first | rfl | omega | (simp only []; omega))))

end Cert.Proof.Ref

end
-- ==== Proof.RefHeads.lean ====
module

public import proofs.«01_k».proof.Proof.RefRead

/-! The heads. -/

@[expose] public section

set_option maxRecDepth 65536

noncomputable section

namespace Cert.Proof.Ref

open Idealize.ShloMosaic Idealize.ShloMosaic.TcCoe Idealize.SL.Sem Idealize.ShloMosaic.StableHlo
open Cert.ReferenceIdeal Facts₀

set_option maxHeartbeats 4000000 in
/-- The first head. -/
theorem readOnset (V : Valuation τ sig (Elt Ideal)) :
    nchw (after opsOnset V (Proc.devRef .tc main_v437) : T Ideal S8x2x256x256)
      = conv3 (cnhw (V (Proc.devRef .tc main_v391) : T Ideal S64x8x256x256)) (V (Proc.devRef .tc main_arg10) : T Ideal S2x64x3x3) := by
  funext b i j o
  show (after opsOnset V (Proc.devRef .tc main_v437) : T Ideal S8x2x256x256) (ix4 b o i j) = _
  after_reads_at
  simp only [conv3, tap, sitofp_zero]
  refine add9 ?_ ?_ ?_ ?_ ?_ ?_ ?_ ?_ ?_
  all_goals
    refine sum_mul_congr fun k => ?_
    simp only [padf, cnhw]
    repeat' split
  all_goals first
    | rfl
    | (exfalso; omega)
    | exact congrArg _ (congrArg₂ (fun p q => ix4 _ b p q) (Fin.ext (by first | rfl | omega | (simp only []; omega))) (Fin.ext (by first | rfl | omega | (simp only []; omega))))

set_option maxHeartbeats 4000000 in
/-- The second head. -/
theorem readDur (V : Valuation τ sig (Elt Ideal)) :
    nchw (after opsDur V (Proc.devRef .tc main_v483) : T Ideal S8x2x256x256)
      = conv3 (cnhw (V (Proc.devRef .tc main_v391) : T Ideal S64x8x256x256)) (V (Proc.devRef .tc main_arg11) : T Ideal S2x64x3x3) := by
  funext b i j o
  show (after opsDur V (Proc.devRef .tc main_v483) : T Ideal S8x2x256x256) (ix4 b o i j) = _
  after_reads_at
  simp only [conv3, tap, sitofp_zero]
  refine add9 ?_ ?_ ?_ ?_ ?_ ?_ ?_ ?_ ?_
  all_goals
    refine sum_mul_congr fun k => ?_
    simp only [padf, cnhw]
    repeat' split
  all_goals first
    | rfl
    | (exfalso; omega)
    | exact congrArg _ (congrArg₂ (fun p q => ix4 _ b p q) (Fin.ext (by first | rfl | omega | (simp only []; omega))) (Fin.ext (by first | rfl | omega | (simp only []; omega))))

end Cert.Proof.Ref

end
-- ==== Proof.RefVQ.lean ====
module

public import proofs.«01_k».proof.Proof.RefRead

/-! The reference's quantizer. -/

@[expose] public section

set_option maxRecDepth 65536

noncomputable section

namespace Cert.Proof.Ref

open Idealize.ShloMosaic Idealize.ShloMosaic.TcCoe Idealize.SL.Sem Idealize.ShloMosaic.StableHlo
open Cert.ReferenceIdeal Facts₀

/-- The rows before the quantizer. -/
theorem readQuant (V : Valuation τ sig (Elt Ideal)) :
    rowIm (after opsQuant V (Proc.devRef .tc main_v212) : T Ideal S32768x256)
      = conv1 (cnhw (V (Proc.devRef .tc main_v207) : T Ideal S256x8x64x64)) (V (Proc.devRef .tc main_arg4) : T Ideal S256x256x1x1) := by
  funext b i j o
  show (after opsQuant V (Proc.devRef .tc main_v212) : T Ideal S32768x256) (ix2 (pix b i j) o) = _
  after_reads_at
  refine sum_mul_congr fun k => ?_
  have h1 : (pix b i j).val / 4096 = b.val := by simp only [pix]; omega
  have h2 : (pix b i j).val / 64 % 64 = i.val := by simp only [pix]; omega
  have h3 : (pix b i j).val % 64 = j.val := by simp only [pix]; omega
  rw [dif_pos ⟨by omega, by omega, by omega⟩]
  have h : ∀ (p : Fin 8) (q r : Fin 64), p = b → q = i → r = j →
      (V (Proc.devRef .tc main_v207) : T Ideal S256x8x64x64) (ix4 k p q r) = (V (Proc.devRef .tc main_v207) : T Ideal S256x8x64x64) (ix4 k b i j) := by
    rintro _ _ _ rfl rfl rfl; rfl
  exact h _ _ _ (Fin.ext h1) (Fin.ext h2) (Fin.ext h3)

/-- The squared distances. -/
theorem readDist (V : Valuation τ sig (Elt Ideal)) (n : Fin 32768) (k : Fin 1024) :
    (after opsDist V (Proc.devRef .tc main_v226) : T Ideal S32768x1024) (ix2 n k)
      = dist (fun x => (V (Proc.devRef .tc main_v212) : T Ideal S32768x256) (ix2 n x)) (fun m x => (V (Proc.devRef .tc main_arg5) : T Ideal S1024x256) (ix2 m x)) k := by
  after_reads_at
  rfl

/-- The commitment term: the mean of the squared distances, and a quarter of it. -/
theorem readCommit (V : Valuation τ sig (Elt Ideal)) :
    (after opsCommit V (Proc.devRef .tc main_v238) : T Ideal S_) ix0
      = Ideal.div (errRows (V (Proc.devRef .tc main_v228) : T Ideal S32768x256) (V (Proc.devRef .tc main_v212) : T Ideal S32768x256)) (Ideal.ofBits .f32 1258291200#32)
        + Ideal.ofBits .f32 1048576000#32
          * Ideal.div (errRows (V (Proc.devRef .tc main_v228) : T Ideal S32768x256) (V (Proc.devRef .tc main_v212) : T Ideal S32768x256)) (Ideal.ofBits .f32 1258291200#32) := by
  after_reads_at
  rfl

/-- The straight-through rows and the pixelwise map after them. -/
theorem readPost (V : Valuation τ sig (Elt Ideal)) :
    cnhw (after opsPost V (Proc.devRef .tc main_v245) : T Ideal S256x8x64x64)
      = conv1 (fun b i j k => rowIm (V (Proc.devRef .tc main_v212) : T Ideal S32768x256) b i j k
          + (rowIm (V (Proc.devRef .tc main_v228) : T Ideal S32768x256) b i j k - rowIm (V (Proc.devRef .tc main_v212) : T Ideal S32768x256) b i j k))
        (V (Proc.devRef .tc main_arg6) : T Ideal S256x256x1x1) := by
  funext b i j o
  show (after opsPost V (Proc.devRef .tc main_v245) : T Ideal S256x8x64x64) (ix4 o b i j) = _
  after_reads_at
  rfl

theorem readUp2 (V : Valuation τ sig (Elt Ideal)) :
    cnhw (after opsUp2 V (Proc.devRef .tc main_v295) : T Ideal S256x8x128x128) = up rfl rfl (cnhw (V (Proc.devRef .tc main_v291) : T Ideal S256x8x64x64)) := by
  funext b i j o
  show (after opsUp2 V (Proc.devRef .tc main_v295) : T Ideal S256x8x128x128) (ix4 o b i j) = _
  after_reads_at
  rfl

theorem readUp3 (V : Valuation τ sig (Elt Ideal)) :
    cnhw (after opsUp3 V (Proc.devRef .tc main_v345) : T Ideal S128x8x256x256) = up rfl rfl (cnhw (V (Proc.devRef .tc main_v341) : T Ideal S128x8x128x128)) := by
  funext b i j o
  show (after opsUp3 V (Proc.devRef .tc main_v345) : T Ideal S128x8x256x256) (ix4 o b i j) = _
  after_reads_at
  rfl

/-- The gather's row, at an index within the codebook. -/
theorem gather_row (X : FVec Ideal S1024x256 .f32) (idx : IVec S32768x1 32) (n : Fin 32768) (k : Fin 1024) (x : Fin 256)
    (hk : idx (ix2 n 0) = BitVec.ofNat 32 k.val) :
    Host.gather gather_S1024x256_S32768x1_S32768x256_1_0_n_n_0_1_1256 X idx (ix2 n x) = X (ix2 k x) := by
  unfold Host.gather
  refine congrArg X (funext fun a => Fin.ext ?_)
  show gather_S1024x256_S32768x1_S32768x256_1_0_n_n_0_1_1256.start (ix2 n x) idx a
      + gather_S1024x256_S32768x1_S32768x256_1_0_n_n_0_1_1256.batchCoord (ix2 n x) a
      + gather_S1024x256_S32768x1_S32768x256_1_0_n_n_0_1_1256.offCoord (ix2 n x) a = _
  have hl := k.isLt
  have h01 : a = 0 ∨ a = 1 := by
    match a with
    | ⟨0, _⟩ => exact Or.inl rfl
    | ⟨1, _⟩ => exact Or.inr rfl
  rcases h01 with rfl | rfl
  · have hs : gather_S1024x256_S32768x1_S32768x256_1_0_n_n_0_1_1256.start (ix2 n x) idx 0 = k.val := by
      unfold GatherDims.start
      rw [dif_pos (show (0 : Fin 2) ∈ gather_S1024x256_S32768x1_S32768x256_1_0_n_n_0_1_1256.startIndexMap from List.mem_singleton.mpr rfl)]
      rw [show gather_S1024x256_S32768x1_S32768x256_1_0_n_n_0_1_1256.siIdx (ix2 n x) ⟨List.idxOf (0 : Fin 2) gather_S1024x256_S32768x1_S32768x256_1_0_n_n_0_1_1256.startIndexMap,
        List.idxOf_lt_length_iff.2 (List.mem_singleton.mpr rfl)⟩ = ix2 n 0 from funext fun b => by
          match b with
          | ⟨0, _⟩ => rfl
          | ⟨1, _⟩ => rfl]
      rw [hk, ofNat_toInt]
      show min ((k.val : ℤ).toNat) (1024 - 1) = k.val
      omega
    rw [hs]
    rfl
  · exact (Nat.zero_add _).trans rfl

/-- The codebook's rows at the indices found, each known to be within the codebook. -/
theorem readTake (V : Valuation τ sig (Elt Ideal)) (n : Fin 32768) (k : Fin 1024) (x : Fin 256)
    (hk : (V (Proc.devRef .tc main_v227) : IVec S32768 32) (ix1 n) = BitVec.ofNat 32 k.val) :
    (after opsTake V (Proc.devRef .tc main_v228) : T Ideal S32768x256) (ix2 n x) = (V (Proc.devRef .tc main_arg5) : T Ideal S1024x256) (ix2 k x) := by
  have hl := k.isLt
  have hlt : IntOp.cmpi .slt (BitVec.ofNat 32 k.val) 0#32 = 0#1 := by
    show BitVec.ofBool (decide ((BitVec.ofNat 32 k.val).toInt < 0)) = 0#1
    rw [ofNat_toInt, decide_eq_false (by omega)]; rfl
  have hge : IntOp.cmpi .sge (BitVec.ofNat 32 k.val) 0#32 = 1#1 := by
    show BitVec.ofBool (decide (0 ≤ (BitVec.ofNat 32 k.val).toInt)) = 1#1
    rw [ofNat_toInt, decide_eq_true (by omega)]; rfl
  have hle : IntOp.cmpi .sle (BitVec.ofNat 32 k.val) 1023#32 = 1#1 := by
    show BitVec.ofBool (decide ((BitVec.ofNat 32 k.val).toInt ≤ 1023)) = 1#1
    rw [ofNat_toInt, decide_eq_true (by omega)]; rfl
  after_reads_at
  have hsel : Scalar.select (IntOp.cmpi CmpIPredicate.slt ((V (Proc.devRef .tc main_v227) : IVec S32768 32) (ix1 n)) 0#32)
      (IntOp.addi ((V (Proc.devRef .tc main_v227) : IVec S32768 32) (ix1 n)) 1024#32) ((V (Proc.devRef .tc main_v227) : IVec S32768 32) (ix1 n)) = BitVec.ofNat 32 k.val := by
    rw [hk, hlt]; rfl
  refine (congrArg₂ (fun p q => Scalar.select p q _) (?_ : _ = 1#1) (gather_row _ _ n k x ?_)).trans rfl
  · rw [hsel, hge, hle]
    rw [show (Finset.univ : Finset (Fin 1)) = {0} from rfl, Finset.fold_singleton]
    rfl
  · pointwise
    exact hsel

/-- The reducer keeps the earlier of two pairs. -/
theorem reducer_eq (a b : EReal × BitVec 32) : reducer_argmin_f32_i32 (F := Ideal) a b
    = if a.1 < b.1 then a else if a.1 = b.1 ∧ a.2.toInt < b.2.toInt then a else b := by
  show ((if (IntOp.ori (BitVec.ofBool (decide (a.1 < b.1))) (BitVec.ofBool (decide (a.1 ≠ a.1)))) = 1#1 then a.1 else b.1,
    if (IntOp.ori (IntOp.ori (BitVec.ofBool (decide (a.1 < b.1))) (BitVec.ofBool (decide (a.1 ≠ a.1))))
      (IntOp.andi (BitVec.ofBool (decide (a.1 = b.1))) (BitVec.ofBool (decide (a.2.toInt < b.2.toInt))))) = 1#1 then a.2 else b.2) : EReal × BitVec 32) = _
  by_cases h : a.1 < b.1 <;> by_cases h' : a.1 = b.1 <;> by_cases h'' : a.2.toInt < b.2.toInt <;>
    simp [h, h', h'', IntOp.ori, IntOp.andi]
  all_goals exact Prod.ext h'.symm rfl

theorem reducer_picks : Picks (reducer_argmin_f32_i32 (F := Ideal)) := by
  refine ⟨fun a b => ?_, fun a b => ?_, fun a b => ?_⟩ <;> rw [reducer_eq]
  · split_ifs <;> simp
  · split_ifs with h h'
    · exact Before.refl a
    · exact Before.refl a
    · rcases lt_or_eq_of_le (not_lt.mp h) with e | e
      · exact Or.inl e
      · exact Or.inr ⟨e, not_lt.mp fun c => h' ⟨e.symm, c⟩⟩
  · split_ifs with h h'
    · exact Or.inl h
    · exact Or.inr ⟨h'.1, h'.2.le⟩
    · exact Before.refl b

/-- The index found over a row of distances. -/
theorem argmin_eq (D : FVec Ideal S32768x1024 .f32) (n : Fin 32768) :
    (Host.argReduce reducer_argmin_f32_i32 D (iotaInDim S32768x1024 32 1) (constant S_ .f32 0x7F800000#32) (constantI S_ 32 0#32)
        reducesTo_S32768x1024_S32768_d1 h_S_ (ix1 n)).2
      = BitVec.ofNat 32 (nearest fun k => D (ix2 n k)).val :=
  argReduce_nearest reducer_picks D (iotaInDim S32768x1024 32 1) (constant S_ .f32 0x7F800000#32) (constantI S_ 32 0#32) (fun _ _ => rfl) top_bits rfl _ _ n

theorem readArg (V : Valuation τ sig (Elt Ideal)) (n : Fin 32768) :
    (after opsArg V (Proc.devRef .tc main_v227) : IVec S32768 32) (ix1 n)
      = BitVec.ofNat 32 (nearest fun k => (V (Proc.devRef .tc main_v226) : T Ideal S32768x1024) (ix2 n k)).val := by
  after_reads_simp
  simp -implicitDefEqProofs only [StableHlo.TRef.toBuf, StableHlo.TRef.ofBuf, cast_cast, cast_eq]
  clean_types
  rw [argmin_eq]

end Cert.Proof.Ref

end
-- ==== Proof.RefChain.lean ====
module

public import proofs.«01_k».proof.Proof.Finite
public import proofs.«01_k».proof.Proof.RefKeep
public import proofs.«01_k».proof.Proof.RefEnc1
public import proofs.«01_k».proof.Proof.RefEnc2
public import proofs.«01_k».proof.Proof.RefEnc3
public import proofs.«01_k».proof.Proof.RefDec
public import proofs.«01_k».proof.Proof.RefHeads
public import proofs.«01_k».proof.Proof.RefVQ

/-! The reference's three results as formulas of its arguments. -/

@[expose] public section

set_option maxRecDepth 65536

noncomputable section

namespace Cert.Proof.Ref

open Idealize.ShloMosaic Idealize.ShloMosaic.TcCoe Idealize.SL.Sem Idealize.ShloMosaic.StableHlo
open Cert.ReferenceIdeal Facts₀

/-- The arguments in the buffers. -/
def argsOf (V : Valuation τ sig (Elt Ideal)) : Args where
  x := (V (Proc.devRef .tc main_arg0) : T Ideal S8x2x256x256)
  w1 := (V (Proc.devRef .tc main_arg1) : T Ideal S128x2x4x4)
  w2 := (V (Proc.devRef .tc main_arg2) : T Ideal S256x128x4x4)
  w3 := (V (Proc.devRef .tc main_arg3) : T Ideal S256x256x3x3)
  wq := (V (Proc.devRef .tc main_arg4) : T Ideal S256x256x1x1)
  cb := (V (Proc.devRef .tc main_arg5) : T Ideal S1024x256)
  wp := (V (Proc.devRef .tc main_arg6) : T Ideal S256x256x1x1)
  d1 := (V (Proc.devRef .tc main_arg7) : T Ideal S256x256x3x3)
  d2 := (V (Proc.devRef .tc main_arg8) : T Ideal S128x256x3x3)
  d3 := (V (Proc.devRef .tc main_arg9) : T Ideal S64x128x3x3)
  won := (V (Proc.devRef .tc main_arg10) : T Ideal S2x64x3x3)
  wdu := (V (Proc.devRef .tc main_arg11) : T Ideal S2x64x3x3)

/-- The argument buffers. -/
abbrev argRefs : List (Ref sig .tc) :=
  [main_arg0, main_arg1, main_arg2, main_arg3, main_arg4, main_arg5, main_arg6, main_arg7, main_arg8, main_arg9, main_arg10, main_arg11]

/-- A stage that writes none of the argument buffers leaves the arguments. -/
theorem argsOf_congr {V V' : Valuation τ sig (Elt Ideal)} (h : ∀ r ∈ argRefs, V' (Proc.devRef .tc r) = V (Proc.devRef .tc r)) :
    argsOf V' = argsOf V := by
  have e := fun r (hr : r ∈ argRefs) => h r hr
  simp only [argsOf, e main_arg0 (by decide), e main_arg1 (by decide), e main_arg2 (by decide), e main_arg3 (by decide), e main_arg4 (by decide),
    e main_arg5 (by decide), e main_arg6 (by decide), e main_arg7 (by decide), e main_arg8 (by decide), e main_arg9 (by decide), e main_arg10 (by decide),
    e main_arg11 (by decide)]

variable (V : Valuation τ sig (Elt Ideal))

abbrev U1 := after opsEnc1 V
abbrev U2 := after opsEnc2 (U1 V)
abbrev U3 := after opsEnc3 (U2 V)
abbrev U4 := after opsQuant (U3 V)
abbrev U5 := after opsDist (U4 V)
abbrev U6 := after opsArg (U5 V)
abbrev U7 := after opsTake (U6 V)
abbrev U8 := after opsCommit (U7 V)
abbrev U9 := after opsPost (U8 V)
abbrev U10 := after opsDec1 (U9 V)
abbrev U11 := after opsUp2 (U10 V)
abbrev U12 := after opsDec2 (U11 V)
abbrev U13 := after opsUp3 (U12 V)
abbrev U14 := after opsDec3 (U13 V)
abbrev U15 := after opsOnset (U14 V)
abbrev U16 := after opsDur (U15 V)

theorem after_ops : after ops V = U16 V := (afterL_eq_after_flatten (stages (F := Ideal)) V).symm

/-- The argument buffers through the stages. -/
theorem kept1 : ∀ r ∈ argRefs, U1 V (Proc.devRef .tc r) = V (Proc.devRef .tc r) := fun r hr =>
  keepEnc1 _ r ((by decide +kernel : ∀ r ∈ argRefs, r ∉ wEnc1) r hr)
theorem kept2 : ∀ r ∈ argRefs, U2 V (Proc.devRef .tc r) = V (Proc.devRef .tc r) := fun r hr =>
  (keepEnc2 _ r ((by decide +kernel : ∀ r ∈ argRefs, r ∉ wEnc2) r hr)).trans (kept1 V r hr)
theorem kept3 : ∀ r ∈ argRefs, U3 V (Proc.devRef .tc r) = V (Proc.devRef .tc r) := fun r hr =>
  (keepEnc3 _ r ((by decide +kernel : ∀ r ∈ argRefs, r ∉ wEnc3) r hr)).trans (kept2 V r hr)
theorem kept4 : ∀ r ∈ argRefs, U4 V (Proc.devRef .tc r) = V (Proc.devRef .tc r) := fun r hr =>
  (keepQuant _ r ((by decide +kernel : ∀ r ∈ argRefs, r ∉ wQuant) r hr)).trans (kept3 V r hr)
theorem kept5 : ∀ r ∈ argRefs, U5 V (Proc.devRef .tc r) = V (Proc.devRef .tc r) := fun r hr =>
  (keepDist _ r ((by decide +kernel : ∀ r ∈ argRefs, r ∉ wDist) r hr)).trans (kept4 V r hr)
theorem kept6 : ∀ r ∈ argRefs, U6 V (Proc.devRef .tc r) = V (Proc.devRef .tc r) := fun r hr =>
  (keepArg _ r ((by decide +kernel : ∀ r ∈ argRefs, r ∉ wArg) r hr)).trans (kept5 V r hr)
theorem kept7 : ∀ r ∈ argRefs, U7 V (Proc.devRef .tc r) = V (Proc.devRef .tc r) := fun r hr =>
  (keepTake _ r ((by decide +kernel : ∀ r ∈ argRefs, r ∉ wTake) r hr)).trans (kept6 V r hr)
theorem kept8 : ∀ r ∈ argRefs, U8 V (Proc.devRef .tc r) = V (Proc.devRef .tc r) := fun r hr =>
  (keepCommit _ r ((by decide +kernel : ∀ r ∈ argRefs, r ∉ wCommit) r hr)).trans (kept7 V r hr)
theorem kept9 : ∀ r ∈ argRefs, U9 V (Proc.devRef .tc r) = V (Proc.devRef .tc r) := fun r hr =>
  (keepPost _ r ((by decide +kernel : ∀ r ∈ argRefs, r ∉ wPost) r hr)).trans (kept8 V r hr)
theorem kept10 : ∀ r ∈ argRefs, U10 V (Proc.devRef .tc r) = V (Proc.devRef .tc r) := fun r hr =>
  (keepDec1 _ r ((by decide +kernel : ∀ r ∈ argRefs, r ∉ wDec1) r hr)).trans (kept9 V r hr)
theorem kept11 : ∀ r ∈ argRefs, U11 V (Proc.devRef .tc r) = V (Proc.devRef .tc r) := fun r hr =>
  (keepUp2 _ r ((by decide +kernel : ∀ r ∈ argRefs, r ∉ wUp2) r hr)).trans (kept10 V r hr)
theorem kept12 : ∀ r ∈ argRefs, U12 V (Proc.devRef .tc r) = V (Proc.devRef .tc r) := fun r hr =>
  (keepDec2 _ r ((by decide +kernel : ∀ r ∈ argRefs, r ∉ wDec2) r hr)).trans (kept11 V r hr)
theorem kept13 : ∀ r ∈ argRefs, U13 V (Proc.devRef .tc r) = V (Proc.devRef .tc r) := fun r hr =>
  (keepUp3 _ r ((by decide +kernel : ∀ r ∈ argRefs, r ∉ wUp3) r hr)).trans (kept12 V r hr)
theorem kept14 : ∀ r ∈ argRefs, U14 V (Proc.devRef .tc r) = V (Proc.devRef .tc r) := fun r hr =>
  (keepDec3 _ r ((by decide +kernel : ∀ r ∈ argRefs, r ∉ wDec3) r hr)).trans (kept13 V r hr)
theorem kept15 : ∀ r ∈ argRefs, U15 V (Proc.devRef .tc r) = V (Proc.devRef .tc r) := fun r hr =>
  (keepOnset _ r ((by decide +kernel : ∀ r ∈ argRefs, r ∉ wOnset) r hr)).trans (kept14 V r hr)
theorem kept16 : ∀ r ∈ argRefs, U16 V (Proc.devRef .tc r) = V (Proc.devRef .tc r) := fun r hr =>
  (keepDur _ r ((by decide +kernel : ∀ r ∈ argRefs, r ∉ wDur) r hr)).trans (kept15 V r hr)

/-! ### The stages' values -/

theorem h1_eq : cnhw (U1 V (Proc.devRef .tc main_v81) : T Ideal S128x8x128x128) = (argsOf V).h1 := readEnc1 V

theorem h2_eq : cnhw (U2 V (Proc.devRef .tc main_v162) : T Ideal S256x8x64x64) = (argsOf V).h2 := by
  rw [readEnc2, h1_eq, kept1 V main_arg2 (by decide)]; rfl

theorem enc_eq : cnhw (U3 V (Proc.devRef .tc main_v207) : T Ideal S256x8x64x64) = (argsOf V).enc := by
  rw [readEnc3, h2_eq, kept2 V main_arg3 (by decide)]; rfl

theorem z_eq : (U4 V (Proc.devRef .tc main_v212) : T Ideal S32768x256) = rowsOf (argsOf V).z := by
  refine eq_rowsOf _ _ ?_
  rw [readQuant, enc_eq, kept3 V main_arg4 (by decide)]; rfl

theorem z5_eq : (U5 V (Proc.devRef .tc main_v212) : T Ideal S32768x256) = rowsOf (argsOf V).z := (keepDist _ _ (by decide +kernel)).trans (z_eq V)
theorem z6_eq : (U6 V (Proc.devRef .tc main_v212) : T Ideal S32768x256) = rowsOf (argsOf V).z := (keepArg _ _ (by decide +kernel)).trans (z5_eq V)
theorem z7_eq : (U7 V (Proc.devRef .tc main_v212) : T Ideal S32768x256) = rowsOf (argsOf V).z := (keepTake _ _ (by decide +kernel)).trans (z6_eq V)
theorem z8_eq : (U8 V (Proc.devRef .tc main_v212) : T Ideal S32768x256) = rowsOf (argsOf V).z := (keepCommit _ _ (by decide +kernel)).trans (z7_eq V)

theorem q_eq : (U7 V (Proc.devRef .tc main_v228) : T Ideal S32768x256) = rowsOf (argsOf V).q := by
  funext i
  rw [eq_ix2 i]
  refine (readTake (U6 V) (i 0) _ (i 1) (readArg (U5 V) (i 0))).trans ?_
  rw [kept6 V main_arg5 (by decide)]
  have hd : (fun k => (U5 V (Proc.devRef .tc main_v226) : T Ideal S32768x1024) (ix2 (i 0) k))
      = dist (fun x => rowsOf (argsOf V).z (ix2 (i 0) x)) (fun m x => (argsOf V).cb (ix2 m x)) := by
    funext k
    refine (readDist (U4 V) (i 0) k).trans ?_
    rw [z_eq, kept4 V main_arg5 (by decide)]; rfl
  rw [hd]
  rfl

theorem q8_eq : (U8 V (Proc.devRef .tc main_v228) : T Ideal S32768x256) = rowsOf (argsOf V).q := (keepCommit _ _ (by decide +kernel)).trans (q_eq V)

theorem commit16 : U16 V (Proc.devRef .tc main_v238) = U8 V (Proc.devRef .tc main_v238) :=
  (keepDur (U15 V) main_v238 (by decide +kernel)).trans <| (keepOnset (U14 V) main_v238 (by decide +kernel)).trans <|
  (keepDec3 (U13 V) main_v238 (by decide +kernel)).trans <| (keepUp3 (U12 V) main_v238 (by decide +kernel)).trans <|
  (keepDec2 (U11 V) main_v238 (by decide +kernel)).trans <| (keepUp2 (U10 V) main_v238 (by decide +kernel)).trans <|
  (keepDec1 (U9 V) main_v238 (by decide +kernel)).trans <| keepPost (U8 V) main_v238 (by decide +kernel)

theorem commit_eq : (U16 V (Proc.devRef .tc main_v238) : T Ideal S_) ix0
    = Ideal.div (argsOf V).err (Ideal.ofBits .f32 1258291200#32) + Ideal.ofBits .f32 1048576000#32 * Ideal.div (argsOf V).err (Ideal.ofBits .f32 1258291200#32) := by
  refine (congrFun (commit16 V) ix0).trans ?_
  refine (readCommit (U7 V)).trans ?_
  rw [q_eq, z7_eq]; rfl

theorem post_eq (hr : (argsOf V).Real) : cnhw (U9 V (Proc.devRef .tc main_v245) : T Ideal S256x8x64x64) = (argsOf V).post := by
  rw [readPost, z8_eq, q8_eq, rowIm_rowsOf, rowIm_rowsOf, kept8 V main_arg6 (by decide)]
  refine congrArg (fun X => conv1 X (argsOf V).wp) ?_
  funext b i j k
  exact (hr.z b i j k).add_sub (hr.q b i j k)

theorem e1_eq (hr : (argsOf V).Real) : cnhw (U10 V (Proc.devRef .tc main_v291) : T Ideal S256x8x64x64) = (argsOf V).e1 := by
  rw [readDec1, post_eq V hr, kept9 V main_arg7 (by decide)]; rfl

theorem e2_eq (hr : (argsOf V).Real) : cnhw (U12 V (Proc.devRef .tc main_v341) : T Ideal S128x8x128x128) = (argsOf V).e2 := by
  rw [readDec2, readUp2, e1_eq V hr, kept11 V main_arg8 (by decide)]; rfl

theorem e3_eq (hr : (argsOf V).Real) : cnhw (U14 V (Proc.devRef .tc main_v391) : T Ideal S64x8x256x256) = (argsOf V).e3 := by
  rw [readDec3, readUp3, e2_eq V hr, kept13 V main_arg9 (by decide)]; rfl

theorem onset_eq (hr : (argsOf V).Real) : nchw (U16 V (Proc.devRef .tc main_v437) : T Ideal S8x2x256x256) = (argsOf V).onset := by
  refine (congrArg (fun A : T Ideal S8x2x256x256 => nchw A) (keepDur (U15 V) main_v437 (by decide +kernel))).trans ?_
  rw [readOnset, e3_eq V hr, kept14 V main_arg10 (by decide)]; rfl

theorem duration_eq (hr : (argsOf V).Real) : nchw (U16 V (Proc.devRef .tc main_v483) : T Ideal S8x2x256x256) = (argsOf V).duration := by
  have h : cnhw (U15 V (Proc.devRef .tc main_v391) : T Ideal S64x8x256x256) = (argsOf V).e3 :=
    (congrArg (fun A : T Ideal S64x8x256x256 => cnhw A) (keepOnset (U14 V) main_v391 (by decide +kernel))).trans (e3_eq V hr)
  rw [readDur, h, kept15 V main_arg11 (by decide)]; rfl

end Cert.Proof.Ref

end
-- ==== Proof.RefEnd.lean ====
module

public import proofs.«01_k».proof.Proof.RefRun
public import proofs.«01_k».proof.Proof.RefChain
public import Idealize.ShloMosaic.Lib.Quiescent

/-! The reference's run, read at its results and its arguments. -/

@[expose] public section

set_option maxRecDepth 16384

noncomputable section

namespace Cert.Proof.Ref

open Idealize.ShloMosaic Idealize.ShloMosaic.TcCoe Idealize.SL.Sem Idealize.ShloMosaic.StableHlo
open Cert.ReferenceIdeal

variable (m : (ℓ : Loc nD τ sig) → Buf (Elt Ideal) ℓ) (ρ : Dev nD → PrngReg)

/-- An argument array at the end is as at the launch. -/
theorem end_arg (d : Dev nD) (a : Ref sig .tc) (h : a ∈ argRefs) :
    after ops (launchContents m d) (Proc.devRef .tc a) = m ((d.tc : Thread nD τ).loc a) :=
  (congrFun (after_ops (launchContents m d)) _).trans (kept16 (launchContents m d) a h)

/-- The reference ends with its results at the last stage's contents and its arguments unchanged. -/
theorem run_results : θ_run (defs (F := Ideal)) (onTc (τ := τ) (main (F := Ideal))) ⟨m, fun _ => 0, ρ⟩ (fun r => ∀ c : Dev nD,
      r.2.mem ((c.tc : Thread nD τ).loc main_v437) = U16 (launchContents m c) (Proc.devRef .tc main_v437)
      ∧ r.2.mem ((c.tc : Thread nD τ).loc main_v483) = U16 (launchContents m c) (Proc.devRef .tc main_v483)
      ∧ r.2.mem ((c.tc : Thread nD τ).loc main_v238) = U16 (launchContents m c) (Proc.devRef .tc main_v238)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run _ _ _).mono (fun _ h c =>
    ⟨(h c main_v437).trans (congrFun (after_ops (launchContents m c)) _), (h c main_v483).trans (congrFun (after_ops (launchContents m c)) _),
      (h c main_v238).trans (congrFun (after_ops (launchContents m c)) _),
      (h c main_arg0).trans (end_arg m c main_arg0 (by decide)),
      (h c main_arg1).trans (end_arg m c main_arg1 (by decide)),
      (h c main_arg2).trans (end_arg m c main_arg2 (by decide)),
      (h c main_arg3).trans (end_arg m c main_arg3 (by decide)),
      (h c main_arg4).trans (end_arg m c main_arg4 (by decide)),
      (h c main_arg5).trans (end_arg m c main_arg5 (by decide)),
      (h c main_arg6).trans (end_arg m c main_arg6 (by decide)),
      (h c main_arg7).trans (end_arg m c main_arg7 (by decide)),
      (h c main_arg8).trans (end_arg m c main_arg8 (by decide)),
      (h c main_arg9).trans (end_arg m c main_arg9 (by decide)),
      (h c main_arg10).trans (end_arg m c main_arg10 (by decide)),
      (h c main_arg11).trans (end_arg m c main_arg11 (by decide))⟩) (run m ρ)

/-- The reference ends with its arguments unchanged and, having no semaphores, with all counters at zero. -/
theorem run_frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run _ _ _).mono (fun r h => ⟨fun c => (h c).2.2.2, sem_eq_zero_of_no_sems (by decide) r.2⟩) (run_results m ρ)

end Cert.Proof.Ref

end
-- ==== Proof.KernelRun.lean ====
module

public import proofs.«01_k».proof.Proof.Gen.KernelIdeal.Frame

@[expose] public section

-- membership in a rectangle recurses once per coordinate of the long axes
set_option maxRecDepth 16384

noncomputable section

namespace Cert.Proof.Kern

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's run: every array ends as the last of the boundary contents says, the arrays of the results among them.
    The launch is set up as for the argument arrays alone. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W37 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W37 m ρ c b)
    (hfin := fun c s' => by
      iintro ⟨⟨Hh, -⟩, HSI⟩
      unfold StableHlo.held
      imodintro
      iapply (pointsTo_read_all (Pipeline.ucRefs τ sig) (fun b => (((c : Thread nD τ)).1, b)) (W37 m ρ c) s')
      isplitl [Hh] <;> iassumption)
    (hQ := fun s h hz => ⟨h, funext fun g => hz g (.inr (no_unscoped g.2))⟩)

end Cert.Proof.Kern

end
-- ==== Proof.KernelEnd.lean ====
module

public import proofs.«01_k».proof.Proof.KernelRun
public import proofs.«01_k».proof.Proof.Spec

/-! The kernel's run, read at its results and its arguments. -/

@[expose] public section

set_option maxRecDepth 16384

noncomputable section

namespace Cert.Proof.Kern

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The kernel ends with its results at the last contents of their arrays and its arguments unchanged. -/
theorem run_results : θ_run (defs (F := Ideal)) (onTc (τ := τ) (main (F := Ideal))) ⟨m, fun _ => 0, ρ⟩ (fun r => ∀ c : Dev nD,
      r.2.mem ((c.tc : Thread nD τ).loc main_v230) = W37 m ρ c (Proc.devRef .tc main_v230)
      ∧ r.2.mem ((c.tc : Thread nD τ).loc main_v232) = W37 m ρ c (Proc.devRef .tc main_v232)
      ∧ r.2.mem ((c.tc : Thread nD τ).loc main_v39) = W37 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine (θ_run _ _ _).mono ?_ (run_all m ρ)
  intro r h c
  exact ⟨h.1 c _ (mem_uc main_v230 (by decide)), h.1 c _ (mem_uc main_v232 (by decide)), h.1 c _ (mem_uc main_v39 (by decide)),
    (h.1 c _ (mem_uc main_arg0 (by decide))).trans (W37_main_arg0 m ρ c),
    (h.1 c _ (mem_uc main_arg1 (by decide))).trans (W37_main_arg1 m ρ c),
    (h.1 c _ (mem_uc main_arg2 (by decide))).trans (W37_main_arg2 m ρ c),
    (h.1 c _ (mem_uc main_arg3 (by decide))).trans (W37_main_arg3 m ρ c),
    (h.1 c _ (mem_uc main_arg4 (by decide))).trans (W37_main_arg4 m ρ c),
    (h.1 c _ (mem_uc main_arg5 (by decide))).trans (W37_main_arg5 m ρ c),
    (h.1 c _ (mem_uc main_arg6 (by decide))).trans (W37_main_arg6 m ρ c),
    (h.1 c _ (mem_uc main_arg7 (by decide))).trans (W37_main_arg7 m ρ c),
    (h.1 c _ (mem_uc main_arg8 (by decide))).trans (W37_main_arg8 m ρ c),
    (h.1 c _ (mem_uc main_arg9 (by decide))).trans (W37_main_arg9 m ρ c),
    (h.1 c _ (mem_uc main_arg10 (by decide))).trans (W37_main_arg10 m ρ c),
    (h.1 c _ (mem_uc main_arg11 (by decide))).trans (W37_main_arg11 m ρ c)⟩

end Cert.Proof.Kern

end
-- ==== Proof.Reg0.lean ====
module

public import proofs.«01_k».proof.Proof.KTaps
public import proofs.«01_k».proof.Proof.Gen.KernelIdeal.Frame
public import Idealize.ShloMosaic.Lib.Pipeline.ValueKit

@[expose] public section

set_option maxRecDepth 16384

noncomputable section

namespace Cert.Proof.Kern

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx0 : ∀ t : Fin cfg0.N, win0_0.index t = ![(grid0.coords t 0).val, (grid0.coords t 1).val, 0, 0] ∧ win0_1.index t = ![(grid0.coords t 0).val, (grid0.coords t 1).val, 0, 0] ∧ win0_2.index t = ![0, 0, 0, 0] ∧ win0_3.index t = ![(grid0.coords t 0).val, (grid0.coords t 1).val, 0, 0] :=
  (by decide +kernel : ∀ t : Fin grid0.N, _)

/-- The convolution's array: two by two taps over the two row views, then the rectifier. -/
theorem final0 (c : Dev nD) : (dat0 V c).arrAt 3 cfg0.N = fun i : (S8x128x128x128).Idx => max (conv2K rfl (V c main_v9) (V c main_v10) (V c main_v8) (i 0) (i 1) (i 2) (i 3)) 0 := by
  refine (dat0 V c).arrAt_eq_of_covers 3 _ (by decide +kernel) fun t _ y => ?_
  blk_simp
  rw [after0_3]; frame_out
  pointwise [k0_pay1, k0_pay2, conv2K, tapK, sh]
  blk_point [iblk0, idx0 t]

end Cert.Proof.Kern

end
-- ==== Proof.Reg1.lean ====
module

public import proofs.«01_k».proof.Proof.KTaps
public import proofs.«01_k».proof.Proof.Gen.KernelIdeal.Frame
public import Idealize.ShloMosaic.Lib.Pipeline.ValueKit

@[expose] public section

set_option maxRecDepth 16384

noncomputable section

namespace Cert.Proof.Kern

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx1 : ∀ t : Fin cfg1.N, win1_0.index t = ![(grid1.coords t 0).val, (grid1.coords t 1).val, 0, 0] ∧ win1_1.index t = ![(grid1.coords t 0).val, (grid1.coords t 1).val, 0, 0] ∧ win1_2.index t = ![0, 0, 0, 0] ∧ win1_3.index t = ![(grid1.coords t 0).val, (grid1.coords t 1).val, 0, 0] :=
  (by decide +kernel : ∀ t : Fin grid1.N, _)

set_option maxHeartbeats 1600000 in
/-- The convolution's array: two by two taps over the two row views, then the rectifier. -/
theorem final1 (c : Dev nD) : (dat1 V c).arrAt 3 cfg1.N = fun i : (S8x64x64x256).Idx => max (conv2K rfl (V c main_v20) (V c main_v21) (V c main_v19) (i 0) (i 1) (i 2) (i 3)) 0 := by
  refine (dat1 V c).arrAt_eq_of_covers 3 _ (by decide +kernel) fun t _ y => ?_
  blk_simp
  rw [after1_3]; frame_out
  pointwise [k1_pay1, k1_pay2, conv2K, tapK, sh]
  blk_point [iblk1, idx1 t]

end Cert.Proof.Kern

end
-- ==== Proof.Reg2.lean ====
module

public import proofs.«01_k».proof.Proof.KTaps
public import proofs.«01_k».proof.Proof.Gen.KernelIdeal.Frame
public import Idealize.ShloMosaic.Lib.Pipeline.ValueKit

@[expose] public section

set_option maxRecDepth 16384

noncomputable section

namespace Cert.Proof.Kern

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx2 : ∀ t : Fin cfg2.N, win2_0.index t = ![(grid2.coords t 0).val, (grid2.coords t 1).val, 0, 0] ∧ win2_1.index t = ![(grid2.coords t 0).val, (grid2.coords t 1).val, 0, 0] ∧ win2_2.index t = ![(grid2.coords t 0).val, (grid2.coords t 1).val, 0, 0] ∧ win2_3.index t = ![0, 0, 0, 0] ∧ win2_4.index t = ![(grid2.coords t 0).val, (grid2.coords t 1).val, 0, 0] :=
  (by decide +kernel : ∀ t : Fin grid2.N, _)

/-- The convolution's array: three by three taps over the three row views. -/
theorem final2 (c : Dev nD) : (dat2 V c).arrAt 4 cfg2.N = fun i : (S8x64x64x256).Idx => conv3K rfl (V c main_v25) (V c main_v26) (V c main_v27) (V c main_v23) (i 0) (i 1) (i 2) (i 3) := by
  refine (dat2 V c).arrAt_eq_of_covers 4 _ (by decide +kernel) fun t _ y => ?_
  blk_simp
  rw [after2_4]; frame_out
  pointwise [k2_pay1, k2_pay2, k2_pay3, k2_pay4, k2_pay5, k2_pay6, conv3K, tapK, sh]
  blk_point [iblk2, idx2 t]

end Cert.Proof.Kern

end
-- ==== Proof.Reg3.lean ====
module

public import proofs.«01_k».proof.Proof.KTaps
public import proofs.«01_k».proof.Proof.Gen.KernelIdeal.Frame
public import Idealize.ShloMosaic.Lib.Pipeline.ValueKit

@[expose] public section

set_option maxRecDepth 16384

noncomputable section

namespace Cert.Proof.Kern

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx3 : ∀ t : Fin cfg3.N, win3_0.index t = ![(grid3.coords t 0).val, (grid3.coords t 1).val, 0, 0] ∧ win3_1.index t = ![0, 0, 0, 0] ∧ win3_2.index t = ![(grid3.coords t 0).val, (grid3.coords t 1).val, 0, 0] :=
  (by decide +kernel : ∀ t : Fin grid3.N, _)

/-- The 1x1 convolution's array. -/
theorem final3 (c : Dev nD) : (dat3 V c).arrAt 2 cfg3.N = fun i : (S8x64x64x256).Idx => tapK (V c main_v28) (V c main_v31) 0 0 (i 0) (i 1) (i 2) (i 3) := by
  refine (dat3 V c).arrAt_eq_of_covers 2 _ (by decide +kernel) fun t _ y => ?_
  blk_simp
  rw [after3_2]; frame_out
  pointwise [k3_pay1, tapK]
  blk_point [iblk3, idx3 t]

end Cert.Proof.Kern

end
-- ==== Proof.KConv.lean ====
module

public import proofs.«01_k».proof.Proof.KTaps
public import proofs.«01_k».proof.Proof.Finite

/-! The kernel's tap convolutions over views of padded arrays are the convolutions of the specification. The names say nothing of
any program. -/

@[expose] public section

noncomputable section

namespace Cert.Proof

open Idealize.ShloMosaic

theorem sum_mul_congr' {n : ℕ} {f g f' g' : Fin n → EReal} (e : ∀ k, f k = f' k) (e' : ∀ k, g k = g' k) : ∑ k, f k * g k = ∑ k, g' k * f' k :=
  Finset.sum_congr rfl fun k _ => by rw [e k, e' k, mul_comm]

/-! ### One tap -/

/-- The pixelwise map. -/
theorem tapK_eq {H W C O : ℕ} (X : Im H W C) (w0 : A4 O C 1 1) (X0 : A4 8 H W C) (w : A4 1 1 C O)
    (h0 : nhwc X0 = X) (hw : ∀ k o, w (ix4 0 0 k o) = w0 (ix4 o k 0 0)) (b : Fin 8) (i : Fin H) (j : Fin W) (o : Fin O) :
    tapK X0 w 0 0 b i j o = conv1 X w0 b i j o := by
  subst h0
  exact sum_mul_congr' (fun k => rfl) (fun k => hw k o)

/-! ### Three by three -/

theorem conv3K_eq {H W W' C O : ℕ} (hW : W' = W + 2) (X : Im H W C) (X0 X1 X2 : A4 8 H W' C) (w : A4 3 3 C O)
    (h0 : ∀ b (h : Fin H) (u : Fin W') k, X0 (ix4 b h u k) = padf X b h.val u.val k)
    (h1 : ∀ b (h : Fin H) (u : Fin W') k, X1 (ix4 b h u k) = padf X b (h.val + 1) u.val k)
    (h2 : ∀ b (h : Fin H) (u : Fin W') k, X2 (ix4 b h u k) = padf X b (h.val + 2) u.val k)
    (o o' : ℕ) (ho : o < O) {O' : ℕ} (w' : A4 O' C 3 3) (ho' : o' < O')
    (hw : ∀ r s k, w (ix4 r s k ⟨o, ho⟩) = w' (ix4 ⟨o', ho'⟩ k r s)) (b : Fin 8) (i : Fin H) (j : Fin W) :
    conv3K hW X0 X1 X2 w b i j ⟨o, ho⟩ = conv3 X w' b i j ⟨o', ho'⟩ := by
  refine add9 ?_ ?_ ?_ ?_ ?_ ?_ ?_ ?_ ?_
  · exact sum_mul_congr' (fun k => h0 b i _ k) (fun k => hw _ _ _)
  · exact sum_mul_congr' (fun k => h0 b i _ k) (fun k => hw _ _ _)
  · exact sum_mul_congr' (fun k => h0 b i _ k) (fun k => hw _ _ _)
  · exact sum_mul_congr' (fun k => h1 b i _ k) (fun k => hw _ _ _)
  · exact sum_mul_congr' (fun k => h1 b i _ k) (fun k => hw _ _ _)
  · exact sum_mul_congr' (fun k => h1 b i _ k) (fun k => hw _ _ _)
  · exact sum_mul_congr' (fun k => h2 b i _ k) (fun k => hw _ _ _)
  · exact sum_mul_congr' (fun k => h2 b i _ k) (fun k => hw _ _ _)
  · exact sum_mul_congr' (fun k => h2 b i _ k) (fun k => hw _ _ _)

/-! ### Four by four with stride two, as two by two over blocks of two by two pixels -/

/-- Channel `c` of pixel `t` of a block. -/
def ch {K C : ℕ} (hK : K = 4 * C) (t : Fin 4) (c : Fin C) : Fin K :=
  ⟨c.val + C * t.val, by
    have h : C * t.val ≤ C * 3 := Nat.mul_le_mul_left C (by omega)
    omega⟩

theorem sum_ch {K C : ℕ} (hK : K = 4 * C) (f : Fin K → EReal) :
    ∑ k, f k = ∑ c, f (ch hK 0 c) + ∑ c, f (ch hK 1 c) + ∑ c, f (ch hK 2 c) + ∑ c, f (ch hK 3 c) := by
  subst hK
  rw [← Equiv.sum_comp finProdFinEquiv f, Fintype.sum_prod_type, Fin.sum_univ_four]
  rfl

/-- Tap `t` of a block tap. -/
def odd4 (r : Fin 2) (t : Fin 2) : Fin 4 := ⟨2 * r.val + t.val, by omega⟩

theorem add16 (t : Fin 4 → Fin 4 → EReal) :
    (t 0 0 + t 0 1 + t 1 0 + t 1 1) + (t 0 2 + t 0 3 + t 1 2 + t 1 3) + (t 2 0 + t 2 1 + t 3 0 + t 3 1) + (t 2 2 + t 2 3 + t 3 2 + t 3 3)
      = t 0 0 + t 0 1 + t 0 2 + t 0 3 + t 1 0 + t 1 1 + t 1 2 + t 1 3 + t 2 0 + t 2 1 + t 2 2 + t 2 3 + t 3 0 + t 3 1 + t 3 2 + t 3 3 := by
  abel

theorem conv2K_eq {H W H2 W2 W' C K O : ℕ} (hK : K = 4 * C) (hW : W' = W + 1) (X : Im H2 W2 C) (w0 : A4 O C 4 4) (X0 X1 : A4 8 H W' K)
    (w : A4 2 2 K O)
    (h0 : ∀ b (h : Fin H) (u : Fin W') (t : Fin 4) c, X0 (ix4 b h u (ch hK t c)) = padf X b (2 * h.val + t.val / 2) (2 * u.val + t.val % 2) c)
    (h1 : ∀ b (h : Fin H) (u : Fin W') (t : Fin 4) c, X1 (ix4 b h u (ch hK t c)) = padf X b (2 * h.val + 2 + t.val / 2) (2 * u.val + t.val % 2) c)
    (hw : ∀ (r s : Fin 2) (t : Fin 4) c o, w (ix4 r s (ch hK t c) o)
      = w0 (ix4 o c (⟨2 * r.val + t.val / 2, by omega⟩ : Fin 4) (⟨2 * s.val + t.val % 2, by omega⟩ : Fin 4)))
    (b : Fin 8) (i : Fin H) (j : Fin W) (o : Fin O) : conv2K hW X0 X1 w b i j o = conv4 X w0 b i j o := by
  refine Eq.trans ?_ (add16 fun r s => tap X w0 r s b (2 * i.val + r.val) (2 * j.val + s.val) o)
  refine add4 ?_ ?_ ?_ ?_
  all_goals
    refine (sum_ch hK _).trans (add4 ?_ ?_ ?_ ?_)
  all_goals first
    | exact sum_mul_congr' (fun c => h0 b i _ _ c) (fun c => hw _ _ _ c o)
    | exact sum_mul_congr' (fun c => h1 b i _ _ c) (fun c => hw _ _ _ c o)

/-! ### The upsampled convolution by phases -/

/-- The three taps along one axis, added up for phase `p` into its two. -/
def fold3 (p r : Fin 2) (f : Fin 3 → EReal) : EReal :=
  if p = 0 then if r = 0 then f 0 else f 1 + f 2 else if r = 0 then f 0 + f 1 else f 2

/-- Which of a phase's two pixels tap `a` reads. -/
def src (p : Fin 2) (a : Fin 3) : Fin 2 := ⟨(p.val + a.val + 1) / 2 - p.val, by omega⟩

theorem padf_up {H W H' W' C : ℕ} (hH : H' = 2 * H) (hW : W' = 2 * W) (X : Im H W C) (b : Fin 8) (u v : ℕ) (k : Fin C) :
    padf (up hH hW X) b u v k = padf X b ((u + 1) / 2) ((v + 1) / 2) k := by
  subst hH hW
  unfold padf up
  by_cases h : (1 ≤ u ∧ u - 1 < 2 * H) ∧ 1 ≤ v ∧ v - 1 < 2 * W
  · have h' : (1 ≤ (u + 1) / 2 ∧ (u + 1) / 2 - 1 < H) ∧ 1 ≤ (v + 1) / 2 ∧ (v + 1) / 2 - 1 < W := by omega
    rw [dif_pos h, dif_pos h']
    exact congrArg₂ (fun p q => X b p q k) (Fin.ext (show (u - 1) / 2 = (u + 1) / 2 - 1 by omega)) (Fin.ext (show (v - 1) / 2 = (v + 1) / 2 - 1 by omega))
  · have h' : ¬((1 ≤ (u + 1) / 2 ∧ (u + 1) / 2 - 1 < H) ∧ 1 ≤ (v + 1) / 2 ∧ (v + 1) / 2 - 1 < W) := by omega
    rw [dif_neg h, dif_neg h']

theorem coe_sum {n : ℕ} (f : Fin n → ℝ) : (∑ k, (f k : EReal)) = ((∑ k, f k : ℝ) : EReal) := by
  induction n with
  | zero => simp
  | succ n ih => rw [Fin.sum_univ_succ, Fin.sum_univ_succ, ih, EReal.coe_add]

/-- Nine taps over four pixels, added up by pixel: where everything is real. -/
theorem phase_eq {C : ℕ} (w : Fin 3 → Fin 3 → Fin C → EReal) (y : Fin 2 → Fin 2 → Fin C → EReal) (hw : ∀ a c k, IsR (w a c k))
    (hy : ∀ r s k, IsR (y r s k)) (p q : Fin 2) :
    (∑ k, y 0 0 k * fold3 q 0 (fun c => fold3 p 0 fun a => w a c k)) + (∑ k, y 0 1 k * fold3 q 1 (fun c => fold3 p 0 fun a => w a c k))
      + (∑ k, y 1 0 k * fold3 q 0 (fun c => fold3 p 1 fun a => w a c k)) + (∑ k, y 1 1 k * fold3 q 1 (fun c => fold3 p 1 fun a => w a c k))
    = (∑ k, w 0 0 k * y (src p 0) (src q 0) k) + (∑ k, w 0 1 k * y (src p 0) (src q 1) k) + (∑ k, w 0 2 k * y (src p 0) (src q 2) k)
      + (∑ k, w 1 0 k * y (src p 1) (src q 0) k) + (∑ k, w 1 1 k * y (src p 1) (src q 1) k) + (∑ k, w 1 2 k * y (src p 1) (src q 2) k)
      + (∑ k, w 2 0 k * y (src p 2) (src q 0) k) + (∑ k, w 2 1 k * y (src p 2) (src q 1) k) + (∑ k, w 2 2 k * y (src p 2) (src q 2) k) := by
  choose wr hwr using hw
  choose yr hyr using hy
  have ew : w = fun a c k => (wr a c k : EReal) := by funext a c k; exact hwr a c k
  have ey : y = fun r s k => (yr r s k : EReal) := by funext r s k; exact hyr r s k
  subst ew ey
  fin_cases p <;> fin_cases q
  all_goals
    simp [fold3, src, ← EReal.coe_add, ← EReal.coe_mul, coe_sum, -EReal.coe_add, -EReal.coe_mul]
    simp only [← EReal.coe_add, ← EReal.coe_mul, coe_sum]
    refine congrArg _ ?_
    simp only [mul_comm (yr _ _ _), add_mul, Finset.sum_add_distrib]
    ring

theorem upK_eq {H W H' W' W2 C O : ℕ} (hH' : H' = 2 * H) (hW' : W' = 2 * W) (hW : W2 = W + 2) (X : Im H W C) (hX : RIm X) (w0 : A4 O C 3 3) (hw0 : RA w0)
    (X0 X1 X2 : A4 8 H W2 C) (w : FVec Ideal ⟨6, ![2, 2, 2, 2, C, O]⟩ .f32)
    (h0 : ∀ b (h : Fin H) (u : Fin W2) k, X0 (ix4 b h u k) = padf X b h.val u.val k)
    (h1 : ∀ b (h : Fin H) (u : Fin W2) k, X1 (ix4 b h u k) = padf X b (h.val + 1) u.val k)
    (h2 : ∀ b (h : Fin H) (u : Fin W2) k, X2 (ix4 b h u k) = padf X b (h.val + 2) u.val k)
    (hw : ∀ p q r s k o, w (ix6 p q r s k o) = fold3 q s fun c => fold3 p r fun a => w0 (ix4 o k a c))
    (p q : Fin 2) (b : Fin 8) (i : Fin H) (j : Fin W) (o : Fin O) (i' : Fin H') (j' : Fin W') (hi : i'.val = 2 * i.val + p.val) (hj : j'.val = 2 * j.val + q.val) :
    upK hW (if p = 0 then X0 else X1) (if p = 0 then X1 else X2) w p q b i j o
      = relu (conv3 (up hH' hW' X) w0) b i' j' o := by
  refine congrArg (max · 0) ?_
  refine Eq.trans ?_ ((phase_eq (fun a c k => w0 (ix4 o k a c)) (fun r s k => padf X b (i.val + p.val + r.val) (j.val + q.val + s.val) k)
    (fun a c k => hw0 _) (fun r s k => IsR.padf hX _ _ _ _) p q).trans ?_)
  · have hY0 : ∀ (u : Fin W2) k, (if p = 0 then X0 else X1) (ix4 b i u k) = padf X b (i.val + p.val) u.val k := by
      intro u k
      fin_cases p
      · exact h0 b i u k
      · exact h1 b i u k
    have hY1 : ∀ (u : Fin W2) k, (if p = 0 then X1 else X2) (ix4 b i u k) = padf X b (i.val + p.val + 1) u.val k := by
      intro u k
      fin_cases p
      · exact h1 b i u k
      · exact h2 b i u k
    refine add4 ?_ ?_ ?_ ?_
    · exact Finset.sum_congr rfl fun k _ => congrArg₂ (· * ·) (hY0 _ k) (hw p q 0 0 k o)
    · exact Finset.sum_congr rfl fun k _ => congrArg₂ (· * ·) (hY0 _ k) (hw p q 0 1 k o)
    · exact Finset.sum_congr rfl fun k _ => congrArg₂ (· * ·) (hY1 _ k) (hw p q 1 0 k o)
    · exact Finset.sum_congr rfl fun k _ => congrArg₂ (· * ·) (hY1 _ k) (hw p q 1 1 k o)
  · have hs : ∀ (p : Fin 2) (a : Fin 3) (i i' : ℕ), i' = 2 * i + p.val → (i' + a.val + 1) / 2 = i + p.val + (src p a).val := by
      intro p a i i' h
      simp only [src]
      omega
    have ht : ∀ a c : Fin 3, (∑ k, w0 (ix4 o k a c) * padf X b (i.val + p.val + (src p a).val) (j.val + q.val + (src q c).val) k)
        = tap (up hH' hW' X) w0 a c b (i'.val + a.val) (j'.val + c.val) o := fun a c =>
      sum_mul_congr fun k => by rw [padf_up, hs p a i.val i'.val hi, hs q c j.val j'.val hj]
    exact add9 (ht 0 0) (ht 0 1) (ht 0 2) (ht 1 0) (ht 1 1) (ht 1 2) (ht 2 0) (ht 2 1) (ht 2 2)

end Cert.Proof

end
-- ==== Proof.KHostA.lean ====
module

public import proofs.«01_k».proof.Proof.KConv
public import proofs.«01_k».proof.Proof.RefRead
public import proofs.«01_k».proof.Proof.Gen.KernelIdeal.Frame
public import Idealize.ShloMosaic.Lib.StableHlo.ReadAt
public import Idealize.ShloMosaic.PureOps.Ideal.Laws

/-! What the operations between the kernel calls leave in the encoder's buffers. -/

@[expose] public section

set_option maxRecDepth 16384

noncomputable section

namespace Cert.Proof.Kern

open Idealize.ShloMosaic Idealize.ShloMosaic.TcCoe Idealize.SL.Sem Idealize.ShloMosaic.StableHlo
open Cert.KernelIdeal Cert.KernelIdeal.Gen

variable (V : Valuation τ sig (Elt Ideal))

/-- The operations before the first call. -/
abbrev H0 := after hostOps0_2 (after hostOps0_1 (after hostOps0 V))

theorem read_v9 (b : Fin 8) (h : Fin 128) (u : Fin 129) (t : Fin 4) (c : Fin 2) :
    (H0 V (Proc.devRef .tc main_v9) : A4 8 128 129 8) (ix4 b h u (ch rfl t c))
      = padf (nchw (V (Proc.devRef .tc main_arg0) : A4 8 2 256 256)) b (2 * h.val + t.val / 2) (2 * u.val + t.val % 2) c := by
  show (after hostOps0_2 (after hostOps0_1 (after hostOps0 V)) (Proc.devRef .tc main_v9) : FVec Ideal S8x128x129x8 .f32) (ix4 b h u (ch rfl t c)) = _
  after_reads_at
  simp only [padf, nchw, Ref.sitofp_zero, ch]
  repeat' split
  all_goals first
    | rfl
    | (exfalso; omega)
    | (refine congrArg _ ?_; refine congr (congr (congrArg (ix4 b) ?_) ?_) ?_ <;> exact Fin.ext (by first | rfl | omega | (simp only []; omega)))

theorem read_v10 (b : Fin 8) (h : Fin 128) (u : Fin 129) (t : Fin 4) (c : Fin 2) :
    (H0 V (Proc.devRef .tc main_v10) : A4 8 128 129 8) (ix4 b h u (ch rfl t c))
      = padf (nchw (V (Proc.devRef .tc main_arg0) : A4 8 2 256 256)) b (2 * h.val + 2 + t.val / 2) (2 * u.val + t.val % 2) c := by
  show (after hostOps0_2 (after hostOps0_1 (after hostOps0 V)) (Proc.devRef .tc main_v10) : FVec Ideal S8x128x129x8 .f32) (ix4 b h u (ch rfl t c)) = _
  after_reads_at
  simp only [padf, nchw, Ref.sitofp_zero, ch]
  repeat' split
  all_goals first
    | rfl
    | (exfalso; omega)
    | (refine congrArg _ ?_; refine congr (congr (congrArg (ix4 b) ?_) ?_) ?_ <;> exact Fin.ext (by first | rfl | omega | (simp only []; omega)))

theorem read_v8 (r s : Fin 2) (t : Fin 4) (c : Fin 2) (o : Fin 128) :
    (H0 V (Proc.devRef .tc main_v8) : A4 2 2 8 128) (ix4 r s (ch rfl t c) o)
      = (V (Proc.devRef .tc main_arg1) : A4 128 2 4 4) (ix4 o c (⟨2 * r.val + t.val / 2, by omega⟩ : Fin 4) (⟨2 * s.val + t.val % 2, by omega⟩ : Fin 4)) := by
  show (after hostOps0_2 (after hostOps0_1 (after hostOps0 V)) (Proc.devRef .tc main_v8) : FVec Ideal S2x2x8x128 .f32) (ix4 r s (ch rfl t c) o) = _
  after_reads_at
  simp only [ch]
  refine congrArg _ ?_; refine congr (congr (congrArg (ix4 o) ?_) ?_) ?_ <;> exact Fin.ext (by first | rfl | omega | (simp only []; omega))

/-- The operations before the second call. -/
abbrev H1 := after hostOps1_2 (after hostOps1_1 (after hostOps1 V))

theorem read_v20 (b : Fin 8) (h : Fin 64) (u : Fin 65) (t : Fin 4) (c : Fin 128) :
    (H1 V (Proc.devRef .tc main_v20) : A4 8 64 65 512) (ix4 b h u (ch rfl t c))
      = padf (nhwc (V (Proc.devRef .tc main_v11) : A4 8 128 128 128)) b (2 * h.val + t.val / 2) (2 * u.val + t.val % 2) c := by
  show (after hostOps1_2 (after hostOps1_1 (after hostOps1 V)) (Proc.devRef .tc main_v20) : FVec Ideal S8x64x65x512 .f32) (ix4 b h u (ch rfl t c)) = _
  after_reads_at
  simp only [padf, nhwc, Ref.sitofp_zero, ch]
  repeat' split
  all_goals first
    | rfl
    | (exfalso; omega)
    | (refine congrArg _ ?_; refine congr (congr (congrArg (ix4 b) ?_) ?_) ?_ <;> exact Fin.ext (by first | rfl | omega | (simp only []; omega)))

theorem read_v21 (b : Fin 8) (h : Fin 64) (u : Fin 65) (t : Fin 4) (c : Fin 128) :
    (H1 V (Proc.devRef .tc main_v21) : A4 8 64 65 512) (ix4 b h u (ch rfl t c))
      = padf (nhwc (V (Proc.devRef .tc main_v11) : A4 8 128 128 128)) b (2 * h.val + 2 + t.val / 2) (2 * u.val + t.val % 2) c := by
  show (after hostOps1_2 (after hostOps1_1 (after hostOps1 V)) (Proc.devRef .tc main_v21) : FVec Ideal S8x64x65x512 .f32) (ix4 b h u (ch rfl t c)) = _
  after_reads_at
  simp only [padf, nhwc, Ref.sitofp_zero, ch]
  repeat' split
  all_goals first
    | rfl
    | (exfalso; omega)
    | (refine congrArg _ ?_; refine congr (congr (congrArg (ix4 b) ?_) ?_) ?_ <;> exact Fin.ext (by first | rfl | omega | (simp only []; omega)))

theorem read_v19 (r s : Fin 2) (t : Fin 4) (c : Fin 128) (o : Fin 256) :
    (H1 V (Proc.devRef .tc main_v19) : A4 2 2 512 256) (ix4 r s (ch rfl t c) o)
      = (V (Proc.devRef .tc main_arg2) : A4 256 128 4 4) (ix4 o c (⟨2 * r.val + t.val / 2, by omega⟩ : Fin 4) (⟨2 * s.val + t.val % 2, by omega⟩ : Fin 4)) := by
  show (after hostOps1_2 (after hostOps1_1 (after hostOps1 V)) (Proc.devRef .tc main_v19) : FVec Ideal S2x2x512x256 .f32) (ix4 r s (ch rfl t c) o) = _
  after_reads_at
  simp only [ch]
  refine congrArg _ ?_; refine congr (congr (congrArg (ix4 o) ?_) ?_) ?_ <;> exact Fin.ext (by first | rfl | omega | (simp only []; omega))

end Cert.Proof.Kern

end
-- ==== Proof.KHostB.lean ====
module

public import proofs.«01_k».proof.Proof.KConv
public import proofs.«01_k».proof.Proof.RefRead
public import proofs.«01_k».proof.Proof.Gen.KernelIdeal.Frame
public import Idealize.ShloMosaic.Lib.StableHlo.ReadAt
public import Idealize.ShloMosaic.PureOps.Ideal.Laws

/-! What the operations between the kernel calls leave in the buffers around the quantizer. -/

@[expose] public section

set_option maxRecDepth 16384

noncomputable section

namespace Cert.Proof.Kern

open Idealize.ShloMosaic Idealize.ShloMosaic.TcCoe Idealize.SL.Sem Idealize.ShloMosaic.StableHlo
open Cert.KernelIdeal Cert.KernelIdeal.Gen

variable (V : Valuation τ sig (Elt Ideal))

/-- The operations before the third call. -/
abbrev H2 := after hostOps2_2 (after hostOps2_1 (after hostOps2 V))

theorem read_v25 (b : Fin 8) (h : Fin 64) (u : Fin 66) (k : Fin 256) :
    (H2 V (Proc.devRef .tc main_v25) : A4 8 64 66 256) (ix4 b h u k)
      = padf (nhwc (V (Proc.devRef .tc main_v22) : A4 8 64 64 256)) b h.val u.val k := by
  show (after hostOps2_2 (after hostOps2_1 (after hostOps2 V)) (Proc.devRef .tc main_v25) : FVec Ideal S8x64x66x256 .f32) (ix4 b h u k) = _
  after_reads_at
  simp only [padf, nhwc, Ref.sitofp_zero]
  repeat' split
  all_goals first
    | rfl
    | (exfalso; omega)
    | (refine congrArg _ ?_; refine congr (congr (congrArg (ix4 b) ?_) ?_) ?_ <;> exact Fin.ext (by first | rfl | omega | (simp only []; omega)))

theorem read_v26 (b : Fin 8) (h : Fin 64) (u : Fin 66) (k : Fin 256) :
    (H2 V (Proc.devRef .tc main_v26) : A4 8 64 66 256) (ix4 b h u k)
      = padf (nhwc (V (Proc.devRef .tc main_v22) : A4 8 64 64 256)) b (h.val + 1) u.val k := by
  show (after hostOps2_2 (after hostOps2_1 (after hostOps2 V)) (Proc.devRef .tc main_v26) : FVec Ideal S8x64x66x256 .f32) (ix4 b h u k) = _
  after_reads_at
  simp only [padf, nhwc, Ref.sitofp_zero]
  repeat' split
  all_goals first
    | rfl
    | (exfalso; omega)
    | (refine congrArg _ ?_; refine congr (congr (congrArg (ix4 b) ?_) ?_) ?_ <;> exact Fin.ext (by first | rfl | omega | (simp only []; omega)))

theorem read_v27 (b : Fin 8) (h : Fin 64) (u : Fin 66) (k : Fin 256) :
    (H2 V (Proc.devRef .tc main_v27) : A4 8 64 66 256) (ix4 b h u k)
      = padf (nhwc (V (Proc.devRef .tc main_v22) : A4 8 64 64 256)) b (h.val + 2) u.val k := by
  show (after hostOps2_2 (after hostOps2_1 (after hostOps2 V)) (Proc.devRef .tc main_v27) : FVec Ideal S8x64x66x256 .f32) (ix4 b h u k) = _
  after_reads_at
  simp only [padf, nhwc, Ref.sitofp_zero]
  repeat' split
  all_goals first
    | rfl
    | (exfalso; omega)
    | (refine congrArg _ ?_; refine congr (congr (congrArg (ix4 b) ?_) ?_) ?_ <;> exact Fin.ext (by first | rfl | omega | (simp only []; omega)))

theorem read_v23 (r s : Fin 3) (k : Fin 256) (o : Fin 256) :
    (H2 V (Proc.devRef .tc main_v23) : A4 3 3 256 256) (ix4 r s k o)
      = (V (Proc.devRef .tc main_arg3) : A4 256 256 3 3) (ix4 o k r s) := by
  show (after hostOps2_2 (after hostOps2_1 (after hostOps2 V)) (Proc.devRef .tc main_v23) : FVec Ideal S3x3x256x256 .f32) (ix4 r s k o) = _
  after_reads_at

theorem read_v31 (k o : Fin 256) :
    (after hostOps3 V (Proc.devRef .tc main_v31) : A4 1 1 256 256) (ix4 0 0 k o)
      = (V (Proc.devRef .tc main_arg4) : A4 256 256 1 1) (ix4 o k 0 0) := by
  show (after hostOps3 V (Proc.devRef .tc main_v31) : FVec Ideal S1x1x256x256 .f32) (ix4 0 0 k o) = _
  after_reads_at

theorem read_v33 : rowIm (after hostOps4 V (Proc.devRef .tc main_v33) : FVec Ideal S32768x256 .f32)
    = nhwc (V (Proc.devRef .tc main_v32) : A4 8 64 64 256) := by
  funext b i j k
  show (after hostOps4 V (Proc.devRef .tc main_v33) : FVec Ideal S32768x256 .f32) (ix2 (pix b i j) k) = _
  after_reads_at
  simp only [pix, nhwc]
  refine congrArg _ ?_; refine congr (congr (congr (congrArg ix4 ?_) ?_) ?_) ?_ <;> exact Fin.ext (by first | rfl | omega | (simp only []; omega))

theorem read_v40 : nhwc (after hostOps5 V (Proc.devRef .tc main_v40) : A4 8 64 64 256)
    = rowIm (V (Proc.devRef .tc main_v34_0) : FVec Ideal S32768x256 .f32) := by
  funext b i j k
  show (after hostOps5 V (Proc.devRef .tc main_v40) : FVec Ideal S8x64x64x256 .f32) (ix4 b i j k) = _
  after_reads_at
  rfl

theorem read_v43 (k o : Fin 256) :
    (after hostOps5 V (Proc.devRef .tc main_v43) : A4 1 1 256 256) (ix4 0 0 k o)
      = (V (Proc.devRef .tc main_arg6) : A4 256 256 1 1) (ix4 o k 0 0) := by
  show (after hostOps5 V (Proc.devRef .tc main_v43) : FVec Ideal S1x1x256x256 .f32) (ix4 0 0 k o) = _
  after_reads_at

/-- The blocks' sums, added up. -/
def sums (A : FVec Ideal S32x1x128 .f32) : EReal := ∑ g : Fin 32, A (ix3 g 0 0)

theorem read_v39 : (after hostOps5 V (Proc.devRef .tc main_v39) : FVec Ideal S_ .f32) ix0
    = Ideal.div (Ideal.ofBits .f32 1067450368#32 * sums (V (Proc.devRef .tc main_v34_1)))
        (Ideal.ofBits .f32 1258291200#32) := by
  after_reads_at
  rfl

/-- The operations before the seventh call. -/
abbrev H6 := after hostOps6_2 (after hostOps6_1 (after hostOps6 V))

theorem read_v47 (b : Fin 8) (h : Fin 64) (u : Fin 66) (k : Fin 256) :
    (H6 V (Proc.devRef .tc main_v47) : A4 8 64 66 256) (ix4 b h u k)
      = padf (nhwc (V (Proc.devRef .tc main_v44) : A4 8 64 64 256)) b h.val u.val k := by
  show (after hostOps6_2 (after hostOps6_1 (after hostOps6 V)) (Proc.devRef .tc main_v47) : FVec Ideal S8x64x66x256 .f32) (ix4 b h u k) = _
  after_reads_at
  simp only [padf, nhwc, Ref.sitofp_zero]
  repeat' split
  all_goals first
    | rfl
    | (exfalso; omega)
    | (refine congrArg _ ?_; refine congr (congr (congrArg (ix4 b) ?_) ?_) ?_ <;> exact Fin.ext (by first | rfl | omega | (simp only []; omega)))

theorem read_v48 (b : Fin 8) (h : Fin 64) (u : Fin 66) (k : Fin 256) :
    (H6 V (Proc.devRef .tc main_v48) : A4 8 64 66 256) (ix4 b h u k)
      = padf (nhwc (V (Proc.devRef .tc main_v44) : A4 8 64 64 256)) b (h.val + 1) u.val k := by
  show (after hostOps6_2 (after hostOps6_1 (after hostOps6 V)) (Proc.devRef .tc main_v48) : FVec Ideal S8x64x66x256 .f32) (ix4 b h u k) = _
  after_reads_at
  simp only [padf, nhwc, Ref.sitofp_zero]
  repeat' split
  all_goals first
    | rfl
    | (exfalso; omega)
    | (refine congrArg _ ?_; refine congr (congr (congrArg (ix4 b) ?_) ?_) ?_ <;> exact Fin.ext (by first | rfl | omega | (simp only []; omega)))

theorem read_v49 (b : Fin 8) (h : Fin 64) (u : Fin 66) (k : Fin 256) :
    (H6 V (Proc.devRef .tc main_v49) : A4 8 64 66 256) (ix4 b h u k)
      = padf (nhwc (V (Proc.devRef .tc main_v44) : A4 8 64 64 256)) b (h.val + 2) u.val k := by
  show (after hostOps6_2 (after hostOps6_1 (after hostOps6 V)) (Proc.devRef .tc main_v49) : FVec Ideal S8x64x66x256 .f32) (ix4 b h u k) = _
  after_reads_at
  simp only [padf, nhwc, Ref.sitofp_zero]
  repeat' split
  all_goals first
    | rfl
    | (exfalso; omega)
    | (refine congrArg _ ?_; refine congr (congr (congrArg (ix4 b) ?_) ?_) ?_ <;> exact Fin.ext (by first | rfl | omega | (simp only []; omega)))

theorem read_v45 (r s : Fin 3) (k : Fin 256) (o : Fin 256) :
    (H6 V (Proc.devRef .tc main_v45) : A4 3 3 256 256) (ix4 r s k o)
      = (V (Proc.devRef .tc main_arg7) : A4 256 256 3 3) (ix4 o k r s) := by
  show (after hostOps6_2 (after hostOps6_1 (after hostOps6 V)) (Proc.devRef .tc main_v45) : FVec Ideal S3x3x256x256 .f32) (ix4 r s k o) = _
  after_reads_at

end Cert.Proof.Kern

end
-- ==== Proof.KChainA.lean ====
module

public import proofs.«01_k».proof.Proof.KArgs
public import proofs.«01_k».proof.Proof.Reg0
public import proofs.«01_k».proof.Proof.Reg1
public import proofs.«01_k».proof.Proof.Reg2
public import proofs.«01_k».proof.Proof.Reg3
public import proofs.«01_k».proof.Proof.KHostA
public import proofs.«01_k».proof.Proof.KHostB

/-! The kernel's encoder: its four calls leave the specification's images. -/

@[expose] public section

set_option maxRecDepth 16384

noncomputable section

namespace Cert.Proof.Kern

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

theorem h1_eq : nhwc (W4 m ρ c (Proc.devRef .tc main_v11) : A4 8 128 128 128) = (argsM m c).h1 := by
  have e : (W4 m ρ c (Proc.devRef .tc main_v11) : FVec Ideal S8x128x128x128 .f32) = _ := (W4_arr m ρ c 3).trans (final0 (V3 m ρ) c)
  funext b i j o
  refine (congrFun e (ix4 b i j o)).trans (congrArg (fun x : EReal => max x 0) ?_)
  exact conv2K_eq rfl rfl (nchw (argsM m c).x) (argsM m c).w1 _ _ _ (read_v9 (W0 m ρ c)) (read_v10 (W0 m ρ c)) (read_v8 (W0 m ρ c)) b i j o

theorem h2_eq : nhwc (W8 m ρ c (Proc.devRef .tc main_v22) : A4 8 64 64 256) = (argsM m c).h2 := by
  have e : (W8 m ρ c (Proc.devRef .tc main_v22) : FVec Ideal S8x64x64x256 .f32) = _ := (W8_arr m ρ c 3).trans (final1 (V7 m ρ) c)
  have ha : (W4 m ρ c (Proc.devRef .tc main_arg2) : A4 256 128 4 4) = (argsM m c).w2 := W4_args m ρ c main_arg2 (by decide)
  funext b i j o
  refine (congrFun e (ix4 b i j o)).trans (congrArg (fun x : EReal => max x 0) ?_)
  refine conv2K_eq rfl rfl (argsM m c).h1 (argsM m c).w2 _ _ _ (fun b h u t k => ?_) (fun b h u t k => ?_) (fun r s t k o => ?_) b i j o
  · exact (read_v20 (W4 m ρ c) b h u t k).trans (by rw [h1_eq])
  · exact (read_v21 (W4 m ρ c) b h u t k).trans (by rw [h1_eq])
  · exact (read_v19 (W4 m ρ c) r s t k o).trans (congrFun ha _)

theorem enc_eq : nhwc (W12 m ρ c (Proc.devRef .tc main_v28) : A4 8 64 64 256) = (argsM m c).enc := by
  have e : (W12 m ρ c (Proc.devRef .tc main_v28) : FVec Ideal S8x64x64x256 .f32) = _ := (W12_arr m ρ c 4).trans (final2 (V11 m ρ) c)
  have ha : (W8 m ρ c (Proc.devRef .tc main_arg3) : A4 256 256 3 3) = (argsM m c).w3 := W8_args m ρ c main_arg3 (by decide)
  funext b i j o
  refine (congrFun e (ix4 b i j o)).trans ?_
  refine conv3K_eq rfl (argsM m c).h2 _ _ _ _ (fun b h u k => ?_) (fun b h u k => ?_) (fun b h u k => ?_) o.val o.val o.isLt (argsM m c).w3 o.isLt
    (fun r s k => ?_) b i j
  · exact (read_v25 (W8 m ρ c) b h u k).trans (by rw [h2_eq])
  · exact (read_v26 (W8 m ρ c) b h u k).trans (by rw [h2_eq])
  · exact (read_v27 (W8 m ρ c) b h u k).trans (by rw [h2_eq])
  · exact (read_v23 (W8 m ρ c) r s k o).trans (congrFun ha _)

theorem z_eq : nhwc (W14 m ρ c (Proc.devRef .tc main_v32) : A4 8 64 64 256) = (argsM m c).z := by
  have e : (W14 m ρ c (Proc.devRef .tc main_v32) : FVec Ideal S8x64x64x256 .f32) = _ := (W14_arr m ρ c 2).trans (final3 (V13 m ρ) c)
  have ha : (W12 m ρ c (Proc.devRef .tc main_arg4) : A4 256 256 1 1) = (argsM m c).wq := W12_args m ρ c main_arg4 (by decide)
  have hx : nhwc (W13 m ρ c (Proc.devRef .tc main_v28) : A4 8 64 64 256) = (argsM m c).enc := by
    rw [W13_of m ρ c main_v28 (by decide +kernel)]; exact enc_eq m ρ c
  funext b i j o
  refine (congrFun e (ix4 b i j o)).trans ?_
  exact tapK_eq (argsM m c).enc (argsM m c).wq _ _ hx (fun k o => (read_v31 (W12 m ρ c) k o).trans (congrFun ha _)) b i j o

theorem zrows_eq : (W15 m ρ c (Proc.devRef .tc main_v33) : FVec Ideal S32768x256 .f32) = rowsOf (argsM m c).z :=
  eq_rowsOf _ _ ((read_v33 (W14 m ρ c)).trans (z_eq m ρ c))

end Cert.Proof.Kern

end
-- ==== Proof.Reg4.lean ====
module

public import proofs.«01_k».proof.Proof.Nearest
public import proofs.«01_k».proof.Proof.Gen.KernelIdeal.Frame
public import Idealize.ShloMosaic.Lib.Pipeline.ValueKit

/-! The quantizer's region: the row of the codebook nearest to each row, and the squared distances summed block by block. -/

@[expose] public section

set_option maxRecDepth 16384

noncomputable section

namespace Cert.Proof.Kern

open Idealize.ShloMosaic Idealize.ShloMosaic.TcCoe Idealize.SL.Sem
open Idealize.ShloMosaic.Pipeline (Dat)
open Cert.KernelIdeal Cert.KernelIdeal.Gen

/-- A row of a block, in the whole array. -/
def rowOf (g : Fin 32) (x : Fin 1024) : Fin 32768 := ⟨g.val * 1024 + x.val, by omega⟩

theorem k4_q (z cb : FVec Ideal S1024x256 .f32) (r : Fin 1024) (e : Fin 256) :
    k4_pay3 (F := Ideal) z cb (ix2 r e) = quantRow (fun x => z (ix2 r x)) (fun k x => cb (ix2 k x)) e := by
  pointwise [k4_pay3, k4_pay2, quantRow]
  refine (Finset.sum_congr rfl fun k _ => ?_).trans (sum_onehot (nearest (dist (fun x => z (ix2 r x)) (fun k x => cb (ix2 k x)))) (fun k => cb (ix2 k e)))
  refine congrArg (· * cb (ix2 k e)) (Eq.trans ?_ (onehot_eq k _))
  refine congrArg (fun w => (FloatOps.sitofp .f32 (BitVec.setWidth 32 (IntOp.cmpi .eq (BitVec.ofNat 32 k.val) w)) : Ideal .f32)) ?_
  exact fold_minsi_eq (dist (fun x => z (ix2 r x)) (fun k x => cb (ix2 k x))) _ ((congrArg (fun T => Finset.fold min T (dist (fun x => z (ix2 r x)) (fun k x => cb (ix2 k x))) Finset.univ) top_bits).trans (fold_min_eq _))

theorem k4_q_eq (z cb : FVec Ideal S1024x256 .f32) :
    k4_pay3 (F := Ideal) z cb = fun i : S1024x256.Idx => quantRow (fun x => z (ix2 (i 0) x)) (fun k x => cb (ix2 k x)) (i 1) :=
  funext fun i => (congrArg _ (eq_ix2 i)).trans (k4_q z cb (i 0) (i 1))

theorem k4_c (z cb : FVec Ideal S1024x256 .f32) (r : Fin 128) :
    k4_pay1 (k4_pay4 (F := Ideal) z cb) (ix3 0 0 r)
      = ∑ x : Fin 1024, ∑ y : Fin 256, (quantRow (fun x' => z (ix2 x x')) (fun k x' => cb (ix2 k x')) y - z (ix2 x y))
          * (quantRow (fun x' => z (ix2 x x')) (fun k x' => cb (ix2 k x')) y - z (ix2 x y)) := by
  rw [k4_pay4, k4_q_eq]
  pointwise [k4_pay1, k4_pay2]

theorem k4_c_eq (z cb : FVec Ideal S1024x256 .f32) :
    k4_pay1 (k4_pay4 (F := Ideal) z cb) = fun _ : S1x1x128.Idx => ∑ x : Fin 1024, ∑ y : Fin 256, (quantRow (fun x' => z (ix2 x x')) (fun k x' => cb (ix2 k x')) y - z (ix2 x y))
          * (quantRow (fun x' => z (ix2 x x')) (fun k x' => cb (ix2 k x')) y - z (ix2 x y)) :=
  funext fun i => (congrArg _ ((eq_ix3 i).trans (congrArg₂ (fun a b => ix3 a b (i 2)) (Subsingleton.elim (α := Fin 1) (i 0) 0) (Subsingleton.elim (α := Fin 1) (i 1) 0)))).trans (k4_c z cb (i 2))

variable (V : (c : Dev nD) → (b : Ref sig .tc) → Buf (Elt Ideal) ((c : Thread nD τ).loc b))

theorem idx4 : ∀ t : Fin cfg4.N, win4_0.index t = ![(grid4.coords t 0).val, 0] ∧ win4_1.index t = ![0, 0] ∧ win4_2.index t = ![(grid4.coords t 0).val, 0] ∧ win4_3.index t = ![(grid4.coords t 0).val, 0, 0] :=
  (by decide +kernel : ∀ t : Fin grid4.N, _)

/-- The array of the nearest rows. -/
theorem final4_2 (c : Dev nD) : (dat4 V c).arrAt 2 cfg4.N = fun i : (S32768x256).Idx =>
    quantRow (fun x => (V c main_v33 : FVec Ideal S32768x256 .f32) (ix2 (i 0) x)) (fun k x => (V c main_arg5 : FVec Ideal S1024x256 .f32) (ix2 k x)) (i 1) := by
  refine (dat4 V c).arrAt_eq_of_covers 2 _ (by decide +kernel) fun t _ y => ?_
  blk_simp
  rw [after4_2]; frame_out
  rw [k4_q_eq]
  pointwise [quantRow, dist]
  blk_point [iblk4, idx4 t, rowOf]
  all_goals
    refine congrArg Fin.val (congrArg nearest (congrArg₂ dist (funext fun x' => ?_) (funext fun k => funext fun x' => ?_)))
  all_goals blk_point [idx4 t, rowOf]

/-- The array of the blocks' sums. -/
theorem final4_3 (c : Dev nD) : (dat4 V c).arrAt 3 cfg4.N = fun i : (S32x1x128).Idx =>
    ∑ x : Fin 1024, ∑ y : Fin 256,
      (quantRow (fun x' => (V c main_v33 : FVec Ideal S32768x256 .f32) (ix2 (rowOf (i 0) x) x')) (fun k x' => (V c main_arg5 : FVec Ideal S1024x256 .f32) (ix2 k x')) y
        - (V c main_v33 : FVec Ideal S32768x256 .f32) (ix2 (rowOf (i 0) x) y))
      * (quantRow (fun x' => (V c main_v33 : FVec Ideal S32768x256 .f32) (ix2 (rowOf (i 0) x) x')) (fun k x' => (V c main_arg5 : FVec Ideal S1024x256 .f32) (ix2 k x')) y
        - (V c main_v33 : FVec Ideal S32768x256 .f32) (ix2 (rowOf (i 0) x) y)) := by
  refine (dat4 V c).arrAt_eq_of_covers 3 _ (by decide +kernel) fun t _ y => ?_
  blk_simp
  rw [after4_3]; frame_out
  rw [k4_c_eq]
  pointwise [quantRow, dist]
  blk_point [iblk4, idx4 t, rowOf]
  all_goals
    refine congrArg Fin.val (congrArg nearest (congrArg₂ dist (funext fun x' => ?_) (funext fun k => funext fun x' => ?_)))
  all_goals blk_point [idx4 t, rowOf]

end Cert.Proof.Kern

end
-- ==== Proof.Reg5.lean ====
module

public import proofs.«01_k».proof.Proof.KTaps
public import proofs.«01_k».proof.Proof.Gen.KernelIdeal.Frame
public import Idealize.ShloMosaic.Lib.Pipeline.ValueKit

@[expose] public section

set_option maxRecDepth 16384

noncomputable section

namespace Cert.Proof.Kern

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx5 : ∀ t : Fin cfg5.N, win5_0.index t = ![(grid5.coords t 0).val, (grid5.coords t 1).val, 0, 0] ∧ win5_1.index t = ![0, 0, 0, 0] ∧ win5_2.index t = ![(grid5.coords t 0).val, (grid5.coords t 1).val, 0, 0] :=
  (by decide +kernel : ∀ t : Fin grid5.N, _)

set_option maxHeartbeats 1600000 in
/-- The 1x1 convolution's array. -/
theorem final5 (c : Dev nD) : (dat5 V c).arrAt 2 cfg5.N = fun i : (S8x64x64x256).Idx => tapK (V c main_v40) (V c main_v43) 0 0 (i 0) (i 1) (i 2) (i 3) := by
  refine (dat5 V c).arrAt_eq_of_covers 2 _ (by decide +kernel) fun t _ y => ?_
  blk_simp
  rw [after5_2]; frame_out
  pointwise [k5_pay1, tapK]
  blk_point [iblk5, idx5 t]

end Cert.Proof.Kern

end
-- ==== Proof.Reg6.lean ====
module

public import proofs.«01_k».proof.Proof.KTaps
public import proofs.«01_k».proof.Proof.Gen.KernelIdeal.Frame
public import Idealize.ShloMosaic.Lib.Pipeline.ValueKit

@[expose] public section

set_option maxRecDepth 16384

noncomputable section

namespace Cert.Proof.Kern

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx6 : ∀ t : Fin cfg6.N, win6_0.index t = ![(grid6.coords t 0).val, (grid6.coords t 1).val, 0, 0] ∧ win6_1.index t = ![(grid6.coords t 0).val, (grid6.coords t 1).val, 0, 0] ∧ win6_2.index t = ![(grid6.coords t 0).val, (grid6.coords t 1).val, 0, 0] ∧ win6_3.index t = ![0, 0, 0, 0] ∧ win6_4.index t = ![(grid6.coords t 0).val, (grid6.coords t 1).val, 0, 0] :=
  (by decide +kernel : ∀ t : Fin grid6.N, _)

set_option maxHeartbeats 1600000 in
/-- The convolution's array: three by three taps over the three row views. -/
theorem final6 (c : Dev nD) : (dat6 V c).arrAt 4 cfg6.N = fun i : (S8x64x64x256).Idx => max (conv3K rfl (V c main_v47) (V c main_v48) (V c main_v49) (V c main_v45) (i 0) (i 1) (i 2) (i 3)) 0 := by
  refine (dat6 V c).arrAt_eq_of_covers 4 _ (by decide +kernel) fun t _ y => ?_
  blk_simp
  rw [after6_4]; frame_out
  pointwise [k6_pay1, k6_pay2, k6_pay3, k6_pay4, k6_pay5, k6_pay6, conv3K, tapK, sh]
  blk_point [iblk6, idx6 t]

end Cert.Proof.Kern

end
-- ==== Proof.KChainB.lean ====
module

public import proofs.«01_k».proof.Proof.KChainA
public import proofs.«01_k».proof.Proof.Reg4
public import proofs.«01_k».proof.Proof.Reg5
public import proofs.«01_k».proof.Proof.Reg6

/-! The kernel's quantizer and the two convolutions after it. -/

@[expose] public section

set_option maxRecDepth 16384

noncomputable section

namespace Cert.Proof.Kern

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

theorem qrows_eq : (W16 m ρ c (Proc.devRef .tc main_v34_0) : FVec Ideal S32768x256 .f32) = rowsOf (argsM m c).q := by
  have e : (W16 m ρ c (Proc.devRef .tc main_v34_0) : FVec Ideal S32768x256 .f32) = _ := (W16_arr m ρ c 2).trans (final4_2 (V15 m ρ) c)
  have ha : (V15 m ρ c main_arg5 : FVec Ideal S1024x256 .f32) = (argsM m c).cb := W15_args m ρ c main_arg5 (by decide)
  have hz : (V15 m ρ c main_v33 : FVec Ideal S32768x256 .f32) = rowsOf (argsM m c).z := zrows_eq m ρ c
  rw [e, ha, hz]
  rfl

theorem sum_rows (f : Fin 32768 → EReal) : ∑ g : Fin 32, ∑ x : Fin 1024, f (rowOf g x) = ∑ n, f n := by
  have e : ∑ n, f n = ∑ k : Fin (32 * 1024), f k := rfl
  rw [e, ← Equiv.sum_comp finProdFinEquiv, Fintype.sum_prod_type]
  refine Finset.sum_congr rfl fun g _ => Finset.sum_congr rfl fun x _ => congrArg f (Fin.ext ?_)
  show g.val * 1024 + x.val = x.val + 1024 * g.val
  omega

theorem sums_eq : sums (W16 m ρ c (Proc.devRef .tc main_v34_1)) = (argsM m c).err := by
  have e : (W16 m ρ c (Proc.devRef .tc main_v34_1) : FVec Ideal S32x1x128 .f32) = _ := (W16_arr m ρ c 3).trans (final4_3 (V15 m ρ) c)
  have ha : (V15 m ρ c main_arg5 : FVec Ideal S1024x256 .f32) = (argsM m c).cb := W15_args m ρ c main_arg5 (by decide)
  have hz : (V15 m ρ c main_v33 : FVec Ideal S32768x256 .f32) = rowsOf (argsM m c).z := zrows_eq m ρ c
  rw [e, ha, hz]
  exact sum_rows fun n => ∑ x : Fin 256, ((rowsOf (argsM m c).q (ix2 n x) : EReal) - rowsOf (argsM m c).z (ix2 n x))
    * ((rowsOf (argsM m c).q (ix2 n x) : EReal) - rowsOf (argsM m c).z (ix2 n x))

theorem post_eq : nhwc (W18 m ρ c (Proc.devRef .tc main_v44) : A4 8 64 64 256) = (argsM m c).post := by
  have e : (W18 m ρ c (Proc.devRef .tc main_v44) : FVec Ideal S8x64x64x256 .f32) = _ := (W18_arr m ρ c 2).trans (final5 (V17 m ρ) c)
  have ha : (W16 m ρ c (Proc.devRef .tc main_arg6) : A4 256 256 1 1) = (argsM m c).wp := W16_args m ρ c main_arg6 (by decide)
  have hx : nhwc (W17 m ρ c (Proc.devRef .tc main_v40) : A4 8 64 64 256) = (argsM m c).q := by
    refine (read_v40 (W16 m ρ c)).trans ?_
    rw [qrows_eq]; exact rowIm_rowsOf _
  funext b i j o
  refine (congrFun e (ix4 b i j o)).trans ?_
  exact tapK_eq (argsM m c).q (argsM m c).wp _ _ hx (fun k o => (read_v43 (W16 m ρ c) k o).trans (congrFun ha _)) b i j o

theorem e1_eq : nhwc (W22 m ρ c (Proc.devRef .tc main_v50) : A4 8 64 64 256) = (argsM m c).e1 := by
  have e : (W22 m ρ c (Proc.devRef .tc main_v50) : FVec Ideal S8x64x64x256 .f32) = _ := (W22_arr m ρ c 4).trans (final6 (V21 m ρ) c)
  have ha : (W18 m ρ c (Proc.devRef .tc main_arg7) : A4 256 256 3 3) = (argsM m c).d1 := W18_args m ρ c main_arg7 (by decide)
  funext b i j o
  refine (congrFun e (ix4 b i j o)).trans (congrArg (fun x : EReal => max x 0) ?_)
  refine conv3K_eq rfl (argsM m c).post _ _ _ _ (fun b h u k => ?_) (fun b h u k => ?_) (fun b h u k => ?_) o.val o.val o.isLt (argsM m c).d1 o.isLt
    (fun r s k => ?_) b i j
  · exact (read_v47 (W18 m ρ c) b h u k).trans (by rw [post_eq])
  · exact (read_v48 (W18 m ρ c) b h u k).trans (by rw [post_eq])
  · exact (read_v49 (W18 m ρ c) b h u k).trans (by rw [post_eq])
  · exact (read_v45 (W18 m ρ c) r s k o).trans (congrFun ha _)

/-! ### The commitment loss -/

/-- The quotient of the sum taken five quarters of, against the quotient and a quarter of it: where the sum is real. -/
theorem five_quarters {x : EReal} (h : IsR x) : Ideal.div (Ideal.ofBits .f32 1067450368#32 * x) (Ideal.ofBits .f32 1258291200#32)
    = Ideal.div x (Ideal.ofBits .f32 1258291200#32) + Ideal.ofBits .f32 1048576000#32 * Ideal.div x (Ideal.ofBits .f32 1258291200#32) := by
  obtain ⟨r, rfl⟩ := h
  have h1 : Ideal.ofBits .f32 1067450368#32 = ((5 / 4 : ℝ) : EReal) := by
    simp [Ideal.ofBits, Ideal.ieee]; rw [← EReal.coe_mul]; congr 1; norm_num
  have h2 : Ideal.ofBits .f32 1258291200#32 = ((8388608 : ℝ) : EReal) := by simp [Ideal.ofBits, Ideal.ieee]
  have h3 : Ideal.ofBits .f32 1048576000#32 = ((1 / 4 : ℝ) : EReal) := by
    simp [Ideal.ofBits, Ideal.ieee]; rw [← EReal.coe_mul]; congr 1; norm_num
  rw [h1, h2, h3, Ideal.div_coe (by norm_num), Ideal.div_coe (by norm_num)]
  simp only [← EReal.coe_mul, ← EReal.coe_add]
  refine congrArg _ ?_
  ring

end Cert.Proof.Kern

end
-- ==== Proof.Reg7.lean ====
module

public import proofs.«01_k».proof.Proof.KTaps
public import proofs.«01_k».proof.Proof.Gen.KernelIdeal.Frame
public import Idealize.ShloMosaic.Lib.Pipeline.ValueKit

@[expose] public section

set_option maxRecDepth 16384

noncomputable section

namespace Cert.Proof.Kern

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx7 : ∀ t : Fin cfg7.N, win7_0.index t = ![(grid7.coords t 0).val, (grid7.coords t 1).val, 0, 0] ∧ win7_1.index t = ![(grid7.coords t 0).val, (grid7.coords t 1).val, 0, 0] ∧ win7_2.index t = ![(grid7.coords t 0).val, (grid7.coords t 1).val, 0, 0] ∧ win7_3.index t = ![0, 0, 0, 0, 0, 0] ∧ win7_4.index t = ![(grid7.coords t 0).val, (grid7.coords t 1).val, 0, 0] ∧ win7_5.index t = ![(grid7.coords t 0).val, (grid7.coords t 1).val, 0, 0] ∧ win7_6.index t = ![(grid7.coords t 0).val, (grid7.coords t 1).val, 0, 0] ∧ win7_7.index t = ![(grid7.coords t 0).val, (grid7.coords t 1).val, 0, 0] :=
  (by decide +kernel : ∀ t : Fin grid7.N, _)

set_option maxHeartbeats 1600000 in
/-- Phase (0, 0) of the upsampled convolution. -/
theorem final7_4 (c : Dev nD) : (dat7 V c).arrAt 4 cfg7.N = fun i : (S8x64x64x128).Idx => upK rfl (V c main_v122) (V c main_v123) (V c main_v120) 0 0 (i 0) (i 1) (i 2) (i 3) := by
  refine (dat7 V c).arrAt_eq_of_covers 4 _ (by decide +kernel) fun t _ y => ?_
  blk_simp
  rw [after7_4]; frame_out
  pointwise [k7_pay1, k7_pay2, k7_pay3, k7_pay4, k7_pay5, k7_pay6, k7_pay7, k7_pay8, k7_pay9, k7_pay10, k7_pay11, k7_pay12, k7_pay13, k7_pay14, k7_pay15, k7_pay16, k7_pay17, upK, tapU, sh]
  blk_point [iblk7, idx7 t]

set_option maxHeartbeats 1600000 in
/-- Phase (0, 1) of the upsampled convolution. -/
theorem final7_5 (c : Dev nD) : (dat7 V c).arrAt 5 cfg7.N = fun i : (S8x64x64x128).Idx => upK rfl (V c main_v122) (V c main_v123) (V c main_v120) 0 1 (i 0) (i 1) (i 2) (i 3) := by
  refine (dat7 V c).arrAt_eq_of_covers 5 _ (by decide +kernel) fun t _ y => ?_
  blk_simp
  rw [after7_5]; frame_out
  pointwise [k7_pay1, k7_pay2, k7_pay3, k7_pay4, k7_pay5, k7_pay6, k7_pay7, k7_pay8, k7_pay9, k7_pay10, k7_pay11, k7_pay12, k7_pay13, k7_pay14, k7_pay15, k7_pay16, k7_pay17, upK, tapU, sh]
  blk_point [iblk7, idx7 t]

set_option maxHeartbeats 1600000 in
/-- Phase (1, 0) of the upsampled convolution. -/
theorem final7_6 (c : Dev nD) : (dat7 V c).arrAt 6 cfg7.N = fun i : (S8x64x64x128).Idx => upK rfl (V c main_v123) (V c main_v124) (V c main_v120) 1 0 (i 0) (i 1) (i 2) (i 3) := by
  refine (dat7 V c).arrAt_eq_of_covers 6 _ (by decide +kernel) fun t _ y => ?_
  blk_simp
  rw [after7_6]; frame_out
  pointwise [k7_pay1, k7_pay2, k7_pay3, k7_pay4, k7_pay5, k7_pay6, k7_pay7, k7_pay8, k7_pay9, k7_pay10, k7_pay11, k7_pay12, k7_pay13, k7_pay14, k7_pay15, k7_pay16, k7_pay17, upK, tapU, sh]
  blk_point [iblk7, idx7 t]

set_option maxHeartbeats 1600000 in
/-- Phase (1, 1) of the upsampled convolution. -/
theorem final7_7 (c : Dev nD) : (dat7 V c).arrAt 7 cfg7.N = fun i : (S8x64x64x128).Idx => upK rfl (V c main_v123) (V c main_v124) (V c main_v120) 1 1 (i 0) (i 1) (i 2) (i 3) := by
  refine (dat7 V c).arrAt_eq_of_covers 7 _ (by decide +kernel) fun t _ y => ?_
  blk_simp
  rw [after7_7]; frame_out
  pointwise [k7_pay1, k7_pay2, k7_pay3, k7_pay4, k7_pay5, k7_pay6, k7_pay7, k7_pay8, k7_pay9, k7_pay10, k7_pay11, k7_pay12, k7_pay13, k7_pay14, k7_pay15, k7_pay16, k7_pay17, upK, tapU, sh]
  blk_point [iblk7, idx7 t]

end Cert.Proof.Kern

end
-- ==== Proof.Reg8.lean ====
module

public import proofs.«01_k».proof.Proof.KTaps
public import proofs.«01_k».proof.Proof.Gen.KernelIdeal.Frame
public import Idealize.ShloMosaic.Lib.Pipeline.ValueKit

@[expose] public section

set_option maxRecDepth 16384

noncomputable section

namespace Cert.Proof.Kern

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx8 : ∀ t : Fin cfg8.N, win8_0.index t = ![(grid8.coords t 0).val, (grid8.coords t 1).val, 0, 0] ∧ win8_1.index t = ![(grid8.coords t 0).val, (grid8.coords t 1).val, 0, 0] ∧ win8_2.index t = ![(grid8.coords t 0).val, (grid8.coords t 1).val, 0, 0] ∧ win8_3.index t = ![0, 0, 0, 0, 0, 0] ∧ win8_4.index t = ![(grid8.coords t 0).val, (grid8.coords t 1).val, 0, 0] ∧ win8_5.index t = ![(grid8.coords t 0).val, (grid8.coords t 1).val, 0, 0] ∧ win8_6.index t = ![(grid8.coords t 0).val, (grid8.coords t 1).val, 0, 0] ∧ win8_7.index t = ![(grid8.coords t 0).val, (grid8.coords t 1).val, 0, 0] :=
  (by decide +kernel : ∀ t : Fin grid8.N, _)

set_option maxHeartbeats 1600000 in
/-- Phase (0, 0) of the upsampled convolution. -/
theorem final8_4 (c : Dev nD) : (dat8 V c).arrAt 4 cfg8.N = fun i : (S8x128x128x64).Idx => upK rfl (V c main_v207) (V c main_v208) (V c main_v205) 0 0 (i 0) (i 1) (i 2) (i 3) := by
  refine (dat8 V c).arrAt_eq_of_covers 4 _ (by decide +kernel) fun t _ y => ?_
  blk_simp
  rw [after8_4]; frame_out
  pointwise [k8_pay1, k8_pay2, k8_pay3, k8_pay4, k8_pay5, k8_pay6, k8_pay7, k8_pay8, k8_pay9, k8_pay10, k8_pay11, k8_pay12, k8_pay13, k8_pay14, k8_pay15, k8_pay16, k8_pay17, upK, tapU, sh]
  blk_point [iblk8, idx8 t]

set_option maxHeartbeats 1600000 in
/-- Phase (0, 1) of the upsampled convolution. -/
theorem final8_5 (c : Dev nD) : (dat8 V c).arrAt 5 cfg8.N = fun i : (S8x128x128x64).Idx => upK rfl (V c main_v207) (V c main_v208) (V c main_v205) 0 1 (i 0) (i 1) (i 2) (i 3) := by
  refine (dat8 V c).arrAt_eq_of_covers 5 _ (by decide +kernel) fun t _ y => ?_
  blk_simp
  rw [after8_5]; frame_out
  pointwise [k8_pay1, k8_pay2, k8_pay3, k8_pay4, k8_pay5, k8_pay6, k8_pay7, k8_pay8, k8_pay9, k8_pay10, k8_pay11, k8_pay12, k8_pay13, k8_pay14, k8_pay15, k8_pay16, k8_pay17, upK, tapU, sh]
  blk_point [iblk8, idx8 t]

set_option maxHeartbeats 1600000 in
/-- Phase (1, 0) of the upsampled convolution. -/
theorem final8_6 (c : Dev nD) : (dat8 V c).arrAt 6 cfg8.N = fun i : (S8x128x128x64).Idx => upK rfl (V c main_v208) (V c main_v209) (V c main_v205) 1 0 (i 0) (i 1) (i 2) (i 3) := by
  refine (dat8 V c).arrAt_eq_of_covers 6 _ (by decide +kernel) fun t _ y => ?_
  blk_simp
  rw [after8_6]; frame_out
  pointwise [k8_pay1, k8_pay2, k8_pay3, k8_pay4, k8_pay5, k8_pay6, k8_pay7, k8_pay8, k8_pay9, k8_pay10, k8_pay11, k8_pay12, k8_pay13, k8_pay14, k8_pay15, k8_pay16, k8_pay17, upK, tapU, sh]
  blk_point [iblk8, idx8 t]

set_option maxHeartbeats 1600000 in
/-- Phase (1, 1) of the upsampled convolution. -/
theorem final8_7 (c : Dev nD) : (dat8 V c).arrAt 7 cfg8.N = fun i : (S8x128x128x64).Idx => upK rfl (V c main_v208) (V c main_v209) (V c main_v205) 1 1 (i 0) (i 1) (i 2) (i 3) := by
  refine (dat8 V c).arrAt_eq_of_covers 7 _ (by decide +kernel) fun t _ y => ?_
  blk_simp
  rw [after8_7]; frame_out
  pointwise [k8_pay1, k8_pay2, k8_pay3, k8_pay4, k8_pay5, k8_pay6, k8_pay7, k8_pay8, k8_pay9, k8_pay10, k8_pay11, k8_pay12, k8_pay13, k8_pay14, k8_pay15, k8_pay16, k8_pay17, upK, tapU, sh]
  blk_point [iblk8, idx8 t]

end Cert.Proof.Kern

end
-- ==== Proof.Reg9.lean ====
module

public import proofs.«01_k».proof.Proof.KTaps
public import proofs.«01_k».proof.Proof.Gen.KernelIdeal.Frame
public import Idealize.ShloMosaic.Lib.Pipeline.ValueKit

@[expose] public section

set_option maxRecDepth 16384

noncomputable section

namespace Cert.Proof.Kern

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx9 : ∀ t : Fin cfg9.N, win9_0.index t = ![(grid9.coords t 0).val, (grid9.coords t 1).val, 0, 0] ∧ win9_1.index t = ![(grid9.coords t 0).val, (grid9.coords t 1).val, 0, 0] ∧ win9_2.index t = ![(grid9.coords t 0).val, (grid9.coords t 1).val, 0, 0] ∧ win9_3.index t = ![0, 0, 0, 0] ∧ win9_4.index t = ![(grid9.coords t 0).val, (grid9.coords t 1).val, 0, 0] :=
  (by decide +kernel : ∀ t : Fin grid9.N, _)

set_option maxHeartbeats 1600000 in
/-- The convolution's array: three by three taps over the three row views. -/
theorem final9 (c : Dev nD) : (dat9 V c).arrAt 4 cfg9.N = fun i : (S8x256x256x8).Idx => conv3K rfl (V c main_v225) (V c main_v226) (V c main_v227) (V c main_v223) (i 0) (i 1) (i 2) (i 3) := by
  refine (dat9 V c).arrAt_eq_of_covers 4 _ (by decide +kernel) fun t _ y => ?_
  blk_simp
  rw [after9_4]; frame_out
  pointwise [k9_pay1, k9_pay2, k9_pay3, k9_pay4, k9_pay5, k9_pay6, conv3K, tapK, sh]
  blk_point [iblk9, idx9 t]

end Cert.Proof.Kern

end
-- ==== Proof.KHostC.lean ====
module

public import proofs.«01_k».proof.Proof.KConv
public import proofs.«01_k».proof.Proof.RefRead
public import proofs.«01_k».proof.Proof.Gen.KernelIdeal.Frame
public import Idealize.ShloMosaic.Lib.StableHlo.ReadAt
public import Idealize.ShloMosaic.PureOps.Ideal.Laws

/-! What the operations before the first upsampled convolution leave: its weights added up by phase, and its row views. -/

@[expose] public section

set_option maxRecDepth 16384

noncomputable section

namespace Cert.Proof.Kern

open Idealize.ShloMosaic Idealize.ShloMosaic.TcCoe Idealize.SL.Sem Idealize.ShloMosaic.StableHlo
open Cert.KernelIdeal Cert.KernelIdeal.Gen

variable (V : Valuation τ sig (Elt Ideal))

/-- The operations before the eighth call. -/
abbrev H7 := after hostOps7_2 (after hostOps7_1 (after hostOps7 V))

theorem read_v122 (b : Fin 8) (h : Fin 64) (u : Fin 66) (k : Fin 256) :
    (H7 V (Proc.devRef .tc main_v122) : A4 8 64 66 256) (ix4 b h u k)
      = padf (nhwc (V (Proc.devRef .tc main_v50) : A4 8 64 64 256)) b h.val u.val k := by
  show (after hostOps7_2 (after hostOps7_1 (after hostOps7 V)) (Proc.devRef .tc main_v122) : FVec Ideal S8x64x66x256 .f32) (ix4 b h u k) = _
  after_reads_at
  simp only [padf, nhwc, Ref.sitofp_zero]
  repeat' split
  all_goals first
    | rfl
    | (exfalso; omega)
    | (refine congrArg _ ?_; refine congr (congr (congrArg (ix4 b) ?_) ?_) ?_ <;> exact Fin.ext (by first | rfl | omega | (simp only []; omega)))

theorem read_v123 (b : Fin 8) (h : Fin 64) (u : Fin 66) (k : Fin 256) :
    (H7 V (Proc.devRef .tc main_v123) : A4 8 64 66 256) (ix4 b h u k)
      = padf (nhwc (V (Proc.devRef .tc main_v50) : A4 8 64 64 256)) b (h.val + 1) u.val k := by
  show (after hostOps7_2 (after hostOps7_1 (after hostOps7 V)) (Proc.devRef .tc main_v123) : FVec Ideal S8x64x66x256 .f32) (ix4 b h u k) = _
  after_reads_at
  simp only [padf, nhwc, Ref.sitofp_zero]
  repeat' split
  all_goals first
    | rfl
    | (exfalso; omega)
    | (refine congrArg _ ?_; refine congr (congr (congrArg (ix4 b) ?_) ?_) ?_ <;> exact Fin.ext (by first | rfl | omega | (simp only []; omega)))

theorem read_v124 (b : Fin 8) (h : Fin 64) (u : Fin 66) (k : Fin 256) :
    (H7 V (Proc.devRef .tc main_v124) : A4 8 64 66 256) (ix4 b h u k)
      = padf (nhwc (V (Proc.devRef .tc main_v50) : A4 8 64 64 256)) b (h.val + 2) u.val k := by
  show (after hostOps7_2 (after hostOps7_1 (after hostOps7 V)) (Proc.devRef .tc main_v124) : FVec Ideal S8x64x66x256 .f32) (ix4 b h u k) = _
  after_reads_at
  simp only [padf, nhwc, Ref.sitofp_zero]
  repeat' split
  all_goals first
    | rfl
    | (exfalso; omega)
    | (refine congrArg _ ?_; refine congr (congr (congrArg (ix4 b) ?_) ?_) ?_ <;> exact Fin.ext (by first | rfl | omega | (simp only []; omega)))

theorem read_v120 (p q r s : Fin 2) (k : Fin 256) (o : Fin 128) :
    (H7 V (Proc.devRef .tc main_v120) : FVec Ideal S2x2x2x2x256x128 .f32) (ix6 p q r s k o)
      = fold3 q s fun c => fold3 p r fun a => (V (Proc.devRef .tc main_arg8) : A4 128 256 3 3) (ix4 o k a c) := by
  show (after hostOps7_2 (after hostOps7_1 (after hostOps7 V)) (Proc.devRef .tc main_v120) : FVec Ideal S2x2x2x2x256x128 .f32) (ix6 p q r s k o) = _
  repeat after_reads_at
  fin_cases p <;> fin_cases q <;> fin_cases r <;> fin_cases s <;> rfl

end Cert.Proof.Kern

end
-- ==== Proof.KHostD.lean ====
module

public import proofs.«01_k».proof.Proof.KConv
public import proofs.«01_k».proof.Proof.RefRead
public import proofs.«01_k».proof.Proof.Gen.KernelIdeal.Frame
public import Idealize.ShloMosaic.Lib.StableHlo.ReadAt
public import Idealize.ShloMosaic.PureOps.Ideal.Laws

/-! What the operations before the second upsampled convolution leave: its input out of the four phases, its weights added up by phase, and its row views. -/

@[expose] public section

set_option maxRecDepth 16384

noncomputable section

namespace Cert.Proof.Kern

open Idealize.ShloMosaic Idealize.ShloMosaic.TcCoe Idealize.SL.Sem Idealize.ShloMosaic.StableHlo
open Cert.KernelIdeal Cert.KernelIdeal.Gen

variable (V : Valuation τ sig (Elt Ideal))

/-- The operations before the ninth call. -/
abbrev H8 := after hostOps8_2 (after hostOps8_1 (after hostOps8 V))

set_option maxHeartbeats 4000000 in
theorem read_v135 (b : Fin 8) (i j : Fin 128) (k : Fin 128) :
    (after hostOps8 V (Proc.devRef .tc main_v135) : A4 8 128 128 128) (ix4 b i j k)
      = if i.val % 2 = 0 then
          if j.val % 2 = 0 then (V (Proc.devRef .tc main_v125_0) : A4 8 64 64 128) (ix4 b ⟨i.val / 2, by omega⟩ ⟨j.val / 2, by omega⟩ k)
          else (V (Proc.devRef .tc main_v125_1) : A4 8 64 64 128) (ix4 b ⟨i.val / 2, by omega⟩ ⟨j.val / 2, by omega⟩ k)
        else
          if j.val % 2 = 0 then (V (Proc.devRef .tc main_v125_2) : A4 8 64 64 128) (ix4 b ⟨i.val / 2, by omega⟩ ⟨j.val / 2, by omega⟩ k)
          else (V (Proc.devRef .tc main_v125_3) : A4 8 64 64 128) (ix4 b ⟨i.val / 2, by omega⟩ ⟨j.val / 2, by omega⟩ k) := by
  show (after hostOps8 V (Proc.devRef .tc main_v135) : FVec Ideal S8x128x128x128 .f32) (ix4 b i j k) = _
  repeat after_reads_at
  repeat' split
  all_goals first
    | rfl
    | (exfalso; omega)
    | (refine congrArg _ ?_; refine congr (congr (congrArg (ix4 b) ?_) ?_) ?_ <;> exact Fin.ext (by first | rfl | omega | (simp only []; omega)))

theorem read_v205 (p q r s : Fin 2) (k : Fin 128) (o : Fin 64) :
    (H8 V (Proc.devRef .tc main_v205) : FVec Ideal S2x2x2x2x128x64 .f32) (ix6 p q r s k o)
      = fold3 q s fun c => fold3 p r fun a => (V (Proc.devRef .tc main_arg9) : A4 64 128 3 3) (ix4 o k a c) := by
  show (after hostOps8_2 (after hostOps8_1 (after hostOps8 V)) (Proc.devRef .tc main_v205) : FVec Ideal S2x2x2x2x128x64 .f32) (ix6 p q r s k o) = _
  repeat after_reads_at
  fin_cases p <;> fin_cases q <;> fin_cases r <;> fin_cases s <;> rfl

theorem read_v207 (hc : (V (Proc.devRef .tc main_c_6) : IVec S_ 32) (Shape.Idx.first h_S_) = 0#32) (b : Fin 8) (h : Fin 128) (u : Fin 130) (k : Fin 128) :
    (after hostOps8_2 (after hostOps8_1 V) (Proc.devRef .tc main_v207) : A4 8 128 130 128) (ix4 b h u k)
      = padf (nhwc (V (Proc.devRef .tc main_v135) : A4 8 128 128 128)) b h.val u.val k := by
  show (after hostOps8_2 (after hostOps8_1 V) (Proc.devRef .tc main_v207) : FVec Ideal S8x128x130x128 .f32) (ix4 b h u k) = _
  after_reads_at
  simp only [padf, nhwc, Ref.sitofp_zero]
  repeat' split
  all_goals first
    | rfl
    | exact (congrArg (FloatOps.sitofp .f32) hc).trans Ref.sitofp_zero
    | (exfalso; omega)
    | (refine congrArg _ ?_; refine congr (congr (congrArg (ix4 b) ?_) ?_) ?_ <;> exact Fin.ext (by first | rfl | omega | (simp only []; omega)))

theorem read_v208 (hc : (V (Proc.devRef .tc main_c_6) : IVec S_ 32) (Shape.Idx.first h_S_) = 0#32) (b : Fin 8) (h : Fin 128) (u : Fin 130) (k : Fin 128) :
    (after hostOps8_2 (after hostOps8_1 V) (Proc.devRef .tc main_v208) : A4 8 128 130 128) (ix4 b h u k)
      = padf (nhwc (V (Proc.devRef .tc main_v135) : A4 8 128 128 128)) b (h.val + 1) u.val k := by
  show (after hostOps8_2 (after hostOps8_1 V) (Proc.devRef .tc main_v208) : FVec Ideal S8x128x130x128 .f32) (ix4 b h u k) = _
  after_reads_at
  simp only [padf, nhwc, Ref.sitofp_zero]
  repeat' split
  all_goals first
    | rfl
    | exact (congrArg (FloatOps.sitofp .f32) hc).trans Ref.sitofp_zero
    | (exfalso; omega)
    | (refine congrArg _ ?_; refine congr (congr (congrArg (ix4 b) ?_) ?_) ?_ <;> exact Fin.ext (by first | rfl | omega | (simp only []; omega)))

theorem read_v209 (hc : (V (Proc.devRef .tc main_c_6) : IVec S_ 32) (Shape.Idx.first h_S_) = 0#32) (b : Fin 8) (h : Fin 128) (u : Fin 130) (k : Fin 128) :
    (after hostOps8_2 (after hostOps8_1 V) (Proc.devRef .tc main_v209) : A4 8 128 130 128) (ix4 b h u k)
      = padf (nhwc (V (Proc.devRef .tc main_v135) : A4 8 128 128 128)) b (h.val + 2) u.val k := by
  show (after hostOps8_2 (after hostOps8_1 V) (Proc.devRef .tc main_v209) : FVec Ideal S8x128x130x128 .f32) (ix4 b h u k) = _
  after_reads_at
  simp only [padf, nhwc, Ref.sitofp_zero]
  repeat' split
  all_goals first
    | rfl
    | exact (congrArg (FloatOps.sitofp .f32) hc).trans Ref.sitofp_zero
    | (exfalso; omega)
    | (refine congrArg _ ?_; refine congr (congr (congrArg (ix4 b) ?_) ?_) ?_ <;> exact Fin.ext (by first | rfl | omega | (simp only []; omega)))

theorem read_c_6 : (after hostOps8 V (Proc.devRef .tc main_c_6) : IVec S_ 32) (Shape.Idx.first h_S_) = 0#32 := by
  after_reads_at

end Cert.Proof.Kern

end
-- ==== Proof.KHostE.lean ====
module

public import proofs.«01_k».proof.Proof.KConv
public import proofs.«01_k».proof.Proof.RefRead
public import proofs.«01_k».proof.Proof.Gen.KernelIdeal.Frame
public import Idealize.ShloMosaic.Lib.StableHlo.ReadAt
public import Idealize.ShloMosaic.PureOps.Ideal.Laws

/-! What the operations around the last call leave: its input out of the four phases, the heads' weights, and the two results. -/

@[expose] public section

set_option maxRecDepth 16384

noncomputable section

namespace Cert.Proof.Kern

open Idealize.ShloMosaic Idealize.ShloMosaic.TcCoe Idealize.SL.Sem Idealize.ShloMosaic.StableHlo
open Cert.KernelIdeal Cert.KernelIdeal.Gen

variable (V : Valuation τ sig (Elt Ideal))

/-- The operations before the tenth call. -/
abbrev H9 := after hostOps9_4 (after hostOps9_3 (after hostOps9_2 (after hostOps9_1 (after hostOps9 V))))

set_option maxHeartbeats 4000000 in
theorem read_v220 (b : Fin 8) (i j : Fin 256) (k : Fin 64) :
    (after hostOps9_1 (after hostOps9 V) (Proc.devRef .tc main_v220) : A4 8 256 256 64) (ix4 b i j k)
      = if i.val % 2 = 0 then
          if j.val % 2 = 0 then (V (Proc.devRef .tc main_v210_0) : A4 8 128 128 64) (ix4 b ⟨i.val / 2, by omega⟩ ⟨j.val / 2, by omega⟩ k)
          else (V (Proc.devRef .tc main_v210_1) : A4 8 128 128 64) (ix4 b ⟨i.val / 2, by omega⟩ ⟨j.val / 2, by omega⟩ k)
        else
          if j.val % 2 = 0 then (V (Proc.devRef .tc main_v210_2) : A4 8 128 128 64) (ix4 b ⟨i.val / 2, by omega⟩ ⟨j.val / 2, by omega⟩ k)
          else (V (Proc.devRef .tc main_v210_3) : A4 8 128 128 64) (ix4 b ⟨i.val / 2, by omega⟩ ⟨j.val / 2, by omega⟩ k) := by
  show (after hostOps9_1 (after hostOps9 V) (Proc.devRef .tc main_v220) : FVec Ideal S8x256x256x64 .f32) (ix4 b i j k) = _
  repeat after_reads_at
  repeat' split
  all_goals first
    | rfl
    | (exfalso; omega)
    | (refine congrArg _ ?_; refine congr (congr (congrArg (ix4 b) ?_) ?_) ?_ <;> exact Fin.ext (by first | rfl | omega | (simp only []; omega)))

theorem read_v223_0 (r s : Fin 3) (k : Fin 64) (o : Fin 2) :
    (H9 V (Proc.devRef .tc main_v223) : A4 3 3 64 8) (ix4 r s k ⟨o.val, by omega⟩)
      = (V (Proc.devRef .tc main_arg10) : A4 2 64 3 3) (ix4 o k r s) := by
  show (after hostOps9_4 (after hostOps9_3 (after hostOps9_2 (after hostOps9_1 (after hostOps9 V)))) (Proc.devRef .tc main_v223) : FVec Ideal S3x3x64x8 .f32) (ix4 r s k ⟨o.val, by omega⟩) = _
  repeat after_reads_at
  repeat' split
  all_goals first
    | rfl
    | (exfalso; omega)

theorem read_v223_1 (r s : Fin 3) (k : Fin 64) (o : Fin 2) :
    (H9 V (Proc.devRef .tc main_v223) : A4 3 3 64 8) (ix4 r s k ⟨o.val + 2, by omega⟩)
      = (V (Proc.devRef .tc main_arg11) : A4 2 64 3 3) (ix4 o k r s) := by
  show (after hostOps9_4 (after hostOps9_3 (after hostOps9_2 (after hostOps9_1 (after hostOps9 V)))) (Proc.devRef .tc main_v223) : FVec Ideal S3x3x64x8 .f32) (ix4 r s k ⟨o.val + 2, by omega⟩) = _
  repeat after_reads_at
  repeat' split
  all_goals first
    | rfl
    | (exfalso; omega)

theorem read_v230 (b : Fin 8) (o : Fin 2) (i j : Fin 256) :
    (after hostOps10 V (Proc.devRef .tc main_v230) : A4 8 2 256 256) (ix4 b o i j)
      = (V (Proc.devRef .tc main_v228) : A4 8 256 256 8) (ix4 b i j ⟨o.val, by omega⟩) := by
  show (after hostOps10 V (Proc.devRef .tc main_v230) : FVec Ideal S8x2x256x256 .f32) (ix4 b o i j) = _
  after_reads_at
  all_goals first | rfl | (refine congrArg _ ?_; refine congr (congr (congrArg (ix4 b) ?_) ?_) ?_ <;> exact Fin.ext (by first | rfl | omega | (simp only []; omega)))

theorem read_v232 (b : Fin 8) (o : Fin 2) (i j : Fin 256) :
    (after hostOps10 V (Proc.devRef .tc main_v232) : A4 8 2 256 256) (ix4 b o i j)
      = (V (Proc.devRef .tc main_v228) : A4 8 256 256 8) (ix4 b i j ⟨o.val + 2, by omega⟩) := by
  show (after hostOps10 V (Proc.devRef .tc main_v232) : FVec Ideal S8x2x256x256 .f32) (ix4 b o i j) = _
  after_reads_at
  all_goals first | rfl | (refine congrArg _ ?_; refine congr (congr (congrArg (ix4 b) ?_) ?_) ?_ <;> exact Fin.ext (by first | rfl | omega | (simp only []; omega)))

theorem read_v225 (b : Fin 8) (h : Fin 256) (u : Fin 258) (k : Fin 64) :
    (after hostOps9_4 (after hostOps9_3 (after hostOps9_2 V)) (Proc.devRef .tc main_v225) : A4 8 256 258 64) (ix4 b h u k)
      = padf (nhwc (V (Proc.devRef .tc main_v220) : A4 8 256 256 64)) b h.val u.val k := by
  show (after hostOps9_4 (after hostOps9_3 (after hostOps9_2 V)) (Proc.devRef .tc main_v225) : FVec Ideal S8x256x258x64 .f32) (ix4 b h u k) = _
  after_reads_at
  simp only [padf, nhwc, Ref.sitofp_zero]
  repeat' split
  all_goals first
    | rfl
    | (exfalso; omega)
    | (refine congrArg _ ?_; refine congr (congr (congrArg (ix4 b) ?_) ?_) ?_ <;> exact Fin.ext (by first | rfl | omega | (simp only []; omega)))

theorem read_v226 (b : Fin 8) (h : Fin 256) (u : Fin 258) (k : Fin 64) :
    (after hostOps9_4 (after hostOps9_3 (after hostOps9_2 V)) (Proc.devRef .tc main_v226) : A4 8 256 258 64) (ix4 b h u k)
      = padf (nhwc (V (Proc.devRef .tc main_v220) : A4 8 256 256 64)) b (h.val + 1) u.val k := by
  show (after hostOps9_4 (after hostOps9_3 (after hostOps9_2 V)) (Proc.devRef .tc main_v226) : FVec Ideal S8x256x258x64 .f32) (ix4 b h u k) = _
  after_reads_at
  simp only [padf, nhwc, Ref.sitofp_zero]
  repeat' split
  all_goals first
    | rfl
    | (exfalso; omega)
    | (refine congrArg _ ?_; refine congr (congr (congrArg (ix4 b) ?_) ?_) ?_ <;> exact Fin.ext (by first | rfl | omega | (simp only []; omega)))

theorem read_v227 (b : Fin 8) (h : Fin 256) (u : Fin 258) (k : Fin 64) :
    (after hostOps9_4 (after hostOps9_3 (after hostOps9_2 V)) (Proc.devRef .tc main_v227) : A4 8 256 258 64) (ix4 b h u k)
      = padf (nhwc (V (Proc.devRef .tc main_v220) : A4 8 256 256 64)) b (h.val + 2) u.val k := by
  show (after hostOps9_4 (after hostOps9_3 (after hostOps9_2 V)) (Proc.devRef .tc main_v227) : FVec Ideal S8x256x258x64 .f32) (ix4 b h u k) = _
  after_reads_at
  simp only [padf, nhwc, Ref.sitofp_zero]
  repeat' split
  all_goals first
    | rfl
    | (exfalso; omega)
    | (refine congrArg _ ?_; refine congr (congr (congrArg (ix4 b) ?_) ?_) ?_ <;> exact Fin.ext (by first | rfl | omega | (simp only []; omega)))

end Cert.Proof.Kern

end
-- ==== Proof.KChainC.lean ====
module

public import proofs.«01_k».proof.Proof.KChainB
public import proofs.«01_k».proof.Proof.Reg7
public import proofs.«01_k».proof.Proof.Reg8
public import proofs.«01_k».proof.Proof.Reg9
public import proofs.«01_k».proof.Proof.KHostC
public import proofs.«01_k».proof.Proof.KHostD
public import proofs.«01_k».proof.Proof.KHostE

/-! The kernel's decoder. -/

@[expose] public section

set_option maxRecDepth 16384

noncomputable section

namespace Cert.Proof.Kern

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

theorem fold7 (p q r s : Fin 2) (k : Fin 256) (o : Fin 128) : (W25 m ρ c (Proc.devRef .tc main_v120) : FVec Ideal S2x2x2x2x256x128 .f32) (ix6 p q r s k o)
    = fold3 q s fun c' => fold3 p r fun a => (argsM m c).d2 (ix4 o k a c') := by
  have ha : (W22 m ρ c (Proc.devRef .tc main_arg8) : A4 128 256 3 3) = (argsM m c).d2 := W22_args m ρ c main_arg8 (by decide)
  rw [← ha]; exact read_v120 (W22 m ρ c) p q r s k o

theorem view7_0 (hr : (argsM m c).Real) (b : Fin 8) (h : Fin 64) (u : Fin 66) (k : Fin 256) :
    (W25 m ρ c (Proc.devRef .tc main_v122) : A4 8 64 66 256) (ix4 b h u k) = padf (argsM m c).e1 b h.val u.val k := by
  exact (read_v122 (W22 m ρ c) b h u k).trans (by rw [e1_eq])

theorem view7_1 (hr : (argsM m c).Real) (b : Fin 8) (h : Fin 64) (u : Fin 66) (k : Fin 256) :
    (W25 m ρ c (Proc.devRef .tc main_v123) : A4 8 64 66 256) (ix4 b h u k) = padf (argsM m c).e1 b (h.val + 1) u.val k := by
  exact (read_v123 (W22 m ρ c) b h u k).trans (by rw [e1_eq])

theorem view7_2 (hr : (argsM m c).Real) (b : Fin 8) (h : Fin 64) (u : Fin 66) (k : Fin 256) :
    (W25 m ρ c (Proc.devRef .tc main_v124) : A4 8 64 66 256) (ix4 b h u k) = padf (argsM m c).e1 b (h.val + 2) u.val k := by
  exact (read_v124 (W22 m ρ c) b h u k).trans (by rw [e1_eq])

theorem ph7_0 (hr : (argsM m c).Real) (b : Fin 8) (i j : Fin 64) (o : Fin 128) (i' j' : Fin 128) (hi : i'.val = 2 * i.val + 0) (hj : j'.val = 2 * j.val + 0) :
    (W26 m ρ c (Proc.devRef .tc main_v125_0) : A4 8 64 64 128) (ix4 b i j o) = (argsM m c).e2 b i' j' o := by
  have e : (W26 m ρ c (Proc.devRef .tc main_v125_0) : FVec Ideal S8x64x64x128 .f32) = _ := (W26_arr m ρ c 4).trans (final7_4 (V25 m ρ) c)
  refine (congrFun e (ix4 b i j o)).trans ?_
  exact upK_eq rfl rfl rfl (argsM m c).e1 hr.e1 (argsM m c).d2 hr.d2 _ _ _ _ (view7_0 m ρ c hr) (view7_1 m ρ c hr) (view7_2 m ρ c hr) (fold7 m ρ c) 0 0 b i j o i' j' hi hj

theorem ph7_1 (hr : (argsM m c).Real) (b : Fin 8) (i j : Fin 64) (o : Fin 128) (i' j' : Fin 128) (hi : i'.val = 2 * i.val + 0) (hj : j'.val = 2 * j.val + 1) :
    (W26 m ρ c (Proc.devRef .tc main_v125_1) : A4 8 64 64 128) (ix4 b i j o) = (argsM m c).e2 b i' j' o := by
  have e : (W26 m ρ c (Proc.devRef .tc main_v125_1) : FVec Ideal S8x64x64x128 .f32) = _ := (W26_arr m ρ c 5).trans (final7_5 (V25 m ρ) c)
  refine (congrFun e (ix4 b i j o)).trans ?_
  exact upK_eq rfl rfl rfl (argsM m c).e1 hr.e1 (argsM m c).d2 hr.d2 _ _ _ _ (view7_0 m ρ c hr) (view7_1 m ρ c hr) (view7_2 m ρ c hr) (fold7 m ρ c) 0 1 b i j o i' j' hi hj

theorem ph7_2 (hr : (argsM m c).Real) (b : Fin 8) (i j : Fin 64) (o : Fin 128) (i' j' : Fin 128) (hi : i'.val = 2 * i.val + 1) (hj : j'.val = 2 * j.val + 0) :
    (W26 m ρ c (Proc.devRef .tc main_v125_2) : A4 8 64 64 128) (ix4 b i j o) = (argsM m c).e2 b i' j' o := by
  have e : (W26 m ρ c (Proc.devRef .tc main_v125_2) : FVec Ideal S8x64x64x128 .f32) = _ := (W26_arr m ρ c 6).trans (final7_6 (V25 m ρ) c)
  refine (congrFun e (ix4 b i j o)).trans ?_
  exact upK_eq rfl rfl rfl (argsM m c).e1 hr.e1 (argsM m c).d2 hr.d2 _ _ _ _ (view7_0 m ρ c hr) (view7_1 m ρ c hr) (view7_2 m ρ c hr) (fold7 m ρ c) 1 0 b i j o i' j' hi hj

theorem ph7_3 (hr : (argsM m c).Real) (b : Fin 8) (i j : Fin 64) (o : Fin 128) (i' j' : Fin 128) (hi : i'.val = 2 * i.val + 1) (hj : j'.val = 2 * j.val + 1) :
    (W26 m ρ c (Proc.devRef .tc main_v125_3) : A4 8 64 64 128) (ix4 b i j o) = (argsM m c).e2 b i' j' o := by
  have e : (W26 m ρ c (Proc.devRef .tc main_v125_3) : FVec Ideal S8x64x64x128 .f32) = _ := (W26_arr m ρ c 7).trans (final7_7 (V25 m ρ) c)
  refine (congrFun e (ix4 b i j o)).trans ?_
  exact upK_eq rfl rfl rfl (argsM m c).e1 hr.e1 (argsM m c).d2 hr.d2 _ _ _ _ (view7_0 m ρ c hr) (view7_1 m ρ c hr) (view7_2 m ρ c hr) (fold7 m ρ c) 1 1 b i j o i' j' hi hj

theorem e2_eq (hr : (argsM m c).Real) : nhwc (W27 m ρ c (Proc.devRef .tc main_v135) : A4 8 128 128 128) = (argsM m c).e2 := by
  funext b i j o
  refine (read_v135 (W26 m ρ c) b i j o).trans ?_
  split
  · split
    · exact ph7_0 m ρ c hr b _ _ o i j (by simp only []; omega) (by simp only []; omega)
    · exact ph7_1 m ρ c hr b _ _ o i j (by simp only []; omega) (by simp only []; omega)
  · split
    · exact ph7_2 m ρ c hr b _ _ o i j (by simp only []; omega) (by simp only []; omega)
    · exact ph7_3 m ρ c hr b _ _ o i j (by simp only []; omega) (by simp only []; omega)

theorem fold8 (p q r s : Fin 2) (k : Fin 128) (o : Fin 64) : (W29 m ρ c (Proc.devRef .tc main_v205) : FVec Ideal S2x2x2x2x128x64 .f32) (ix6 p q r s k o)
    = fold3 q s fun c' => fold3 p r fun a => (argsM m c).d3 (ix4 o k a c') := by
  have ha : (W26 m ρ c (Proc.devRef .tc main_arg9) : A4 64 128 3 3) = (argsM m c).d3 := W26_args m ρ c main_arg9 (by decide)
  rw [← ha]; exact read_v205 (W26 m ρ c) p q r s k o

theorem view8_0 (hr : (argsM m c).Real) (b : Fin 8) (h : Fin 128) (u : Fin 130) (k : Fin 128) :
    (W29 m ρ c (Proc.devRef .tc main_v207) : A4 8 128 130 128) (ix4 b h u k) = padf (argsM m c).e2 b h.val u.val k := by
  exact (read_v207 (W27 m ρ c) (read_c_6 (W26 m ρ c)) b h u k).trans (by rw [e2_eq m ρ c hr])

theorem view8_1 (hr : (argsM m c).Real) (b : Fin 8) (h : Fin 128) (u : Fin 130) (k : Fin 128) :
    (W29 m ρ c (Proc.devRef .tc main_v208) : A4 8 128 130 128) (ix4 b h u k) = padf (argsM m c).e2 b (h.val + 1) u.val k := by
  exact (read_v208 (W27 m ρ c) (read_c_6 (W26 m ρ c)) b h u k).trans (by rw [e2_eq m ρ c hr])

theorem view8_2 (hr : (argsM m c).Real) (b : Fin 8) (h : Fin 128) (u : Fin 130) (k : Fin 128) :
    (W29 m ρ c (Proc.devRef .tc main_v209) : A4 8 128 130 128) (ix4 b h u k) = padf (argsM m c).e2 b (h.val + 2) u.val k := by
  exact (read_v209 (W27 m ρ c) (read_c_6 (W26 m ρ c)) b h u k).trans (by rw [e2_eq m ρ c hr])

theorem ph8_0 (hr : (argsM m c).Real) (b : Fin 8) (i j : Fin 128) (o : Fin 64) (i' j' : Fin 256) (hi : i'.val = 2 * i.val + 0) (hj : j'.val = 2 * j.val + 0) :
    (W30 m ρ c (Proc.devRef .tc main_v210_0) : A4 8 128 128 64) (ix4 b i j o) = (argsM m c).e3 b i' j' o := by
  have e : (W30 m ρ c (Proc.devRef .tc main_v210_0) : FVec Ideal S8x128x128x64 .f32) = _ := (W30_arr m ρ c 4).trans (final8_4 (V29 m ρ) c)
  refine (congrFun e (ix4 b i j o)).trans ?_
  exact upK_eq rfl rfl rfl (argsM m c).e2 hr.e2 (argsM m c).d3 hr.d3 _ _ _ _ (view8_0 m ρ c hr) (view8_1 m ρ c hr) (view8_2 m ρ c hr) (fold8 m ρ c) 0 0 b i j o i' j' hi hj

theorem ph8_1 (hr : (argsM m c).Real) (b : Fin 8) (i j : Fin 128) (o : Fin 64) (i' j' : Fin 256) (hi : i'.val = 2 * i.val + 0) (hj : j'.val = 2 * j.val + 1) :
    (W30 m ρ c (Proc.devRef .tc main_v210_1) : A4 8 128 128 64) (ix4 b i j o) = (argsM m c).e3 b i' j' o := by
  have e : (W30 m ρ c (Proc.devRef .tc main_v210_1) : FVec Ideal S8x128x128x64 .f32) = _ := (W30_arr m ρ c 5).trans (final8_5 (V29 m ρ) c)
  refine (congrFun e (ix4 b i j o)).trans ?_
  exact upK_eq rfl rfl rfl (argsM m c).e2 hr.e2 (argsM m c).d3 hr.d3 _ _ _ _ (view8_0 m ρ c hr) (view8_1 m ρ c hr) (view8_2 m ρ c hr) (fold8 m ρ c) 0 1 b i j o i' j' hi hj

theorem ph8_2 (hr : (argsM m c).Real) (b : Fin 8) (i j : Fin 128) (o : Fin 64) (i' j' : Fin 256) (hi : i'.val = 2 * i.val + 1) (hj : j'.val = 2 * j.val + 0) :
    (W30 m ρ c (Proc.devRef .tc main_v210_2) : A4 8 128 128 64) (ix4 b i j o) = (argsM m c).e3 b i' j' o := by
  have e : (W30 m ρ c (Proc.devRef .tc main_v210_2) : FVec Ideal S8x128x128x64 .f32) = _ := (W30_arr m ρ c 6).trans (final8_6 (V29 m ρ) c)
  refine (congrFun e (ix4 b i j o)).trans ?_
  exact upK_eq rfl rfl rfl (argsM m c).e2 hr.e2 (argsM m c).d3 hr.d3 _ _ _ _ (view8_0 m ρ c hr) (view8_1 m ρ c hr) (view8_2 m ρ c hr) (fold8 m ρ c) 1 0 b i j o i' j' hi hj

theorem ph8_3 (hr : (argsM m c).Real) (b : Fin 8) (i j : Fin 128) (o : Fin 64) (i' j' : Fin 256) (hi : i'.val = 2 * i.val + 1) (hj : j'.val = 2 * j.val + 1) :
    (W30 m ρ c (Proc.devRef .tc main_v210_3) : A4 8 128 128 64) (ix4 b i j o) = (argsM m c).e3 b i' j' o := by
  have e : (W30 m ρ c (Proc.devRef .tc main_v210_3) : FVec Ideal S8x128x128x64 .f32) = _ := (W30_arr m ρ c 7).trans (final8_7 (V29 m ρ) c)
  refine (congrFun e (ix4 b i j o)).trans ?_
  exact upK_eq rfl rfl rfl (argsM m c).e2 hr.e2 (argsM m c).d3 hr.d3 _ _ _ _ (view8_0 m ρ c hr) (view8_1 m ρ c hr) (view8_2 m ρ c hr) (fold8 m ρ c) 1 1 b i j o i' j' hi hj

theorem e3_eq (hr : (argsM m c).Real) : nhwc (W32 m ρ c (Proc.devRef .tc main_v220) : A4 8 256 256 64) = (argsM m c).e3 := by
  funext b i j o
  refine (read_v220 (W30 m ρ c) b i j o).trans ?_
  split
  · split
    · exact ph8_0 m ρ c hr b _ _ o i j (by simp only []; omega) (by simp only []; omega)
    · exact ph8_1 m ρ c hr b _ _ o i j (by simp only []; omega) (by simp only []; omega)
  · split
    · exact ph8_2 m ρ c hr b _ _ o i j (by simp only []; omega) (by simp only []; omega)
    · exact ph8_3 m ρ c hr b _ _ o i j (by simp only []; omega) (by simp only []; omega)

theorem view9_0 (hr : (argsM m c).Real) (b : Fin 8) (h : Fin 256) (u : Fin 258) (k : Fin 64) :
    (W35 m ρ c (Proc.devRef .tc main_v225) : A4 8 256 258 64) (ix4 b h u k) = padf (argsM m c).e3 b h.val u.val k := by
  exact (read_v225 (W32 m ρ c) b h u k).trans (by rw [e3_eq m ρ c hr])

theorem view9_1 (hr : (argsM m c).Real) (b : Fin 8) (h : Fin 256) (u : Fin 258) (k : Fin 64) :
    (W35 m ρ c (Proc.devRef .tc main_v226) : A4 8 256 258 64) (ix4 b h u k) = padf (argsM m c).e3 b (h.val + 1) u.val k := by
  exact (read_v226 (W32 m ρ c) b h u k).trans (by rw [e3_eq m ρ c hr])

theorem view9_2 (hr : (argsM m c).Real) (b : Fin 8) (h : Fin 256) (u : Fin 258) (k : Fin 64) :
    (W35 m ρ c (Proc.devRef .tc main_v227) : A4 8 256 258 64) (ix4 b h u k) = padf (argsM m c).e3 b (h.val + 2) u.val k := by
  exact (read_v227 (W32 m ρ c) b h u k).trans (by rw [e3_eq m ρ c hr])

theorem onset_eq (hr : (argsM m c).Real) : nchw (W37 m ρ c (Proc.devRef .tc main_v230) : A4 8 2 256 256) = (argsM m c).onset := by
  have e : (W36 m ρ c (Proc.devRef .tc main_v228) : FVec Ideal S8x256x256x8 .f32) = _ := (W36_arr m ρ c 4).trans (final9 (V35 m ρ) c)
  have ha : (W30 m ρ c (Proc.devRef .tc main_arg10) : A4 2 64 3 3) = (argsM m c).won := W30_args m ρ c main_arg10 (by decide)
  funext b i j o
  refine (read_v230 (W36 m ρ c) b o i j).trans ((congrFun e _).trans ?_)
  refine conv3K_eq rfl (argsM m c).e3 _ _ _ _ (view9_0 m ρ c hr) (view9_1 m ρ c hr) (view9_2 m ρ c hr) o.val o.val (by omega) (argsM m c).won o.isLt
    (fun r s k => ?_) b i j
  exact (read_v223_0 (W30 m ρ c) r s k o).trans (congrFun ha _)

theorem duration_eq (hr : (argsM m c).Real) : nchw (W37 m ρ c (Proc.devRef .tc main_v232) : A4 8 2 256 256) = (argsM m c).duration := by
  have e : (W36 m ρ c (Proc.devRef .tc main_v228) : FVec Ideal S8x256x256x8 .f32) = _ := (W36_arr m ρ c 4).trans (final9 (V35 m ρ) c)
  have ha : (W30 m ρ c (Proc.devRef .tc main_arg11) : A4 2 64 3 3) = (argsM m c).wdu := W30_args m ρ c main_arg11 (by decide)
  funext b i j o
  refine (read_v232 (W36 m ρ c) b o i j).trans ((congrFun e _).trans ?_)
  refine conv3K_eq rfl (argsM m c).e3 _ _ _ _ (view9_0 m ρ c hr) (view9_1 m ρ c hr) (view9_2 m ρ c hr) (o.val + 2) o.val (by omega) (argsM m c).wdu o.isLt
    (fun r s k => ?_) b i j
  exact (read_v223_1 (W30 m ρ c) r s k o).trans (congrFun ha _)

theorem kept_v39 : W37 m ρ c (Proc.devRef .tc main_v39) = W17 m ρ c (Proc.devRef .tc main_v39) :=
  (W37_of m ρ c main_v39 (by decide +kernel)).trans <|
  (W36_of m ρ c main_v39 (by decide +kernel)).trans <|
  (W35_of m ρ c main_v39 (by decide +kernel)).trans <|
  (W34_of m ρ c main_v39 (by decide +kernel)).trans <|
  (W33_of m ρ c main_v39 (by decide +kernel)).trans <|
  (W32_of m ρ c main_v39 (by decide +kernel)).trans <|
  (W31_of m ρ c main_v39 (by decide +kernel)).trans <|
  (W30_of m ρ c main_v39 (by decide +kernel)).trans <|
  (W29_of m ρ c main_v39 (by decide +kernel)).trans <|
  (W28_of m ρ c main_v39 (by decide +kernel)).trans <|
  (W27_of m ρ c main_v39 (by decide +kernel)).trans <|
  (W26_of m ρ c main_v39 (by decide +kernel)).trans <|
  (W25_of m ρ c main_v39 (by decide +kernel)).trans <|
  (W24_of m ρ c main_v39 (by decide +kernel)).trans <|
  (W23_of m ρ c main_v39 (by decide +kernel)).trans <|
  (W22_of m ρ c main_v39 (by decide +kernel)).trans <|
  (W21_of m ρ c main_v39 (by decide +kernel)).trans <|
  (W20_of m ρ c main_v39 (by decide +kernel)).trans <|
  (W19_of m ρ c main_v39 (by decide +kernel)).trans <|
  W18_of m ρ c main_v39 (by decide +kernel)

theorem commit_eq (hr : (argsM m c).Real) : (W37 m ρ c (Proc.devRef .tc main_v39) : FVec Ideal S_ .f32) ix0
    = Ideal.div (argsM m c).err (Ideal.ofBits .f32 1258291200#32) + Ideal.ofBits .f32 1048576000#32 * Ideal.div (argsM m c).err (Ideal.ofBits .f32 1258291200#32) := by
  refine (congrFun (kept_v39 m ρ c) ix0).trans ((read_v39 (W16 m ρ c)).trans ?_)
  rw [sums_eq]
  exact five_quarters hr.err

end Cert.Proof.Kern

end
-- ==== Proof.Same.lean ====
module

public import proofs.«01_k».proof.Proof.RefChain
public import proofs.«01_k».proof.Proof.KChainC

/-! The two programs, from equal arguments, end with equal results. -/

@[expose] public section

set_option maxRecDepth 16384

noncomputable section

namespace Cert.Proof

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- Equal images, equal arrays. -/
theorem nchw_inj {H W C : ℕ} {X Y : A4 8 C H W} (h : nchw X = nchw Y) : X = Y := funext fun i => by
  rw [eq_ix4 i]; exact congrFun (congrFun (congrFun (congrFun h (i 0)) (i 2)) (i 3)) (i 1)

/-- Arguments with equal fields are equal. -/
theorem args_congr {a b : Args} (h0 : a.x = b.x) (h1 : a.w1 = b.w1) (h2 : a.w2 = b.w2) (h3 : a.w3 = b.w3) (h4 : a.wq = b.wq) (h5 : a.cb = b.cb)
    (h6 : a.wp = b.wp) (h7 : a.d1 = b.d1) (h8 : a.d2 = b.d2) (h9 : a.d3 = b.d3) (h10 : a.won = b.won) (h11 : a.wdu = b.wdu) : a = b := by
  cases a; cases b; simp only at h0 h1 h2 h3 h4 h5 h6 h7 h8 h9 h10 h11; subst_vars; rfl

/-- On a device, the two programs hold the same argument arrays. -/
abbrev SameArgs : Prop :=
  @Eq (A4 8 2 256 256) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg0))
  ∧ @Eq (A4 128 2 4 4) (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg1))
  ∧ @Eq (A4 256 128 4 4) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg2))
  ∧ @Eq (A4 256 256 3 3) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg3))
  ∧ @Eq (A4 256 256 1 1) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg4))
  ∧ @Eq (FVec Ideal ⟨2, ![1024, 256]⟩ .f32) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg5))
  ∧ @Eq (A4 256 256 1 1) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg6))
  ∧ @Eq (A4 256 256 3 3) (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg7))
  ∧ @Eq (A4 128 256 3 3) (m' ((c.tc : Thread Cert.ReferenceIdeal.nD Cert.ReferenceIdeal.τ).loc Cert.ReferenceIdeal.main_arg8)) (m ((c.tc : Thread Cert.KernelIdeal.nD Cert.KernelIdeal.τ).loc Cert.KernelIdeal.main_arg8))
  ∧ @Eq (A4 64 128 3 3) (m' ((c.tc : Thread Cert.ReferenceIdeal.nD Cert.ReferenceIdeal.τ).loc Cert.ReferenceIdeal.main_arg9)) (m ((c.tc : Thread Cert.KernelIdeal.nD Cert.KernelIdeal.τ).loc Cert.KernelIdeal.main_arg9))
  ∧ @Eq (A4 2 64 3 3) (m' ((c.tc : Thread Cert.ReferenceIdeal.nD Cert.ReferenceIdeal.τ).loc Cert.ReferenceIdeal.main_arg10)) (m ((c.tc : Thread Cert.KernelIdeal.nD Cert.KernelIdeal.τ).loc Cert.KernelIdeal.main_arg10))
  ∧ @Eq (A4 2 64 3 3) (m' ((c.tc : Thread Cert.ReferenceIdeal.nD Cert.ReferenceIdeal.τ).loc Cert.ReferenceIdeal.main_arg11)) (m ((c.tc : Thread Cert.KernelIdeal.nD Cert.KernelIdeal.τ).loc Cert.KernelIdeal.main_arg11))

theorem ref_arg0 : @Eq (A4 8 2 256 256) (Ref.argsOf (launchContents m' c)).x (m' ((c.tc : Thread Cert.ReferenceIdeal.nD Cert.ReferenceIdeal.τ).loc Cert.ReferenceIdeal.main_arg0)) := rfl
theorem kern_arg0 : @Eq (A4 8 2 256 256) (Kern.argsM m c).x (m ((c.tc : Thread Cert.KernelIdeal.nD Cert.KernelIdeal.τ).loc Cert.KernelIdeal.main_arg0)) := rfl
theorem ref_arg1 : @Eq (A4 128 2 4 4) (Ref.argsOf (launchContents m' c)).w1 (m' ((c.tc : Thread Cert.ReferenceIdeal.nD Cert.ReferenceIdeal.τ).loc Cert.ReferenceIdeal.main_arg1)) := rfl
theorem kern_arg1 : @Eq (A4 128 2 4 4) (Kern.argsM m c).w1 (m ((c.tc : Thread Cert.KernelIdeal.nD Cert.KernelIdeal.τ).loc Cert.KernelIdeal.main_arg1)) := rfl
theorem ref_arg2 : @Eq (A4 256 128 4 4) (Ref.argsOf (launchContents m' c)).w2 (m' ((c.tc : Thread Cert.ReferenceIdeal.nD Cert.ReferenceIdeal.τ).loc Cert.ReferenceIdeal.main_arg2)) := rfl
theorem kern_arg2 : @Eq (A4 256 128 4 4) (Kern.argsM m c).w2 (m ((c.tc : Thread Cert.KernelIdeal.nD Cert.KernelIdeal.τ).loc Cert.KernelIdeal.main_arg2)) := rfl
theorem ref_arg3 : @Eq (A4 256 256 3 3) (Ref.argsOf (launchContents m' c)).w3 (m' ((c.tc : Thread Cert.ReferenceIdeal.nD Cert.ReferenceIdeal.τ).loc Cert.ReferenceIdeal.main_arg3)) := rfl
theorem kern_arg3 : @Eq (A4 256 256 3 3) (Kern.argsM m c).w3 (m ((c.tc : Thread Cert.KernelIdeal.nD Cert.KernelIdeal.τ).loc Cert.KernelIdeal.main_arg3)) := rfl
theorem ref_arg4 : @Eq (A4 256 256 1 1) (Ref.argsOf (launchContents m' c)).wq (m' ((c.tc : Thread Cert.ReferenceIdeal.nD Cert.ReferenceIdeal.τ).loc Cert.ReferenceIdeal.main_arg4)) := rfl
theorem kern_arg4 : @Eq (A4 256 256 1 1) (Kern.argsM m c).wq (m ((c.tc : Thread Cert.KernelIdeal.nD Cert.KernelIdeal.τ).loc Cert.KernelIdeal.main_arg4)) := rfl
theorem ref_arg5 : @Eq (FVec Ideal ⟨2, ![1024, 256]⟩ .f32) (Ref.argsOf (launchContents m' c)).cb (m' ((c.tc : Thread Cert.ReferenceIdeal.nD Cert.ReferenceIdeal.τ).loc Cert.ReferenceIdeal.main_arg5)) := rfl
theorem kern_arg5 : @Eq (FVec Ideal ⟨2, ![1024, 256]⟩ .f32) (Kern.argsM m c).cb (m ((c.tc : Thread Cert.KernelIdeal.nD Cert.KernelIdeal.τ).loc Cert.KernelIdeal.main_arg5)) := rfl
theorem ref_arg6 : @Eq (A4 256 256 1 1) (Ref.argsOf (launchContents m' c)).wp (m' ((c.tc : Thread Cert.ReferenceIdeal.nD Cert.ReferenceIdeal.τ).loc Cert.ReferenceIdeal.main_arg6)) := rfl
theorem kern_arg6 : @Eq (A4 256 256 1 1) (Kern.argsM m c).wp (m ((c.tc : Thread Cert.KernelIdeal.nD Cert.KernelIdeal.τ).loc Cert.KernelIdeal.main_arg6)) := rfl
theorem ref_arg7 : @Eq (A4 256 256 3 3) (Ref.argsOf (launchContents m' c)).d1 (m' ((c.tc : Thread Cert.ReferenceIdeal.nD Cert.ReferenceIdeal.τ).loc Cert.ReferenceIdeal.main_arg7)) := rfl
theorem kern_arg7 : @Eq (A4 256 256 3 3) (Kern.argsM m c).d1 (m ((c.tc : Thread Cert.KernelIdeal.nD Cert.KernelIdeal.τ).loc Cert.KernelIdeal.main_arg7)) := rfl
theorem ref_arg8 : @Eq (A4 128 256 3 3) (Ref.argsOf (launchContents m' c)).d2 (m' ((c.tc : Thread Cert.ReferenceIdeal.nD Cert.ReferenceIdeal.τ).loc Cert.ReferenceIdeal.main_arg8)) := rfl
theorem kern_arg8 : @Eq (A4 128 256 3 3) (Kern.argsM m c).d2 (m ((c.tc : Thread Cert.KernelIdeal.nD Cert.KernelIdeal.τ).loc Cert.KernelIdeal.main_arg8)) := rfl
theorem ref_arg9 : @Eq (A4 64 128 3 3) (Ref.argsOf (launchContents m' c)).d3 (m' ((c.tc : Thread Cert.ReferenceIdeal.nD Cert.ReferenceIdeal.τ).loc Cert.ReferenceIdeal.main_arg9)) := rfl
theorem kern_arg9 : @Eq (A4 64 128 3 3) (Kern.argsM m c).d3 (m ((c.tc : Thread Cert.KernelIdeal.nD Cert.KernelIdeal.τ).loc Cert.KernelIdeal.main_arg9)) := rfl
theorem ref_arg10 : @Eq (A4 2 64 3 3) (Ref.argsOf (launchContents m' c)).won (m' ((c.tc : Thread Cert.ReferenceIdeal.nD Cert.ReferenceIdeal.τ).loc Cert.ReferenceIdeal.main_arg10)) := rfl
theorem kern_arg10 : @Eq (A4 2 64 3 3) (Kern.argsM m c).won (m ((c.tc : Thread Cert.KernelIdeal.nD Cert.KernelIdeal.τ).loc Cert.KernelIdeal.main_arg10)) := rfl
theorem ref_arg11 : @Eq (A4 2 64 3 3) (Ref.argsOf (launchContents m' c)).wdu (m' ((c.tc : Thread Cert.ReferenceIdeal.nD Cert.ReferenceIdeal.τ).loc Cert.ReferenceIdeal.main_arg11)) := rfl
theorem kern_arg11 : @Eq (A4 2 64 3 3) (Kern.argsM m c).wdu (m ((c.tc : Thread Cert.KernelIdeal.nD Cert.KernelIdeal.τ).loc Cert.KernelIdeal.main_arg11)) := rfl

/-- Where the argument arrays agree, the two programs' arguments are the same. -/
theorem args_same (h : SameArgs m m' c) : Ref.argsOf (launchContents m' c) = Kern.argsM m c := by
  obtain ⟨a0, a1, a2, a3, a4, a5, a6, a7, a8, a9, a10, a11⟩ := h
  exact args_congr ((ref_arg0 m' c).trans (a0.trans (kern_arg0 m c).symm))
    ((ref_arg1 m' c).trans (a1.trans (kern_arg1 m c).symm))
    ((ref_arg2 m' c).trans (a2.trans (kern_arg2 m c).symm))
    ((ref_arg3 m' c).trans (a3.trans (kern_arg3 m c).symm))
    ((ref_arg4 m' c).trans (a4.trans (kern_arg4 m c).symm))
    ((ref_arg5 m' c).trans (a5.trans (kern_arg5 m c).symm))
    ((ref_arg6 m' c).trans (a6.trans (kern_arg6 m c).symm))
    ((ref_arg7 m' c).trans (a7.trans (kern_arg7 m c).symm))
    ((ref_arg8 m' c).trans (a8.trans (kern_arg8 m c).symm))
    ((ref_arg9 m' c).trans (a9.trans (kern_arg9 m c).symm))
    ((ref_arg10 m' c).trans (a10.trans (kern_arg10 m c).symm))
    ((ref_arg11 m' c).trans (a11.trans (kern_arg11 m c).symm))

section
variable (e : Ref.argsOf (launchContents m' c) = Kern.argsM m c) (hr : (Kern.argsM m c).Real)
include e hr

theorem onset_same : @Eq (A4 8 2 256 256) (Ref.U16 (launchContents m' c) (Proc.devRef .tc Cert.ReferenceIdeal.main_v437))
    (Cert.KernelIdeal.Gen.W37 m ρ c (Proc.devRef .tc Cert.KernelIdeal.main_v230)) :=
  nchw_inj (((Ref.onset_eq _ (e ▸ hr)).trans (congrArg Args.onset e)).trans (Kern.onset_eq m ρ c hr).symm)

theorem duration_same : @Eq (A4 8 2 256 256) (Ref.U16 (launchContents m' c) (Proc.devRef .tc Cert.ReferenceIdeal.main_v483))
    (Cert.KernelIdeal.Gen.W37 m ρ c (Proc.devRef .tc Cert.KernelIdeal.main_v232)) :=
  nchw_inj (((Ref.duration_eq _ (e ▸ hr)).trans (congrArg Args.duration e)).trans (Kern.duration_eq m ρ c hr).symm)

theorem commit_same : @Eq (FVec Ideal ⟨0, ![]⟩ .f32) (Ref.U16 (launchContents m' c) (Proc.devRef .tc Cert.ReferenceIdeal.main_v238))
    (Cert.KernelIdeal.Gen.W37 m ρ c (Proc.devRef .tc Cert.KernelIdeal.main_v39)) := funext fun i => by
  obtain rfl : i = ix0 := funext fun a => a.elim0
  refine (Ref.commit_eq (launchContents m' c)).trans (Eq.trans ?_ (Kern.commit_eq m ρ c hr).symm)
  rw [e]

end

end Cert.Proof

end
-- ==== Proof.Agree.lean ====
module

public import proofs.«01_k».proof.Proof.RefEnd
public import proofs.«01_k».proof.Proof.KernelEnd
public import proofs.«01_k».proof.Proof.Same

/-! From finite and equal arguments both programs run, to equal results. -/

@[expose] public section

set_option maxRecDepth 16384

noncomputable section

namespace Cert.Proof

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ) (g' : Dev Cert.ReferenceIdeal.nD → PrngReg)

/-- The reference's run, its results named by the kernel's. -/
theorem ref_run (hr : ∀ c, (Kern.argsM m c).Real) (ha : ∀ c : Dev Cert.KernelIdeal.nD, SameArgs m m' c) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
        @Eq (A4 8 2 256 256) (r.2.mem ((c.tc : Thread Cert.ReferenceIdeal.nD Cert.ReferenceIdeal.τ).loc Cert.ReferenceIdeal.main_v437)) (Cert.KernelIdeal.Gen.W37 m g c (Proc.devRef .tc Cert.KernelIdeal.main_v230))
        ∧ @Eq (A4 8 2 256 256) (r.2.mem ((c.tc : Thread Cert.ReferenceIdeal.nD Cert.ReferenceIdeal.τ).loc Cert.ReferenceIdeal.main_v483)) (Cert.KernelIdeal.Gen.W37 m g c (Proc.devRef .tc Cert.KernelIdeal.main_v232))
        ∧ @Eq (FVec Ideal ⟨0, ![]⟩ .f32) (r.2.mem ((c.tc : Thread Cert.ReferenceIdeal.nD Cert.ReferenceIdeal.τ).loc Cert.ReferenceIdeal.main_v238)) (Cert.KernelIdeal.Gen.W37 m g c (Proc.devRef .tc Cert.KernelIdeal.main_v39))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)) := by
  refine (θ_run _ _ _).mono ?_ (Ref.run_results m' g')
  intro r h c
  exact ⟨(h c).1.trans (onset_same m g m' c (args_same m m' c (ha c)) (hr c)), (h c).2.1.trans (duration_same m g m' c (args_same m m' c (ha c)) (hr c)),
    (h c).2.2.1.trans (commit_same m g m' c (args_same m m' c (ha c)) (hr c)), (h c).2.2.2⟩

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Pre
public import proofs.«01_k».proof.Proof.RefEnd
public import proofs.«01_k».proof.Proof.KernelEnd
public import proofs.«01_k».proof.Proof.Agree

/-! The claims, from the two programs' runs. -/

@[expose] public section

set_option maxRecDepth 16384
set_option maxHeartbeats 400000000

noncomputable section

namespace Cert.Proof

open Idealize.ShloMosaic Idealize.ShloMosaic.TcCoe Idealize.SL.Sem

/-- The kernel, the kernel with ideal arithmetic and the reference end as the frames say. -/
theorem frame_kernel : @Cert.quiescent_Kernel Cert.Kernel.Gen.facts := fun m g _ => Cert.Kernel.Gen.frame m g
theorem frame_ideal : @Cert.quiescent_KernelIdeal Cert.KernelIdeal.Gen.facts := fun m g _ => Cert.KernelIdeal.Gen.frame m g
theorem frame_ideal_finite : @Cert.quiescent_KernelIdeal_pre_finite Cert.KernelIdeal.Gen.facts facts_pre := fun m g _ => Cert.KernelIdeal.Gen.frame m g
theorem frame_reference : @Cert.quiescent_ReferenceIdeal Cert.ReferenceIdeal.Gen.facts := fun m g _ => Ref.run_frame m g
theorem frame_reference_finite : @Cert.quiescent_ReferenceIdeal_pre_finite Cert.ReferenceIdeal.Gen.facts facts_pre := fun m g _ => Ref.run_frame m g

/-- From finite arguments the kernel computes what the reference computes. -/
theorem agree : @Cert.algebraic_KernelIdeal_ReferenceIdeal_pre_finite Cert.KernelIdeal.Gen.facts Cert.ReferenceIdeal.Gen.facts facts_pre :=
  fun m g m' g' hp (ha : ∀ c, SameArgs m m' c) =>
    ⟨fun c => Cert.KernelIdeal.Gen.W37 m g c (Proc.devRef .tc Cert.KernelIdeal.main_v230),
     fun c => Cert.KernelIdeal.Gen.W37 m g c (Proc.devRef .tc Cert.KernelIdeal.main_v232),
     fun c => Cert.KernelIdeal.Gen.W37 m g c (Proc.devRef .tc Cert.KernelIdeal.main_v39),
     Kern.run_results m g, ref_run m g m' g' (fun c => args_real m c (hp c)) ha⟩

theorem claim : Cert.Claim :=
  ⟨Cert.Kernel.Gen.facts, Cert.KernelIdeal.Gen.facts, Cert.ReferenceIdeal.Gen.facts, facts_pre,
    frame_kernel, frame_ideal, frame_ideal_finite, frame_reference, frame_reference_finite, trivial, agree⟩

end Cert.Proof

end
